-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_unit_box [hPre_unit_box : Cert.Pre_unit_box.Facts] (m : (ℓ : Loc Cert.KernelIdeal.nD Cert.KernelIdeal.τ Cert.KernelIdeal.sig) → Buf (Elt Ideal) ℓ) : Prop :=
  ∀ c : Dev Cert.KernelIdeal.nD,
    (Cert.Pre_unit_box.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal (m : (ℓ : Loc Cert.ReferenceIdeal.nD Cert.ReferenceIdeal.τ Cert.ReferenceIdeal.sig) → Buf (Elt Ideal) ℓ) : Prop :=
  True

def Pre_SplinesIdeal (m : (ℓ : Loc Cert.SplinesIdeal.nD Cert.SplinesIdeal.τ Cert.SplinesIdeal.sig) → Buf (Elt Ideal) ℓ) : Prop :=
  True

def Pre_SplinesIdeal_unit_box [hPre_unit_box : Cert.Pre_unit_box.Facts] (m : (ℓ : Loc Cert.SplinesIdeal.nD Cert.SplinesIdeal.τ Cert.SplinesIdeal.sig) → Buf (Elt Ideal) ℓ) : Prop :=
  ∀ c : Dev Cert.SplinesIdeal.nD,
    (Cert.Pre_unit_box.fn (F := Ideal) (m ((c.tc : Thread Cert.SplinesIdeal.nD Cert.SplinesIdeal.τ).loc Cert.SplinesIdeal.main_arg0)) (m ((c.tc : Thread Cert.SplinesIdeal.nD Cert.SplinesIdeal.τ).loc Cert.SplinesIdeal.main_arg1)) (m ((c.tc : Thread Cert.SplinesIdeal.nD Cert.SplinesIdeal.τ).loc Cert.SplinesIdeal.main_arg2)) (m ((c.tc : Thread Cert.SplinesIdeal.nD Cert.SplinesIdeal.τ).loc Cert.SplinesIdeal.main_arg3)) (m ((c.tc : Thread Cert.SplinesIdeal.nD Cert.SplinesIdeal.τ).loc Cert.SplinesIdeal.main_arg4)) (m ((c.tc : Thread Cert.SplinesIdeal.nD Cert.SplinesIdeal.τ).loc Cert.SplinesIdeal.main_arg5)) (m ((c.tc : Thread Cert.SplinesIdeal.nD Cert.SplinesIdeal.τ).loc Cert.SplinesIdeal.main_arg6)) (m ((c.tc : Thread Cert.SplinesIdeal.nD Cert.SplinesIdeal.τ).loc Cert.SplinesIdeal.main_arg7)) (m ((c.tc : Thread Cert.SplinesIdeal.nD Cert.SplinesIdeal.τ).loc Cert.SplinesIdeal.main_arg8)) (m ((c.tc : Thread Cert.SplinesIdeal.nD Cert.SplinesIdeal.τ).loc Cert.SplinesIdeal.main_arg9)) (m ((c.tc : Thread Cert.SplinesIdeal.nD Cert.SplinesIdeal.τ).loc Cert.SplinesIdeal.main_arg10)) (m ((c.tc : Thread Cert.SplinesIdeal.nD Cert.SplinesIdeal.τ).loc Cert.SplinesIdeal.main_arg11)) (m ((c.tc : Thread Cert.SplinesIdeal.nD Cert.SplinesIdeal.τ).loc Cert.SplinesIdeal.main_arg12)) (m ((c.tc : Thread Cert.SplinesIdeal.nD Cert.SplinesIdeal.τ).loc Cert.SplinesIdeal.main_arg13)) (m ((c.tc : Thread Cert.SplinesIdeal.nD Cert.SplinesIdeal.τ).loc Cert.SplinesIdeal.main_arg14)) (m ((c.tc : Thread Cert.SplinesIdeal.nD Cert.SplinesIdeal.τ).loc Cert.SplinesIdeal.main_arg15)) (m ((c.tc : Thread Cert.SplinesIdeal.nD Cert.SplinesIdeal.τ).loc Cert.SplinesIdeal.main_arg16)) (m ((c.tc : Thread Cert.SplinesIdeal.nD Cert.SplinesIdeal.τ).loc Cert.SplinesIdeal.main_arg17))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_KernelIdeal_pre_unit_box [hKernelIdeal : Cert.KernelIdeal.Facts] [hPre_unit_box : Cert.Pre_unit_box.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_unit_box m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def quiescent_SplinesIdeal [hSplinesIdeal : Cert.SplinesIdeal.Facts] : Prop :=
  ∀ (m : (ℓ : Loc Cert.SplinesIdeal.nD Cert.SplinesIdeal.τ Cert.SplinesIdeal.sig) → Buf (Elt Ideal) ℓ) (g : Dev Cert.SplinesIdeal.nD → PrngReg), Pre_SplinesIdeal m →
    θ_run (Cert.SplinesIdeal.defs (F := Ideal)) (onTc (τ := Cert.SplinesIdeal.τ) (Cert.SplinesIdeal.main (F := Ideal))) ⟨m, fun _ => 0, g⟩ (fun r => (∀ c : Dev Cert.SplinesIdeal.nD,
      r.2.mem ((c.tc : Thread Cert.SplinesIdeal.nD Cert.SplinesIdeal.τ).loc Cert.SplinesIdeal.main_arg0) = m ((c.tc : Thread Cert.SplinesIdeal.nD Cert.SplinesIdeal.τ).loc Cert.SplinesIdeal.main_arg0)
      ∧ r.2.mem ((c.tc : Thread Cert.SplinesIdeal.nD Cert.SplinesIdeal.τ).loc Cert.SplinesIdeal.main_arg1) = m ((c.tc : Thread Cert.SplinesIdeal.nD Cert.SplinesIdeal.τ).loc Cert.SplinesIdeal.main_arg1)
      ∧ r.2.mem ((c.tc : Thread Cert.SplinesIdeal.nD Cert.SplinesIdeal.τ).loc Cert.SplinesIdeal.main_arg2) = m ((c.tc : Thread Cert.SplinesIdeal.nD Cert.SplinesIdeal.τ).loc Cert.SplinesIdeal.main_arg2)
      ∧ r.2.mem ((c.tc : Thread Cert.SplinesIdeal.nD Cert.SplinesIdeal.τ).loc Cert.SplinesIdeal.main_arg3) = m ((c.tc : Thread Cert.SplinesIdeal.nD Cert.SplinesIdeal.τ).loc Cert.SplinesIdeal.main_arg3)
      ∧ r.2.mem ((c.tc : Thread Cert.SplinesIdeal.nD Cert.SplinesIdeal.τ).loc Cert.SplinesIdeal.main_arg4) = m ((c.tc : Thread Cert.SplinesIdeal.nD Cert.SplinesIdeal.τ).loc Cert.SplinesIdeal.main_arg4)
      ∧ r.2.mem ((c.tc : Thread Cert.SplinesIdeal.nD Cert.SplinesIdeal.τ).loc Cert.SplinesIdeal.main_arg5) = m ((c.tc : Thread Cert.SplinesIdeal.nD Cert.SplinesIdeal.τ).loc Cert.SplinesIdeal.main_arg5)
      ∧ r.2.mem ((c.tc : Thread Cert.SplinesIdeal.nD Cert.SplinesIdeal.τ).loc Cert.SplinesIdeal.main_arg6) = m ((c.tc : Thread Cert.SplinesIdeal.nD Cert.SplinesIdeal.τ).loc Cert.SplinesIdeal.main_arg6)
      ∧ r.2.mem ((c.tc : Thread Cert.SplinesIdeal.nD Cert.SplinesIdeal.τ).loc Cert.SplinesIdeal.main_arg7) = m ((c.tc : Thread Cert.SplinesIdeal.nD Cert.SplinesIdeal.τ).loc Cert.SplinesIdeal.main_arg7)
      ∧ r.2.mem ((c.tc : Thread Cert.SplinesIdeal.nD Cert.SplinesIdeal.τ).loc Cert.SplinesIdeal.main_arg8) = m ((c.tc : Thread Cert.SplinesIdeal.nD Cert.SplinesIdeal.τ).loc Cert.SplinesIdeal.main_arg8)
      ∧ r.2.mem ((c.tc : Thread Cert.SplinesIdeal.nD Cert.SplinesIdeal.τ).loc Cert.SplinesIdeal.main_arg9) = m ((c.tc : Thread Cert.SplinesIdeal.nD Cert.SplinesIdeal.τ).loc Cert.SplinesIdeal.main_arg9)
      ∧ r.2.mem ((c.tc : Thread Cert.SplinesIdeal.nD Cert.SplinesIdeal.τ).loc Cert.SplinesIdeal.main_arg10) = m ((c.tc : Thread Cert.SplinesIdeal.nD Cert.SplinesIdeal.τ).loc Cert.SplinesIdeal.main_arg10)
      ∧ r.2.mem ((c.tc : Thread Cert.SplinesIdeal.nD Cert.SplinesIdeal.τ).loc Cert.SplinesIdeal.main_arg11) = m ((c.tc : Thread Cert.SplinesIdeal.nD Cert.SplinesIdeal.τ).loc Cert.SplinesIdeal.main_arg11)
      ∧ r.2.mem ((c.tc : Thread Cert.SplinesIdeal.nD Cert.SplinesIdeal.τ).loc Cert.SplinesIdeal.main_arg12) = m ((c.tc : Thread Cert.SplinesIdeal.nD Cert.SplinesIdeal.τ).loc Cert.SplinesIdeal.main_arg12)
      ∧ r.2.mem ((c.tc : Thread Cert.SplinesIdeal.nD Cert.SplinesIdeal.τ).loc Cert.SplinesIdeal.main_arg13) = m ((c.tc : Thread Cert.SplinesIdeal.nD Cert.SplinesIdeal.τ).loc Cert.SplinesIdeal.main_arg13)
      ∧ r.2.mem ((c.tc : Thread Cert.SplinesIdeal.nD Cert.SplinesIdeal.τ).loc Cert.SplinesIdeal.main_arg14) = m ((c.tc : Thread Cert.SplinesIdeal.nD Cert.SplinesIdeal.τ).loc Cert.SplinesIdeal.main_arg14)
      ∧ r.2.mem ((c.tc : Thread Cert.SplinesIdeal.nD Cert.SplinesIdeal.τ).loc Cert.SplinesIdeal.main_arg15) = m ((c.tc : Thread Cert.SplinesIdeal.nD Cert.SplinesIdeal.τ).loc Cert.SplinesIdeal.main_arg15)
      ∧ r.2.mem ((c.tc : Thread Cert.SplinesIdeal.nD Cert.SplinesIdeal.τ).loc Cert.SplinesIdeal.main_arg16) = m ((c.tc : Thread Cert.SplinesIdeal.nD Cert.SplinesIdeal.τ).loc Cert.SplinesIdeal.main_arg16)
      ∧ r.2.mem ((c.tc : Thread Cert.SplinesIdeal.nD Cert.SplinesIdeal.τ).loc Cert.SplinesIdeal.main_arg17) = m ((c.tc : Thread Cert.SplinesIdeal.nD Cert.SplinesIdeal.τ).loc Cert.SplinesIdeal.main_arg17))
      ∧ r.2.sem = fun _ => 0)

def quiescent_SplinesIdeal_pre_unit_box [hSplinesIdeal : Cert.SplinesIdeal.Facts] [hPre_unit_box : Cert.Pre_unit_box.Facts] : Prop :=
  ∀ (m : (ℓ : Loc Cert.SplinesIdeal.nD Cert.SplinesIdeal.τ Cert.SplinesIdeal.sig) → Buf (Elt Ideal) ℓ) (g : Dev Cert.SplinesIdeal.nD → PrngReg), Pre_SplinesIdeal_unit_box m →
    θ_run (Cert.SplinesIdeal.defs (F := Ideal)) (onTc (τ := Cert.SplinesIdeal.τ) (Cert.SplinesIdeal.main (F := Ideal))) ⟨m, fun _ => 0, g⟩ (fun r => (∀ c : Dev Cert.SplinesIdeal.nD,
      r.2.mem ((c.tc : Thread Cert.SplinesIdeal.nD Cert.SplinesIdeal.τ).loc Cert.SplinesIdeal.main_arg0) = m ((c.tc : Thread Cert.SplinesIdeal.nD Cert.SplinesIdeal.τ).loc Cert.SplinesIdeal.main_arg0)
      ∧ r.2.mem ((c.tc : Thread Cert.SplinesIdeal.nD Cert.SplinesIdeal.τ).loc Cert.SplinesIdeal.main_arg1) = m ((c.tc : Thread Cert.SplinesIdeal.nD Cert.SplinesIdeal.τ).loc Cert.SplinesIdeal.main_arg1)
      ∧ r.2.mem ((c.tc : Thread Cert.SplinesIdeal.nD Cert.SplinesIdeal.τ).loc Cert.SplinesIdeal.main_arg2) = m ((c.tc : Thread Cert.SplinesIdeal.nD Cert.SplinesIdeal.τ).loc Cert.SplinesIdeal.main_arg2)
      ∧ r.2.mem ((c.tc : Thread Cert.SplinesIdeal.nD Cert.SplinesIdeal.τ).loc Cert.SplinesIdeal.main_arg3) = m ((c.tc : Thread Cert.SplinesIdeal.nD Cert.SplinesIdeal.τ).loc Cert.SplinesIdeal.main_arg3)
      ∧ r.2.mem ((c.tc : Thread Cert.SplinesIdeal.nD Cert.SplinesIdeal.τ).loc Cert.SplinesIdeal.main_arg4) = m ((c.tc : Thread Cert.SplinesIdeal.nD Cert.SplinesIdeal.τ).loc Cert.SplinesIdeal.main_arg4)
      ∧ r.2.mem ((c.tc : Thread Cert.SplinesIdeal.nD Cert.SplinesIdeal.τ).loc Cert.SplinesIdeal.main_arg5) = m ((c.tc : Thread Cert.SplinesIdeal.nD Cert.SplinesIdeal.τ).loc Cert.SplinesIdeal.main_arg5)
      ∧ r.2.mem ((c.tc : Thread Cert.SplinesIdeal.nD Cert.SplinesIdeal.τ).loc Cert.SplinesIdeal.main_arg6) = m ((c.tc : Thread Cert.SplinesIdeal.nD Cert.SplinesIdeal.τ).loc Cert.SplinesIdeal.main_arg6)
      ∧ r.2.mem ((c.tc : Thread Cert.SplinesIdeal.nD Cert.SplinesIdeal.τ).loc Cert.SplinesIdeal.main_arg7) = m ((c.tc : Thread Cert.SplinesIdeal.nD Cert.SplinesIdeal.τ).loc Cert.SplinesIdeal.main_arg7)
      ∧ r.2.mem ((c.tc : Thread Cert.SplinesIdeal.nD Cert.SplinesIdeal.τ).loc Cert.SplinesIdeal.main_arg8) = m ((c.tc : Thread Cert.SplinesIdeal.nD Cert.SplinesIdeal.τ).loc Cert.SplinesIdeal.main_arg8)
      ∧ r.2.mem ((c.tc : Thread Cert.SplinesIdeal.nD Cert.SplinesIdeal.τ).loc Cert.SplinesIdeal.main_arg9) = m ((c.tc : Thread Cert.SplinesIdeal.nD Cert.SplinesIdeal.τ).loc Cert.SplinesIdeal.main_arg9)
      ∧ r.2.mem ((c.tc : Thread Cert.SplinesIdeal.nD Cert.SplinesIdeal.τ).loc Cert.SplinesIdeal.main_arg10) = m ((c.tc : Thread Cert.SplinesIdeal.nD Cert.SplinesIdeal.τ).loc Cert.SplinesIdeal.main_arg10)
      ∧ r.2.mem ((c.tc : Thread Cert.SplinesIdeal.nD Cert.SplinesIdeal.τ).loc Cert.SplinesIdeal.main_arg11) = m ((c.tc : Thread Cert.SplinesIdeal.nD Cert.SplinesIdeal.τ).loc Cert.SplinesIdeal.main_arg11)
      ∧ r.2.mem ((c.tc : Thread Cert.SplinesIdeal.nD Cert.SplinesIdeal.τ).loc Cert.SplinesIdeal.main_arg12) = m ((c.tc : Thread Cert.SplinesIdeal.nD Cert.SplinesIdeal.τ).loc Cert.SplinesIdeal.main_arg12)
      ∧ r.2.mem ((c.tc : Thread Cert.SplinesIdeal.nD Cert.SplinesIdeal.τ).loc Cert.SplinesIdeal.main_arg13) = m ((c.tc : Thread Cert.SplinesIdeal.nD Cert.SplinesIdeal.τ).loc Cert.SplinesIdeal.main_arg13)
      ∧ r.2.mem ((c.tc : Thread Cert.SplinesIdeal.nD Cert.SplinesIdeal.τ).loc Cert.SplinesIdeal.main_arg14) = m ((c.tc : Thread Cert.SplinesIdeal.nD Cert.SplinesIdeal.τ).loc Cert.SplinesIdeal.main_arg14)
      ∧ r.2.mem ((c.tc : Thread Cert.SplinesIdeal.nD Cert.SplinesIdeal.τ).loc Cert.SplinesIdeal.main_arg15) = m ((c.tc : Thread Cert.SplinesIdeal.nD Cert.SplinesIdeal.τ).loc Cert.SplinesIdeal.main_arg15)
      ∧ r.2.mem ((c.tc : Thread Cert.SplinesIdeal.nD Cert.SplinesIdeal.τ).loc Cert.SplinesIdeal.main_arg16) = m ((c.tc : Thread Cert.SplinesIdeal.nD Cert.SplinesIdeal.τ).loc Cert.SplinesIdeal.main_arg16)
      ∧ r.2.mem ((c.tc : Thread Cert.SplinesIdeal.nD Cert.SplinesIdeal.τ).loc Cert.SplinesIdeal.main_arg17) = m ((c.tc : Thread Cert.SplinesIdeal.nD Cert.SplinesIdeal.τ).loc Cert.SplinesIdeal.main_arg17))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v490)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v490) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v489) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def algebraic_KernelIdeal_SplinesIdeal_pre_unit_box [hKernelIdeal : Cert.KernelIdeal.Facts] [hSplinesIdeal : Cert.SplinesIdeal.Facts] [hPre_unit_box : Cert.Pre_unit_box.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.SplinesIdeal.nD Cert.SplinesIdeal.τ Cert.SplinesIdeal.sig) → Buf (Elt Ideal) ℓ) (g' : Dev Cert.SplinesIdeal.nD → PrngReg), Pre_KernelIdeal_unit_box m →
    (∀ c : Dev Cert.KernelIdeal.nD,
      m' ((c.tc : Thread Cert.SplinesIdeal.nD Cert.SplinesIdeal.τ).loc Cert.SplinesIdeal.main_arg0) = m ((c.tc : Thread Cert.KernelIdeal.nD Cert.KernelIdeal.τ).loc Cert.KernelIdeal.main_arg0)
      ∧ m' ((c.tc : Thread Cert.SplinesIdeal.nD Cert.SplinesIdeal.τ).loc Cert.SplinesIdeal.main_arg1) = m ((c.tc : Thread Cert.KernelIdeal.nD Cert.KernelIdeal.τ).loc Cert.KernelIdeal.main_arg1)
      ∧ m' ((c.tc : Thread Cert.SplinesIdeal.nD Cert.SplinesIdeal.τ).loc Cert.SplinesIdeal.main_arg2) = m ((c.tc : Thread Cert.KernelIdeal.nD Cert.KernelIdeal.τ).loc Cert.KernelIdeal.main_arg2)
      ∧ m' ((c.tc : Thread Cert.SplinesIdeal.nD Cert.SplinesIdeal.τ).loc Cert.SplinesIdeal.main_arg3) = m ((c.tc : Thread Cert.KernelIdeal.nD Cert.KernelIdeal.τ).loc Cert.KernelIdeal.main_arg3)
      ∧ m' ((c.tc : Thread Cert.SplinesIdeal.nD Cert.SplinesIdeal.τ).loc Cert.SplinesIdeal.main_arg4) = m ((c.tc : Thread Cert.KernelIdeal.nD Cert.KernelIdeal.τ).loc Cert.KernelIdeal.main_arg4)
      ∧ m' ((c.tc : Thread Cert.SplinesIdeal.nD Cert.SplinesIdeal.τ).loc Cert.SplinesIdeal.main_arg5) = m ((c.tc : Thread Cert.KernelIdeal.nD Cert.KernelIdeal.τ).loc Cert.KernelIdeal.main_arg5)
      ∧ m' ((c.tc : Thread Cert.SplinesIdeal.nD Cert.SplinesIdeal.τ).loc Cert.SplinesIdeal.main_arg6) = m ((c.tc : Thread Cert.KernelIdeal.nD Cert.KernelIdeal.τ).loc Cert.KernelIdeal.main_arg6)
      ∧ m' ((c.tc : Thread Cert.SplinesIdeal.nD Cert.SplinesIdeal.τ).loc Cert.SplinesIdeal.main_arg7) = m ((c.tc : Thread Cert.KernelIdeal.nD Cert.KernelIdeal.τ).loc Cert.KernelIdeal.main_arg7)
      ∧ m' ((c.tc : Thread Cert.SplinesIdeal.nD Cert.SplinesIdeal.τ).loc Cert.SplinesIdeal.main_arg8) = m ((c.tc : Thread Cert.KernelIdeal.nD Cert.KernelIdeal.τ).loc Cert.KernelIdeal.main_arg8)
      ∧ m' ((c.tc : Thread Cert.SplinesIdeal.nD Cert.SplinesIdeal.τ).loc Cert.SplinesIdeal.main_arg9) = m ((c.tc : Thread Cert.KernelIdeal.nD Cert.KernelIdeal.τ).loc Cert.KernelIdeal.main_arg9)
      ∧ m' ((c.tc : Thread Cert.SplinesIdeal.nD Cert.SplinesIdeal.τ).loc Cert.SplinesIdeal.main_arg10) = m ((c.tc : Thread Cert.KernelIdeal.nD Cert.KernelIdeal.τ).loc Cert.KernelIdeal.main_arg10)
      ∧ m' ((c.tc : Thread Cert.SplinesIdeal.nD Cert.SplinesIdeal.τ).loc Cert.SplinesIdeal.main_arg11) = m ((c.tc : Thread Cert.KernelIdeal.nD Cert.KernelIdeal.τ).loc Cert.KernelIdeal.main_arg11)
      ∧ m' ((c.tc : Thread Cert.SplinesIdeal.nD Cert.SplinesIdeal.τ).loc Cert.SplinesIdeal.main_arg12) = m ((c.tc : Thread Cert.KernelIdeal.nD Cert.KernelIdeal.τ).loc Cert.KernelIdeal.main_arg12)
      ∧ m' ((c.tc : Thread Cert.SplinesIdeal.nD Cert.SplinesIdeal.τ).loc Cert.SplinesIdeal.main_arg13) = m ((c.tc : Thread Cert.KernelIdeal.nD Cert.KernelIdeal.τ).loc Cert.KernelIdeal.main_arg13)
      ∧ m' ((c.tc : Thread Cert.SplinesIdeal.nD Cert.SplinesIdeal.τ).loc Cert.SplinesIdeal.main_arg14) = m ((c.tc : Thread Cert.KernelIdeal.nD Cert.KernelIdeal.τ).loc Cert.KernelIdeal.main_arg14)
      ∧ m' ((c.tc : Thread Cert.SplinesIdeal.nD Cert.SplinesIdeal.τ).loc Cert.SplinesIdeal.main_arg15) = m ((c.tc : Thread Cert.KernelIdeal.nD Cert.KernelIdeal.τ).loc Cert.KernelIdeal.main_arg15)
      ∧ m' ((c.tc : Thread Cert.SplinesIdeal.nD Cert.SplinesIdeal.τ).loc Cert.SplinesIdeal.main_arg16) = m ((c.tc : Thread Cert.KernelIdeal.nD Cert.KernelIdeal.τ).loc Cert.KernelIdeal.main_arg16)
      ∧ m' ((c.tc : Thread Cert.SplinesIdeal.nD Cert.SplinesIdeal.τ).loc Cert.SplinesIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v490)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v490) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.SplinesIdeal.defs (F := Ideal)) (onTc (τ := Cert.SplinesIdeal.τ) (Cert.SplinesIdeal.main (F := Ideal))) ⟨m', fun _ => 0, g'⟩ (fun r => ∀ c : Dev Cert.SplinesIdeal.nD,
          r.2.mem ((c.tc : Thread Cert.SplinesIdeal.nD Cert.SplinesIdeal.τ).loc Cert.SplinesIdeal.main_v147) = v0 c
          ∧ r.2.mem ((c.tc : Thread Cert.SplinesIdeal.nD Cert.SplinesIdeal.τ).loc Cert.SplinesIdeal.main_arg0) = m' ((c.tc : Thread Cert.SplinesIdeal.nD Cert.SplinesIdeal.τ).loc Cert.SplinesIdeal.main_arg0)
          ∧ r.2.mem ((c.tc : Thread Cert.SplinesIdeal.nD Cert.SplinesIdeal.τ).loc Cert.SplinesIdeal.main_arg1) = m' ((c.tc : Thread Cert.SplinesIdeal.nD Cert.SplinesIdeal.τ).loc Cert.SplinesIdeal.main_arg1)
          ∧ r.2.mem ((c.tc : Thread Cert.SplinesIdeal.nD Cert.SplinesIdeal.τ).loc Cert.SplinesIdeal.main_arg2) = m' ((c.tc : Thread Cert.SplinesIdeal.nD Cert.SplinesIdeal.τ).loc Cert.SplinesIdeal.main_arg2)
          ∧ r.2.mem ((c.tc : Thread Cert.SplinesIdeal.nD Cert.SplinesIdeal.τ).loc Cert.SplinesIdeal.main_arg3) = m' ((c.tc : Thread Cert.SplinesIdeal.nD Cert.SplinesIdeal.τ).loc Cert.SplinesIdeal.main_arg3)
          ∧ r.2.mem ((c.tc : Thread Cert.SplinesIdeal.nD Cert.SplinesIdeal.τ).loc Cert.SplinesIdeal.main_arg4) = m' ((c.tc : Thread Cert.SplinesIdeal.nD Cert.SplinesIdeal.τ).loc Cert.SplinesIdeal.main_arg4)
          ∧ r.2.mem ((c.tc : Thread Cert.SplinesIdeal.nD Cert.SplinesIdeal.τ).loc Cert.SplinesIdeal.main_arg5) = m' ((c.tc : Thread Cert.SplinesIdeal.nD Cert.SplinesIdeal.τ).loc Cert.SplinesIdeal.main_arg5)
          ∧ r.2.mem ((c.tc : Thread Cert.SplinesIdeal.nD Cert.SplinesIdeal.τ).loc Cert.SplinesIdeal.main_arg6) = m' ((c.tc : Thread Cert.SplinesIdeal.nD Cert.SplinesIdeal.τ).loc Cert.SplinesIdeal.main_arg6)
          ∧ r.2.mem ((c.tc : Thread Cert.SplinesIdeal.nD Cert.SplinesIdeal.τ).loc Cert.SplinesIdeal.main_arg7) = m' ((c.tc : Thread Cert.SplinesIdeal.nD Cert.SplinesIdeal.τ).loc Cert.SplinesIdeal.main_arg7)
          ∧ r.2.mem ((c.tc : Thread Cert.SplinesIdeal.nD Cert.SplinesIdeal.τ).loc Cert.SplinesIdeal.main_arg8) = m' ((c.tc : Thread Cert.SplinesIdeal.nD Cert.SplinesIdeal.τ).loc Cert.SplinesIdeal.main_arg8)
          ∧ r.2.mem ((c.tc : Thread Cert.SplinesIdeal.nD Cert.SplinesIdeal.τ).loc Cert.SplinesIdeal.main_arg9) = m' ((c.tc : Thread Cert.SplinesIdeal.nD Cert.SplinesIdeal.τ).loc Cert.SplinesIdeal.main_arg9)
          ∧ r.2.mem ((c.tc : Thread Cert.SplinesIdeal.nD Cert.SplinesIdeal.τ).loc Cert.SplinesIdeal.main_arg10) = m' ((c.tc : Thread Cert.SplinesIdeal.nD Cert.SplinesIdeal.τ).loc Cert.SplinesIdeal.main_arg10)
          ∧ r.2.mem ((c.tc : Thread Cert.SplinesIdeal.nD Cert.SplinesIdeal.τ).loc Cert.SplinesIdeal.main_arg11) = m' ((c.tc : Thread Cert.SplinesIdeal.nD Cert.SplinesIdeal.τ).loc Cert.SplinesIdeal.main_arg11)
          ∧ r.2.mem ((c.tc : Thread Cert.SplinesIdeal.nD Cert.SplinesIdeal.τ).loc Cert.SplinesIdeal.main_arg12) = m' ((c.tc : Thread Cert.SplinesIdeal.nD Cert.SplinesIdeal.τ).loc Cert.SplinesIdeal.main_arg12)
          ∧ r.2.mem ((c.tc : Thread Cert.SplinesIdeal.nD Cert.SplinesIdeal.τ).loc Cert.SplinesIdeal.main_arg13) = m' ((c.tc : Thread Cert.SplinesIdeal.nD Cert.SplinesIdeal.τ).loc Cert.SplinesIdeal.main_arg13)
          ∧ r.2.mem ((c.tc : Thread Cert.SplinesIdeal.nD Cert.SplinesIdeal.τ).loc Cert.SplinesIdeal.main_arg14) = m' ((c.tc : Thread Cert.SplinesIdeal.nD Cert.SplinesIdeal.τ).loc Cert.SplinesIdeal.main_arg14)
          ∧ r.2.mem ((c.tc : Thread Cert.SplinesIdeal.nD Cert.SplinesIdeal.τ).loc Cert.SplinesIdeal.main_arg15) = m' ((c.tc : Thread Cert.SplinesIdeal.nD Cert.SplinesIdeal.τ).loc Cert.SplinesIdeal.main_arg15)
          ∧ r.2.mem ((c.tc : Thread Cert.SplinesIdeal.nD Cert.SplinesIdeal.τ).loc Cert.SplinesIdeal.main_arg16) = m' ((c.tc : Thread Cert.SplinesIdeal.nD Cert.SplinesIdeal.τ).loc Cert.SplinesIdeal.main_arg16)
          ∧ r.2.mem ((c.tc : Thread Cert.SplinesIdeal.nD Cert.SplinesIdeal.τ).loc Cert.SplinesIdeal.main_arg17) = m' ((c.tc : Thread Cert.SplinesIdeal.nD Cert.SplinesIdeal.τ).loc Cert.SplinesIdeal.main_arg17))

def Claim : Prop :=
  ∃ (hKernel : Cert.Kernel.Facts) (hKernelIdeal : Cert.KernelIdeal.Facts) (hReferenceIdeal : Cert.ReferenceIdeal.Facts) (hSplinesIdeal : Cert.SplinesIdeal.Facts) (hPre_unit_box : Cert.Pre_unit_box.Facts),
    quiescent_Kernel (hKernel := hKernel)
    ∧ quiescent_KernelIdeal (hKernelIdeal := hKernelIdeal)
    ∧ quiescent_KernelIdeal_pre_unit_box (hKernelIdeal := hKernelIdeal) (hPre_unit_box := hPre_unit_box)
    ∧ quiescent_ReferenceIdeal (hReferenceIdeal := hReferenceIdeal)
    ∧ quiescent_SplinesIdeal (hSplinesIdeal := hSplinesIdeal)
    ∧ quiescent_SplinesIdeal_pre_unit_box (hSplinesIdeal := hSplinesIdeal) (hPre_unit_box := hPre_unit_box)
    ∧ preserves_Kernel_KernelIdeal
    ∧ algebraic_KernelIdeal_ReferenceIdeal (hKernelIdeal := hKernelIdeal) (hReferenceIdeal := hReferenceIdeal)
    ∧ algebraic_KernelIdeal_SplinesIdeal_pre_unit_box (hKernelIdeal := hKernelIdeal) (hSplinesIdeal := hSplinesIdeal) (hPre_unit_box := hPre_unit_box)
-- ==== Pre_unit_box.lean ====
abbrev S10000x1 : Shape := ⟨2, ![10000, 1]⟩
abbrev S2x160000 : Shape := ⟨2, ![2, 160000]⟩
abbrev S160000x3 : Shape := ⟨2, ![160000, 3]⟩
abbrev S125x1x8 : Shape := ⟨3, ![125, 1, 8]⟩
abbrev S1x8 : Shape := ⟨2, ![1, 8]⟩
abbrev S8 : Shape := ⟨1, ![8]⟩
abbrev S125x8x16 : Shape := ⟨3, ![125, 8, 16]⟩
abbrev S8x16 : Shape := ⟨2, ![8, 16]⟩
abbrev S16 : Shape := ⟨1, ![16]⟩
abbrev S125x16x16 : Shape := ⟨3, ![125, 16, 16]⟩
abbrev S16x16 : Shape := ⟨2, ![16, 16]⟩
abbrev S125x16x8 : Shape := ⟨3, ![125, 16, 8]⟩
abbrev S16x8 : Shape := ⟨2, ![16, 8]⟩
abbrev S125x8x1 : Shape := ⟨3, ![125, 8, 1]⟩
abbrev S8x1 : Shape := ⟨2, ![8, 1]⟩
abbrev S1 : Shape := ⟨1, ![1]⟩
abbrev S_ : Shape := ⟨0, ![]⟩

class Facts : Prop where
  bcast_S_S160000x3 : S_.BroadcastsInDim S160000x3 (![] : Fin 0 → Fin S160000x3.rank)

variable [Facts]

def fn {F : FTy → Type} [FloatOps F] (main_arg0 : FVec F S10000x1 .f32) (main_arg1 : IVec S2x160000 32) (main_arg2 : FVec F S160000x3 .f32) (main_arg3 : FVec F S125x1x8 .f32) (main_arg4 : FVec F S1x8 .f32) (main_arg5 : FVec F S8 .f32) (main_arg6 : FVec F S125x8x16 .f32) (main_arg7 : FVec F S8x16 .f32) (main_arg8 : FVec F S16 .f32) (main_arg9 : FVec F S125x16x16 .f32) (main_arg10 : FVec F S16x16 .f32) (main_arg11 : FVec F S16 .f32) (main_arg12 : FVec F S125x16x8 .f32) (main_arg13 : FVec F S16x8 .f32) (main_arg14 : FVec F S8 .f32) (main_arg15 : FVec F S125x8x1 .f32) (main_arg16 : FVec F S8x1 .f32) (main_arg17 : FVec F S1 .f32) : IVec S160000x3 1 :=
  let main_cst : FVec F S_ .f32 := constant S_ .f32 0x00000000#32
  let main_v0 : FVec F S160000x3 .f32 := broadcastInDim S160000x3 ![] bcast_S_S160000x3 main_cst
  let main_v1 : IVec S160000x3 1 := cmpf .oge main_arg2 main_v0
  let main_cst_0 : FVec F S_ .f32 := constant S_ .f32 0x3F800000#32
  let main_v2 : FVec F S160000x3 .f32 := broadcastInDim S160000x3 ![] bcast_S_S160000x3 main_cst_0
  let main_v3 : IVec S160000x3 1 := cmpf .ole main_arg2 main_v2
  let main_v4 : IVec S160000x3 1 := andi main_v1 main_v3
  main_v4
-- ==== Kernel.lean ====
abbrev S10000x1 : Shape := ⟨2, ![10000, 1]⟩
abbrev S2x160000 : Shape := ⟨2, ![2, 160000]⟩
abbrev S160000x3 : Shape := ⟨2, ![160000, 3]⟩
abbrev S125x1x8 : Shape := ⟨3, ![125, 1, 8]⟩
abbrev S1x8 : Shape := ⟨2, ![1, 8]⟩
abbrev S8 : Shape := ⟨1, ![8]⟩
abbrev S125x8x16 : Shape := ⟨3, ![125, 8, 16]⟩
abbrev S8x16 : Shape := ⟨2, ![8, 16]⟩
abbrev S16 : Shape := ⟨1, ![16]⟩
abbrev S125x16x16 : Shape := ⟨3, ![125, 16, 16]⟩
abbrev S16x16 : Shape := ⟨2, ![16, 16]⟩
abbrev S125x16x8 : Shape := ⟨3, ![125, 16, 8]⟩
abbrev S16x8 : Shape := ⟨2, ![16, 8]⟩
abbrev S125x8x1 : Shape := ⟨3, ![125, 8, 1]⟩
abbrev S8x1 : Shape := ⟨2, ![8, 1]⟩
abbrev S1 : Shape := ⟨1, ![1]⟩
abbrev S1x160000 : Shape := ⟨2, ![1, 160000]⟩
abbrev S160000 : Shape := ⟨1, ![160000]⟩
abbrev S_ : Shape := ⟨0, ![]⟩
abbrev S160000x1 : Shape := ⟨2, ![160000, 1]⟩
abbrev S160000x8 : Shape := ⟨2, ![160000, 8]⟩
abbrev S10000x125x8 : Shape := ⟨3, ![10000, 125, 8]⟩
abbrev S160000x8x1 : Shape := ⟨3, ![160000, 8, 1]⟩
abbrev S160000x8x2 : Shape := ⟨3, ![160000, 8, 2]⟩
abbrev S160000x8x8 : Shape := ⟨3, ![160000, 8, 8]⟩
abbrev S10000x8 : Shape := ⟨2, ![10000, 8]⟩
abbrev S10000x125x16 : Shape := ⟨3, ![10000, 125, 16]⟩
abbrev S160000x8x16 : Shape := ⟨3, ![160000, 8, 16]⟩
abbrev S160000x16 : Shape := ⟨2, ![160000, 16]⟩
abbrev S10000x16 : Shape := ⟨2, ![10000, 16]⟩
abbrev S1x16 : Shape := ⟨2, ![1, 16]⟩
abbrev S10000x125x1 : Shape := ⟨3, ![10000, 125, 1]⟩
abbrev S1x1 : Shape := ⟨2, ![1, 1]⟩
abbrev S10000 : Shape := ⟨1, ![10000]⟩

abbrev nBuf : Space → Nat
  | .hbm => 865
  | .vmem => 2
  | .smem => 0
  | _ => 0

abbrev hbmTy0_0 (i : Nat) : BufTy := match i % 128 with
  | 0 => ⟨S10000x1, .f32⟩
  | 1 => ⟨S2x160000, .i32⟩
  | 2 => ⟨S160000x3, .f32⟩
  | 3 => ⟨S125x1x8, .f32⟩
  | 4 => ⟨S1x8, .f32⟩
  | 5 => ⟨S8, .f32⟩
  | 6 => ⟨S125x8x16, .f32⟩
  | 7 => ⟨S8x16, .f32⟩
  | 8 => ⟨S16, .f32⟩
  | 9 => ⟨S125x16x16, .f32⟩
  | 10 => ⟨S16x16, .f32⟩
  | 11 => ⟨S16, .f32⟩
  | 12 => ⟨S125x16x8, .f32⟩
  | 13 => ⟨S16x8, .f32⟩
  | 14 => ⟨S8, .f32⟩
  | 15 => ⟨S125x8x1, .f32⟩
  | 16 => ⟨S8x1, .f32⟩
  | 17 => ⟨S1, .f32⟩
  | 18 => ⟨S1x160000, .i32⟩
  | 19 => ⟨S160000, .i32⟩
  | 20 => ⟨S1x160000, .i32⟩
  | 21 => ⟨S160000, .i32⟩
  | 22 => ⟨S_, .f32⟩
  | 23 => ⟨S160000x3, .f32⟩
  | 24 => ⟨S160000x3, .f32⟩
  | 25 => ⟨S160000x3, .f32⟩
  | 26 => ⟨S160000x3, .f32⟩
  | 27 => ⟨S160000x3, .i32⟩
  | 28 => ⟨S_, .f32⟩
  | 29 => ⟨S160000, .f32⟩
  | 30 => ⟨S_, .i32⟩
  | 31 => ⟨S160000, .i32⟩
  | 32 => ⟨S160000x1, .f32⟩
  | 33 => ⟨S160000, .f32⟩
  | 34 => ⟨S_, .f32⟩
  | 35 => ⟨S160000, .f32⟩
  | 36 => ⟨S160000, .f32⟩
  | 37 => ⟨S160000x1, .i32⟩
  | 38 => ⟨S160000, .i32⟩
  | 39 => ⟨S_, .i32⟩
  | 40 => ⟨S160000, .i32⟩
  | 41 => ⟨S160000, .i32⟩
  | 42 => ⟨S_, .i32⟩
  | 43 => ⟨S_, .i32⟩
  | 44 => ⟨S_, .i32⟩
  | 45 => ⟨S160000, .i32⟩
  | 46 => ⟨S160000, .i32⟩
  | 47 => ⟨S_, .i32⟩
  | 48 => ⟨S160000, .i32⟩
  | 49 => ⟨S160000, .i32⟩
  | 50 => ⟨S160000, .f32⟩
  | 51 => ⟨S_, .i32⟩
  | 52 => ⟨S160000, .i32⟩
  | 53 => ⟨S160000, .i32⟩
  | 54 => ⟨S160000, .i32⟩
  | 55 => ⟨S160000x1, .f32⟩
  | 56 => ⟨S160000, .f32⟩
  | 57 => ⟨S_, .f32⟩
  | 58 => ⟨S160000, .f32⟩
  | 59 => ⟨S160000, .f32⟩
  | 60 => ⟨S160000x1, .i32⟩
  | 61 => ⟨S160000, .i32⟩
  | 62 => ⟨S_, .i32⟩
  | 63 => ⟨S160000, .i32⟩
  | 64 => ⟨S160000, .i32⟩
  | 65 => ⟨S_, .i32⟩
  | 66 => ⟨S_, .i32⟩
  | 67 => ⟨S_, .i32⟩
  | 68 => ⟨S160000, .i32⟩
  | 69 => ⟨S160000, .i32⟩
  | 70 => ⟨S_, .i32⟩
  | 71 => ⟨S160000, .i32⟩
  | 72 => ⟨S160000, .i32⟩
  | 73 => ⟨S160000, .f32⟩
  | 74 => ⟨S_, .i32⟩
  | 75 => ⟨S160000, .i32⟩
  | 76 => ⟨S160000, .i32⟩
  | 77 => ⟨S160000, .i32⟩
  | 78 => ⟨S160000x1, .f32⟩
  | 79 => ⟨S160000, .f32⟩
  | 80 => ⟨S_, .f32⟩
  | 81 => ⟨S160000, .f32⟩
  | 82 => ⟨S160000, .f32⟩
  | 83 => ⟨S160000x1, .i32⟩
  | 84 => ⟨S160000, .i32⟩
  | 85 => ⟨S_, .i32⟩
  | 86 => ⟨S160000, .i32⟩
  | 87 => ⟨S160000, .i32⟩
  | 88 => ⟨S_, .i32⟩
  | 89 => ⟨S_, .i32⟩
  | 90 => ⟨S_, .i32⟩
  | 91 => ⟨S160000, .i32⟩
  | 92 => ⟨S160000, .i32⟩
  | 93 => ⟨S_, .i32⟩
  | 94 => ⟨S160000, .i32⟩
  | 95 => ⟨S160000, .i32⟩
  | 96 => ⟨S160000, .f32⟩
  | 97 => ⟨S_, .i32⟩
  | 98 => ⟨S160000, .i32⟩
  | 99 => ⟨S160000, .i32⟩
  | 100 => ⟨S160000, .i32⟩
  | 101 => ⟨S_, .f32⟩
  | 102 => ⟨S160000, .f32⟩
  | 103 => ⟨S_, .i32⟩
  | 104 => ⟨S160000, .i32⟩
  | 105 => ⟨S160000x1, .f32⟩
  | 106 => ⟨S160000, .f32⟩
  | 107 => ⟨S160000x1, .i32⟩
  | 108 => ⟨S160000, .i32⟩
  | 109 => ⟨S_, .i32⟩
  | 110 => ⟨S160000, .i32⟩
  | 111 => ⟨S160000, .i32⟩
  | 112 => ⟨S_, .i32⟩
  | 113 => ⟨S_, .i32⟩
  | 114 => ⟨S_, .i32⟩
  | 115 => ⟨S160000, .i32⟩
  | 116 => ⟨S160000, .i32⟩
  | 117 => ⟨S_, .i32⟩
  | 118 => ⟨S160000, .i32⟩
  | 119 => ⟨S160000, .i32⟩
  | 120 => ⟨S160000, .f32⟩
  | 121 => ⟨S_, .i32⟩
  | 122 => ⟨S160000, .i32⟩
  | 123 => ⟨S160000, .i32⟩
  | 124 => ⟨S160000, .i32⟩
  | 125 => ⟨S160000x1, .f32⟩
  | 126 => ⟨S160000, .f32⟩
  | 127 => ⟨S_, .f32⟩
  | _ => ⟨S10000x1, .f32⟩

abbrev hbmTy0_1 (i : Nat) : BufTy := match i % 128 with
  | 0 => ⟨S160000, .f32⟩
  | 1 => ⟨S160000, .f32⟩
  | 2 => ⟨S160000x1, .i32⟩
  | 3 => ⟨S160000, .i32⟩
  | 4 => ⟨S_, .i32⟩
  | 5 => ⟨S160000, .i32⟩
  | 6 => ⟨S160000, .i32⟩
  | 7 => ⟨S_, .i32⟩
  | 8 => ⟨S_, .i32⟩
  | 9 => ⟨S_, .i32⟩
  | 10 => ⟨S160000, .i32⟩
  | 11 => ⟨S160000, .i32⟩
  | 12 => ⟨S_, .i32⟩
  | 13 => ⟨S160000, .i32⟩
  | 14 => ⟨S160000, .i32⟩
  | 15 => ⟨S160000, .f32⟩
  | 16 => ⟨S_, .i32⟩
  | 17 => ⟨S160000, .i32⟩
  | 18 => ⟨S160000, .i32⟩
  | 19 => ⟨S160000, .i32⟩
  | 20 => ⟨S160000x1, .f32⟩
  | 21 => ⟨S160000, .f32⟩
  | 22 => ⟨S_, .f32⟩
  | 23 => ⟨S160000, .f32⟩
  | 24 => ⟨S160000, .f32⟩
  | 25 => ⟨S160000x1, .i32⟩
  | 26 => ⟨S160000, .i32⟩
  | 27 => ⟨S_, .i32⟩
  | 28 => ⟨S160000, .i32⟩
  | 29 => ⟨S160000, .i32⟩
  | 30 => ⟨S_, .i32⟩
  | 31 => ⟨S_, .i32⟩
  | 32 => ⟨S_, .i32⟩
  | 33 => ⟨S160000, .i32⟩
  | 34 => ⟨S160000, .i32⟩
  | 35 => ⟨S_, .i32⟩
  | 36 => ⟨S160000, .i32⟩
  | 37 => ⟨S160000, .i32⟩
  | 38 => ⟨S160000, .f32⟩
  | 39 => ⟨S_, .i32⟩
  | 40 => ⟨S160000, .i32⟩
  | 41 => ⟨S160000, .i32⟩
  | 42 => ⟨S160000, .i32⟩
  | 43 => ⟨S_, .f32⟩
  | 44 => ⟨S160000, .f32⟩
  | 45 => ⟨S_, .i32⟩
  | 46 => ⟨S160000, .i32⟩
  | 47 => ⟨S160000x1, .f32⟩
  | 48 => ⟨S160000, .f32⟩
  | 49 => ⟨S_, .f32⟩
  | 50 => ⟨S160000, .f32⟩
  | 51 => ⟨S160000, .f32⟩
  | 52 => ⟨S160000x1, .i32⟩
  | 53 => ⟨S160000, .i32⟩
  | 54 => ⟨S_, .i32⟩
  | 55 => ⟨S160000, .i32⟩
  | 56 => ⟨S160000, .i32⟩
  | 57 => ⟨S_, .i32⟩
  | 58 => ⟨S_, .i32⟩
  | 59 => ⟨S_, .i32⟩
  | 60 => ⟨S160000, .i32⟩
  | 61 => ⟨S160000, .i32⟩
  | 62 => ⟨S_, .i32⟩
  | 63 => ⟨S160000, .i32⟩
  | 64 => ⟨S160000, .i32⟩
  | 65 => ⟨S160000, .f32⟩
  | 66 => ⟨S_, .i32⟩
  | 67 => ⟨S160000, .i32⟩
  | 68 => ⟨S160000, .i32⟩
  | 69 => ⟨S160000, .i32⟩
  | 70 => ⟨S160000x1, .f32⟩
  | 71 => ⟨S160000, .f32⟩
  | 72 => ⟨S160000x1, .i32⟩
  | 73 => ⟨S160000, .i32⟩
  | 74 => ⟨S_, .i32⟩
  | 75 => ⟨S160000, .i32⟩
  | 76 => ⟨S160000, .i32⟩
  | 77 => ⟨S_, .i32⟩
  | 78 => ⟨S_, .i32⟩
  | 79 => ⟨S_, .i32⟩
  | 80 => ⟨S160000, .i32⟩
  | 81 => ⟨S160000, .i32⟩
  | 82 => ⟨S_, .i32⟩
  | 83 => ⟨S160000, .i32⟩
  | 84 => ⟨S160000, .i32⟩
  | 85 => ⟨S160000, .f32⟩
  | 86 => ⟨S_, .i32⟩
  | 87 => ⟨S160000, .i32⟩
  | 88 => ⟨S160000, .i32⟩
  | 89 => ⟨S160000, .i32⟩
  | 90 => ⟨S160000x1, .f32⟩
  | 91 => ⟨S160000, .f32⟩
  | 92 => ⟨S_, .f32⟩
  | 93 => ⟨S160000, .f32⟩
  | 94 => ⟨S160000, .f32⟩
  | 95 => ⟨S160000x1, .i32⟩
  | 96 => ⟨S160000, .i32⟩
  | 97 => ⟨S_, .i32⟩
  | 98 => ⟨S160000, .i32⟩
  | 99 => ⟨S160000, .i32⟩
  | 100 => ⟨S_, .i32⟩
  | 101 => ⟨S_, .i32⟩
  | 102 => ⟨S_, .i32⟩
  | 103 => ⟨S160000, .i32⟩
  | 104 => ⟨S160000, .i32⟩
  | 105 => ⟨S_, .i32⟩
  | 106 => ⟨S160000, .i32⟩
  | 107 => ⟨S160000, .i32⟩
  | 108 => ⟨S160000, .f32⟩
  | 109 => ⟨S_, .i32⟩
  | 110 => ⟨S160000, .i32⟩
  | 111 => ⟨S160000, .i32⟩
  | 112 => ⟨S160000, .i32⟩
  | 113 => ⟨S_, .f32⟩
  | 114 => ⟨S160000, .f32⟩
  | 115 => ⟨S_, .i32⟩
  | 116 => ⟨S160000, .i32⟩
  | 117 => ⟨S160000x1, .f32⟩
  | 118 => ⟨S160000, .f32⟩
  | 119 => ⟨S160000x1, .i32⟩
  | 120 => ⟨S160000, .i32⟩
  | 121 => ⟨S_, .i32⟩
  | 122 => ⟨S160000, .i32⟩
  | 123 => ⟨S160000, .i32⟩
  | 124 => ⟨S_, .i32⟩
  | 125 => ⟨S_, .i32⟩
  | 126 => ⟨S_, .i32⟩
  | 127 => ⟨S160000, .i32⟩
  | _ => ⟨S10000x1, .f32⟩

abbrev hbmTy0_2 (i : Nat) : BufTy := match i % 128 with
  | 0 => ⟨S160000, .i32⟩
  | 1 => ⟨S_, .i32⟩
  | 2 => ⟨S160000, .i32⟩
  | 3 => ⟨S160000, .i32⟩
  | 4 => ⟨S160000, .f32⟩
  | 5 => ⟨S_, .i32⟩
  | 6 => ⟨S160000, .i32⟩
  | 7 => ⟨S160000, .i32⟩
  | 8 => ⟨S160000, .i32⟩
  | 9 => ⟨S160000x1, .f32⟩
  | 10 => ⟨S160000, .f32⟩
  | 11 => ⟨S160000x1, .i32⟩
  | 12 => ⟨S160000, .i32⟩
  | 13 => ⟨S_, .i32⟩
  | 14 => ⟨S160000, .i32⟩
  | 15 => ⟨S160000, .i32⟩
  | 16 => ⟨S_, .i32⟩
  | 17 => ⟨S_, .i32⟩
  | 18 => ⟨S_, .i32⟩
  | 19 => ⟨S160000, .i32⟩
  | 20 => ⟨S160000, .i32⟩
  | 21 => ⟨S_, .i32⟩
  | 22 => ⟨S160000, .i32⟩
  | 23 => ⟨S160000, .i32⟩
  | 24 => ⟨S160000, .f32⟩
  | 25 => ⟨S_, .i32⟩
  | 26 => ⟨S160000, .i32⟩
  | 27 => ⟨S160000, .i32⟩
  | 28 => ⟨S160000, .i32⟩
  | 29 => ⟨S160000x1, .f32⟩
  | 30 => ⟨S160000, .f32⟩
  | 31 => ⟨S_, .f32⟩
  | 32 => ⟨S160000, .f32⟩
  | 33 => ⟨S160000, .f32⟩
  | 34 => ⟨S160000x1, .i32⟩
  | 35 => ⟨S160000, .i32⟩
  | 36 => ⟨S_, .i32⟩
  | 37 => ⟨S160000, .i32⟩
  | 38 => ⟨S160000, .i32⟩
  | 39 => ⟨S_, .i32⟩
  | 40 => ⟨S_, .i32⟩
  | 41 => ⟨S_, .i32⟩
  | 42 => ⟨S160000, .i32⟩
  | 43 => ⟨S160000, .i32⟩
  | 44 => ⟨S_, .i32⟩
  | 45 => ⟨S160000, .i32⟩
  | 46 => ⟨S160000, .i32⟩
  | 47 => ⟨S160000, .f32⟩
  | 48 => ⟨S_, .i32⟩
  | 49 => ⟨S160000, .i32⟩
  | 50 => ⟨S160000, .i32⟩
  | 51 => ⟨S160000, .i32⟩
  | 52 => ⟨S_, .f32⟩
  | 53 => ⟨S160000, .f32⟩
  | 54 => ⟨S_, .i32⟩
  | 55 => ⟨S160000, .i32⟩
  | 56 => ⟨S160000x1, .f32⟩
  | 57 => ⟨S160000, .f32⟩
  | 58 => ⟨S_, .f32⟩
  | 59 => ⟨S160000, .f32⟩
  | 60 => ⟨S160000, .f32⟩
  | 61 => ⟨S160000x1, .i32⟩
  | 62 => ⟨S160000, .i32⟩
  | 63 => ⟨S_, .i32⟩
  | 64 => ⟨S160000, .i32⟩
  | 65 => ⟨S160000, .i32⟩
  | 66 => ⟨S_, .i32⟩
  | 67 => ⟨S_, .i32⟩
  | 68 => ⟨S_, .i32⟩
  | 69 => ⟨S160000, .i32⟩
  | 70 => ⟨S160000, .i32⟩
  | 71 => ⟨S_, .i32⟩
  | 72 => ⟨S160000, .i32⟩
  | 73 => ⟨S160000, .i32⟩
  | 74 => ⟨S160000, .f32⟩
  | 75 => ⟨S_, .i32⟩
  | 76 => ⟨S160000, .i32⟩
  | 77 => ⟨S160000, .i32⟩
  | 78 => ⟨S160000, .i32⟩
  | 79 => ⟨S160000x1, .f32⟩
  | 80 => ⟨S160000, .f32⟩
  | 81 => ⟨S_, .f32⟩
  | 82 => ⟨S160000, .f32⟩
  | 83 => ⟨S160000, .f32⟩
  | 84 => ⟨S160000x1, .i32⟩
  | 85 => ⟨S160000, .i32⟩
  | 86 => ⟨S_, .i32⟩
  | 87 => ⟨S160000, .i32⟩
  | 88 => ⟨S160000, .i32⟩
  | 89 => ⟨S_, .i32⟩
  | 90 => ⟨S_, .i32⟩
  | 91 => ⟨S_, .i32⟩
  | 92 => ⟨S160000, .i32⟩
  | 93 => ⟨S160000, .i32⟩
  | 94 => ⟨S_, .i32⟩
  | 95 => ⟨S160000, .i32⟩
  | 96 => ⟨S160000, .i32⟩
  | 97 => ⟨S160000, .f32⟩
  | 98 => ⟨S_, .i32⟩
  | 99 => ⟨S160000, .i32⟩
  | 100 => ⟨S160000, .i32⟩
  | 101 => ⟨S160000, .i32⟩
  | 102 => ⟨S160000x1, .f32⟩
  | 103 => ⟨S160000, .f32⟩
  | 104 => ⟨S160000x1, .i32⟩
  | 105 => ⟨S160000, .i32⟩
  | 106 => ⟨S_, .i32⟩
  | 107 => ⟨S160000, .i32⟩
  | 108 => ⟨S160000, .i32⟩
  | 109 => ⟨S_, .i32⟩
  | 110 => ⟨S_, .i32⟩
  | 111 => ⟨S_, .i32⟩
  | 112 => ⟨S160000, .i32⟩
  | 113 => ⟨S160000, .i32⟩
  | 114 => ⟨S_, .i32⟩
  | 115 => ⟨S160000, .i32⟩
  | 116 => ⟨S160000, .i32⟩
  | 117 => ⟨S160000, .f32⟩
  | 118 => ⟨S_, .i32⟩
  | 119 => ⟨S160000, .i32⟩
  | 120 => ⟨S160000, .i32⟩
  | 121 => ⟨S160000, .i32⟩
  | 122 => ⟨S_, .f32⟩
  | 123 => ⟨S160000, .f32⟩
  | 124 => ⟨S_, .i32⟩
  | 125 => ⟨S160000, .i32⟩
  | 126 => ⟨S160000x1, .f32⟩
  | 127 => ⟨S160000, .f32⟩
  | _ => ⟨S10000x1, .f32⟩

abbrev hbmTy0_3 (i : Nat) : BufTy := match i % 128 with
  | 0 => ⟨S160000x1, .i32⟩
  | 1 => ⟨S160000, .i32⟩
  | 2 => ⟨S_, .i32⟩
  | 3 => ⟨S160000, .i32⟩
  | 4 => ⟨S160000, .i32⟩
  | 5 => ⟨S_, .i32⟩
  | 6 => ⟨S_, .i32⟩
  | 7 => ⟨S_, .i32⟩
  | 8 => ⟨S160000, .i32⟩
  | 9 => ⟨S160000, .i32⟩
  | 10 => ⟨S_, .i32⟩
  | 11 => ⟨S160000, .i32⟩
  | 12 => ⟨S160000, .i32⟩
  | 13 => ⟨S160000, .f32⟩
  | 14 => ⟨S_, .i32⟩
  | 15 => ⟨S160000, .i32⟩
  | 16 => ⟨S160000, .i32⟩
  | 17 => ⟨S160000, .i32⟩
  | 18 => ⟨S160000x1, .f32⟩
  | 19 => ⟨S160000, .f32⟩
  | 20 => ⟨S_, .f32⟩
  | 21 => ⟨S160000, .f32⟩
  | 22 => ⟨S160000, .f32⟩
  | 23 => ⟨S160000x1, .i32⟩
  | 24 => ⟨S160000, .i32⟩
  | 25 => ⟨S_, .i32⟩
  | 26 => ⟨S160000, .i32⟩
  | 27 => ⟨S160000, .i32⟩
  | 28 => ⟨S_, .i32⟩
  | 29 => ⟨S_, .i32⟩
  | 30 => ⟨S_, .i32⟩
  | 31 => ⟨S160000, .i32⟩
  | 32 => ⟨S160000, .i32⟩
  | 33 => ⟨S_, .i32⟩
  | 34 => ⟨S160000, .i32⟩
  | 35 => ⟨S160000, .i32⟩
  | 36 => ⟨S160000, .f32⟩
  | 37 => ⟨S_, .i32⟩
  | 38 => ⟨S160000, .i32⟩
  | 39 => ⟨S160000, .i32⟩
  | 40 => ⟨S160000, .i32⟩
  | 41 => ⟨S160000x1, .f32⟩
  | 42 => ⟨S160000, .f32⟩
  | 43 => ⟨S160000x1, .i32⟩
  | 44 => ⟨S160000, .i32⟩
  | 45 => ⟨S_, .i32⟩
  | 46 => ⟨S160000, .i32⟩
  | 47 => ⟨S160000, .i32⟩
  | 48 => ⟨S_, .i32⟩
  | 49 => ⟨S_, .i32⟩
  | 50 => ⟨S_, .i32⟩
  | 51 => ⟨S160000, .i32⟩
  | 52 => ⟨S160000, .i32⟩
  | 53 => ⟨S_, .i32⟩
  | 54 => ⟨S160000, .i32⟩
  | 55 => ⟨S160000, .i32⟩
  | 56 => ⟨S160000, .f32⟩
  | 57 => ⟨S_, .i32⟩
  | 58 => ⟨S160000, .i32⟩
  | 59 => ⟨S160000, .i32⟩
  | 60 => ⟨S160000, .i32⟩
  | 61 => ⟨S_, .f32⟩
  | 62 => ⟨S160000, .f32⟩
  | 63 => ⟨S_, .i32⟩
  | 64 => ⟨S160000, .i32⟩
  | 65 => ⟨S160000x1, .f32⟩
  | 66 => ⟨S160000, .f32⟩
  | 67 => ⟨S_, .f32⟩
  | 68 => ⟨S160000, .f32⟩
  | 69 => ⟨S160000, .f32⟩
  | 70 => ⟨S160000x1, .i32⟩
  | 71 => ⟨S160000, .i32⟩
  | 72 => ⟨S_, .i32⟩
  | 73 => ⟨S160000, .i32⟩
  | 74 => ⟨S160000, .i32⟩
  | 75 => ⟨S_, .i32⟩
  | 76 => ⟨S_, .i32⟩
  | 77 => ⟨S_, .i32⟩
  | 78 => ⟨S160000, .i32⟩
  | 79 => ⟨S160000, .i32⟩
  | 80 => ⟨S_, .i32⟩
  | 81 => ⟨S160000, .i32⟩
  | 82 => ⟨S160000, .i32⟩
  | 83 => ⟨S160000, .f32⟩
  | 84 => ⟨S_, .i32⟩
  | 85 => ⟨S160000, .i32⟩
  | 86 => ⟨S160000, .i32⟩
  | 87 => ⟨S160000, .i32⟩
  | 88 => ⟨S160000x1, .f32⟩
  | 89 => ⟨S160000, .f32⟩
  | 90 => ⟨S160000x1, .i32⟩
  | 91 => ⟨S160000, .i32⟩
  | 92 => ⟨S_, .i32⟩
  | 93 => ⟨S160000, .i32⟩
  | 94 => ⟨S160000, .i32⟩
  | 95 => ⟨S_, .i32⟩
  | 96 => ⟨S_, .i32⟩
  | 97 => ⟨S_, .i32⟩
  | 98 => ⟨S160000, .i32⟩
  | 99 => ⟨S160000, .i32⟩
  | 100 => ⟨S_, .i32⟩
  | 101 => ⟨S160000, .i32⟩
  | 102 => ⟨S160000, .i32⟩
  | 103 => ⟨S160000, .f32⟩
  | 104 => ⟨S_, .i32⟩
  | 105 => ⟨S160000, .i32⟩
  | 106 => ⟨S160000, .i32⟩
  | 107 => ⟨S160000, .i32⟩
  | 108 => ⟨S160000x1, .f32⟩
  | 109 => ⟨S160000, .f32⟩
  | 110 => ⟨S160000x1, .i32⟩
  | 111 => ⟨S160000, .i32⟩
  | 112 => ⟨S_, .i32⟩
  | 113 => ⟨S160000, .i32⟩
  | 114 => ⟨S160000, .i32⟩
  | 115 => ⟨S_, .i32⟩
  | 116 => ⟨S_, .i32⟩
  | 117 => ⟨S_, .i32⟩
  | 118 => ⟨S160000, .i32⟩
  | 119 => ⟨S160000, .i32⟩
  | 120 => ⟨S_, .i32⟩
  | 121 => ⟨S160000, .i32⟩
  | 122 => ⟨S160000, .i32⟩
  | 123 => ⟨S160000, .f32⟩
  | 124 => ⟨S_, .i32⟩
  | 125 => ⟨S160000, .i32⟩
  | 126 => ⟨S160000, .i32⟩
  | 127 => ⟨S160000, .i32⟩
  | _ => ⟨S10000x1, .f32⟩

abbrev hbmTy0_4 (i : Nat) : BufTy := match i % 128 with
  | 0 => ⟨S_, .f32⟩
  | 1 => ⟨S160000, .f32⟩
  | 2 => ⟨S_, .i32⟩
  | 3 => ⟨S160000, .i32⟩
  | 4 => ⟨S160000x1, .f32⟩
  | 5 => ⟨S160000, .f32⟩
  | 6 => ⟨S160000x1, .i32⟩
  | 7 => ⟨S160000, .i32⟩
  | 8 => ⟨S_, .i32⟩
  | 9 => ⟨S160000, .i32⟩
  | 10 => ⟨S160000, .i32⟩
  | 11 => ⟨S_, .i32⟩
  | 12 => ⟨S_, .i32⟩
  | 13 => ⟨S_, .i32⟩
  | 14 => ⟨S160000, .i32⟩
  | 15 => ⟨S160000, .i32⟩
  | 16 => ⟨S_, .i32⟩
  | 17 => ⟨S160000, .i32⟩
  | 18 => ⟨S160000, .i32⟩
  | 19 => ⟨S160000, .f32⟩
  | 20 => ⟨S_, .i32⟩
  | 21 => ⟨S160000, .i32⟩
  | 22 => ⟨S160000, .i32⟩
  | 23 => ⟨S160000, .i32⟩
  | 24 => ⟨S160000x1, .f32⟩
  | 25 => ⟨S160000, .f32⟩
  | 26 => ⟨S160000x1, .i32⟩
  | 27 => ⟨S160000, .i32⟩
  | 28 => ⟨S_, .i32⟩
  | 29 => ⟨S160000, .i32⟩
  | 30 => ⟨S160000, .i32⟩
  | 31 => ⟨S_, .i32⟩
  | 32 => ⟨S_, .i32⟩
  | 33 => ⟨S_, .i32⟩
  | 34 => ⟨S160000, .i32⟩
  | 35 => ⟨S160000, .i32⟩
  | 36 => ⟨S_, .i32⟩
  | 37 => ⟨S160000, .i32⟩
  | 38 => ⟨S160000, .i32⟩
  | 39 => ⟨S160000, .f32⟩
  | 40 => ⟨S_, .i32⟩
  | 41 => ⟨S160000, .i32⟩
  | 42 => ⟨S160000, .i32⟩
  | 43 => ⟨S160000, .i32⟩
  | 44 => ⟨S160000x1, .f32⟩
  | 45 => ⟨S160000, .f32⟩
  | 46 => ⟨S160000x1, .i32⟩
  | 47 => ⟨S160000, .i32⟩
  | 48 => ⟨S_, .i32⟩
  | 49 => ⟨S160000, .i32⟩
  | 50 => ⟨S160000, .i32⟩
  | 51 => ⟨S_, .i32⟩
  | 52 => ⟨S_, .i32⟩
  | 53 => ⟨S_, .i32⟩
  | 54 => ⟨S160000, .i32⟩
  | 55 => ⟨S160000, .i32⟩
  | 56 => ⟨S_, .i32⟩
  | 57 => ⟨S160000, .i32⟩
  | 58 => ⟨S160000, .i32⟩
  | 59 => ⟨S160000, .f32⟩
  | 60 => ⟨S_, .i32⟩
  | 61 => ⟨S160000, .i32⟩
  | 62 => ⟨S160000, .i32⟩
  | 63 => ⟨S160000, .i32⟩
  | 64 => ⟨S160000x1, .f32⟩
  | 65 => ⟨S160000x1, .f32⟩
  | 66 => ⟨S160000x1, .f32⟩
  | 67 => ⟨S160000x1, .f32⟩
  | 68 => ⟨S160000x1, .f32⟩
  | 69 => ⟨S160000x1, .f32⟩
  | 70 => ⟨S160000x1, .f32⟩
  | 71 => ⟨S160000x1, .f32⟩
  | 72 => ⟨S160000x8, .f32⟩
  | 73 => ⟨S160000x1, .i32⟩
  | 74 => ⟨S160000x1, .i32⟩
  | 75 => ⟨S160000x1, .i32⟩
  | 76 => ⟨S160000x1, .i32⟩
  | 77 => ⟨S160000x1, .i32⟩
  | 78 => ⟨S160000x1, .i32⟩
  | 79 => ⟨S160000x1, .i32⟩
  | 80 => ⟨S160000x1, .i32⟩
  | 81 => ⟨S160000x8, .i32⟩
  | 82 => ⟨S_, .f32⟩
  | 83 => ⟨S10000x1, .f32⟩
  | 84 => ⟨S10000x1, .f32⟩
  | 85 => ⟨S_, .f32⟩
  | 86 => ⟨S10000x1, .f32⟩
  | 87 => ⟨S10000x1, .f32⟩
  | 88 => ⟨S_, .f32⟩
  | 89 => ⟨S10000x1, .f32⟩
  | 90 => ⟨S10000x1, .f32⟩
  | 91 => ⟨S_, .f32⟩
  | 92 => ⟨S10000x1, .f32⟩
  | 93 => ⟨S10000x1, .f32⟩
  | 94 => ⟨S_, .f32⟩
  | 95 => ⟨S_, .f32⟩
  | 96 => ⟨S_, .f32⟩
  | 97 => ⟨S10000x1, .f32⟩
  | 98 => ⟨S10000x1, .f32⟩
  | 99 => ⟨S_, .f32⟩
  | 100 => ⟨S10000x1, .f32⟩
  | 101 => ⟨S10000x1, .f32⟩
  | 102 => ⟨S10000x125x8, .f32⟩
  | 103 => ⟨S160000x1, .i32⟩
  | 104 => ⟨S_, .i32⟩
  | 105 => ⟨S160000x1, .i32⟩
  | 106 => ⟨S160000x1, .i1⟩
  | 107 => ⟨S_, .i32⟩
  | 108 => ⟨S160000x1, .i32⟩
  | 109 => ⟨S160000x1, .i32⟩
  | 110 => ⟨S160000x1, .i32⟩
  | 111 => ⟨S_, .i32⟩
  | 112 => ⟨S160000x8, .i32⟩
  | 113 => ⟨S160000x8, .i1⟩
  | 114 => ⟨S_, .i32⟩
  | 115 => ⟨S160000x8, .i32⟩
  | 116 => ⟨S160000x8, .i32⟩
  | 117 => ⟨S160000x8, .i32⟩
  | 118 => ⟨S160000x8, .i32⟩
  | 119 => ⟨S160000x8x1, .i32⟩
  | 120 => ⟨S160000x8x1, .i32⟩
  | 121 => ⟨S160000x8x2, .i32⟩
  | 122 => ⟨S160000x8x8, .f32⟩
  | 123 => ⟨S160000x8x1, .f32⟩
  | 124 => ⟨S160000x8x8, .f32⟩
  | 125 => ⟨S160000x8x8, .f32⟩
  | 126 => ⟨S_, .f32⟩
  | 127 => ⟨S160000x8, .f32⟩
  | _ => ⟨S10000x1, .f32⟩

abbrev hbmTy0_5 (i : Nat) : BufTy := match i % 128 with
  | 0 => ⟨S_, .f32⟩
  | 1 => ⟨S10000x8, .f32⟩
  | 2 => ⟨S160000x1, .i32⟩
  | 3 => ⟨S10000x8, .f32⟩
  | 4 => ⟨S10000x8, .f32⟩
  | 5 => ⟨S10000x8, .f32⟩
  | 6 => ⟨S1x8, .f32⟩
  | 7 => ⟨S10000x8, .f32⟩
  | 8 => ⟨S10000x8, .f32⟩
  | 9 => ⟨S_, .f32⟩
  | 10 => ⟨S10000x8, .f32⟩
  | 11 => ⟨S10000x8, .i1⟩
  | 12 => ⟨S_, .f32⟩
  | 13 => ⟨S10000x8, .f32⟩
  | 14 => ⟨S10000x8, .i1⟩
  | 15 => ⟨S_, .f32⟩
  | 16 => ⟨S_, .f32⟩
  | 17 => ⟨S10000x8, .f32⟩
  | 18 => ⟨S10000x8, .f32⟩
  | 19 => ⟨S10000x8, .f32⟩
  | 20 => ⟨S_, .f32⟩
  | 21 => ⟨S10000x8, .f32⟩
  | 22 => ⟨S10000x8, .f32⟩
  | 23 => ⟨S10000x8, .f32⟩
  | 24 => ⟨S10000x125x16, .f32⟩
  | 25 => ⟨S160000x1, .i32⟩
  | 26 => ⟨S_, .i32⟩
  | 27 => ⟨S160000x1, .i32⟩
  | 28 => ⟨S160000x1, .i1⟩
  | 29 => ⟨S_, .i32⟩
  | 30 => ⟨S160000x1, .i32⟩
  | 31 => ⟨S160000x1, .i32⟩
  | 32 => ⟨S160000x1, .i32⟩
  | 33 => ⟨S_, .i32⟩
  | 34 => ⟨S160000x8, .i32⟩
  | 35 => ⟨S160000x8, .i1⟩
  | 36 => ⟨S_, .i32⟩
  | 37 => ⟨S160000x8, .i32⟩
  | 38 => ⟨S160000x8, .i32⟩
  | 39 => ⟨S160000x8, .i32⟩
  | 40 => ⟨S160000x8, .i32⟩
  | 41 => ⟨S160000x8x1, .i32⟩
  | 42 => ⟨S160000x8x1, .i32⟩
  | 43 => ⟨S160000x8x2, .i32⟩
  | 44 => ⟨S160000x8x16, .f32⟩
  | 45 => ⟨S160000x8x1, .f32⟩
  | 46 => ⟨S160000x8x16, .f32⟩
  | 47 => ⟨S160000x8x16, .f32⟩
  | 48 => ⟨S_, .f32⟩
  | 49 => ⟨S160000x16, .f32⟩
  | 50 => ⟨S_, .f32⟩
  | 51 => ⟨S10000x16, .f32⟩
  | 52 => ⟨S160000x1, .i32⟩
  | 53 => ⟨S10000x16, .f32⟩
  | 54 => ⟨S10000x16, .f32⟩
  | 55 => ⟨S10000x16, .f32⟩
  | 56 => ⟨S1x16, .f32⟩
  | 57 => ⟨S10000x16, .f32⟩
  | 58 => ⟨S10000x16, .f32⟩
  | 59 => ⟨S_, .f32⟩
  | 60 => ⟨S10000x16, .f32⟩
  | 61 => ⟨S10000x16, .i1⟩
  | 62 => ⟨S_, .f32⟩
  | 63 => ⟨S10000x16, .f32⟩
  | 64 => ⟨S10000x16, .i1⟩
  | 65 => ⟨S_, .f32⟩
  | 66 => ⟨S_, .f32⟩
  | 67 => ⟨S10000x16, .f32⟩
  | 68 => ⟨S10000x16, .f32⟩
  | 69 => ⟨S10000x16, .f32⟩
  | 70 => ⟨S_, .f32⟩
  | 71 => ⟨S10000x16, .f32⟩
  | 72 => ⟨S10000x16, .f32⟩
  | 73 => ⟨S10000x16, .f32⟩
  | 74 => ⟨S10000x125x16, .f32⟩
  | 75 => ⟨S160000x1, .i32⟩
  | 76 => ⟨S_, .i32⟩
  | 77 => ⟨S160000x1, .i32⟩
  | 78 => ⟨S160000x1, .i1⟩
  | 79 => ⟨S_, .i32⟩
  | 80 => ⟨S160000x1, .i32⟩
  | 81 => ⟨S160000x1, .i32⟩
  | 82 => ⟨S160000x1, .i32⟩
  | 83 => ⟨S_, .i32⟩
  | 84 => ⟨S160000x8, .i32⟩
  | 85 => ⟨S160000x8, .i1⟩
  | 86 => ⟨S_, .i32⟩
  | 87 => ⟨S160000x8, .i32⟩
  | 88 => ⟨S160000x8, .i32⟩
  | 89 => ⟨S160000x8, .i32⟩
  | 90 => ⟨S160000x8, .i32⟩
  | 91 => ⟨S160000x8x1, .i32⟩
  | 92 => ⟨S160000x8x1, .i32⟩
  | 93 => ⟨S160000x8x2, .i32⟩
  | 94 => ⟨S160000x8x16, .f32⟩
  | 95 => ⟨S160000x8x1, .f32⟩
  | 96 => ⟨S160000x8x16, .f32⟩
  | 97 => ⟨S160000x8x16, .f32⟩
  | 98 => ⟨S_, .f32⟩
  | 99 => ⟨S160000x16, .f32⟩
  | 100 => ⟨S_, .f32⟩
  | 101 => ⟨S10000x16, .f32⟩
  | 102 => ⟨S160000x1, .i32⟩
  | 103 => ⟨S10000x16, .f32⟩
  | 104 => ⟨S10000x16, .f32⟩
  | 105 => ⟨S10000x16, .f32⟩
  | 106 => ⟨S1x16, .f32⟩
  | 107 => ⟨S10000x16, .f32⟩
  | 108 => ⟨S10000x16, .f32⟩
  | 109 => ⟨S_, .f32⟩
  | 110 => ⟨S10000x16, .f32⟩
  | 111 => ⟨S10000x16, .i1⟩
  | 112 => ⟨S_, .f32⟩
  | 113 => ⟨S10000x16, .f32⟩
  | 114 => ⟨S10000x16, .i1⟩
  | 115 => ⟨S_, .f32⟩
  | 116 => ⟨S_, .f32⟩
  | 117 => ⟨S10000x16, .f32⟩
  | 118 => ⟨S10000x16, .f32⟩
  | 119 => ⟨S10000x16, .f32⟩
  | 120 => ⟨S_, .f32⟩
  | 121 => ⟨S10000x16, .f32⟩
  | 122 => ⟨S10000x16, .f32⟩
  | 123 => ⟨S10000x16, .f32⟩
  | 124 => ⟨S10000x125x8, .f32⟩
  | 125 => ⟨S160000x1, .i32⟩
  | 126 => ⟨S_, .i32⟩
  | 127 => ⟨S160000x1, .i32⟩
  | _ => ⟨S10000x1, .f32⟩

abbrev hbmTy0_6 (i : Nat) : BufTy := match i % 128 with
  | 0 => ⟨S160000x1, .i1⟩
  | 1 => ⟨S_, .i32⟩
  | 2 => ⟨S160000x1, .i32⟩
  | 3 => ⟨S160000x1, .i32⟩
  | 4 => ⟨S160000x1, .i32⟩
  | 5 => ⟨S_, .i32⟩
  | 6 => ⟨S160000x8, .i32⟩
  | 7 => ⟨S160000x8, .i1⟩
  | 8 => ⟨S_, .i32⟩
  | 9 => ⟨S160000x8, .i32⟩
  | 10 => ⟨S160000x8, .i32⟩
  | 11 => ⟨S160000x8, .i32⟩
  | 12 => ⟨S160000x8, .i32⟩
  | 13 => ⟨S160000x8x1, .i32⟩
  | 14 => ⟨S160000x8x1, .i32⟩
  | 15 => ⟨S160000x8x2, .i32⟩
  | 16 => ⟨S160000x8x8, .f32⟩
  | 17 => ⟨S160000x8x1, .f32⟩
  | 18 => ⟨S160000x8x8, .f32⟩
  | 19 => ⟨S160000x8x8, .f32⟩
  | 20 => ⟨S_, .f32⟩
  | 21 => ⟨S160000x8, .f32⟩
  | 22 => ⟨S_, .f32⟩
  | 23 => ⟨S10000x8, .f32⟩
  | 24 => ⟨S160000x1, .i32⟩
  | 25 => ⟨S10000x8, .f32⟩
  | 26 => ⟨S10000x8, .f32⟩
  | 27 => ⟨S10000x8, .f32⟩
  | 28 => ⟨S1x8, .f32⟩
  | 29 => ⟨S10000x8, .f32⟩
  | 30 => ⟨S10000x8, .f32⟩
  | 31 => ⟨S_, .f32⟩
  | 32 => ⟨S10000x8, .f32⟩
  | 33 => ⟨S10000x8, .i1⟩
  | 34 => ⟨S_, .f32⟩
  | 35 => ⟨S10000x8, .f32⟩
  | 36 => ⟨S10000x8, .i1⟩
  | 37 => ⟨S_, .f32⟩
  | 38 => ⟨S_, .f32⟩
  | 39 => ⟨S10000x8, .f32⟩
  | 40 => ⟨S10000x8, .f32⟩
  | 41 => ⟨S10000x8, .f32⟩
  | 42 => ⟨S_, .f32⟩
  | 43 => ⟨S10000x8, .f32⟩
  | 44 => ⟨S10000x8, .f32⟩
  | 45 => ⟨S10000x8, .f32⟩
  | 46 => ⟨S10000x125x1, .f32⟩
  | 47 => ⟨S160000x1, .i32⟩
  | 48 => ⟨S_, .i32⟩
  | 49 => ⟨S160000x1, .i32⟩
  | 50 => ⟨S160000x1, .i1⟩
  | 51 => ⟨S_, .i32⟩
  | 52 => ⟨S160000x1, .i32⟩
  | 53 => ⟨S160000x1, .i32⟩
  | 54 => ⟨S160000x1, .i32⟩
  | 55 => ⟨S_, .i32⟩
  | 56 => ⟨S160000x8, .i32⟩
  | 57 => ⟨S160000x8, .i1⟩
  | 58 => ⟨S_, .i32⟩
  | 59 => ⟨S160000x8, .i32⟩
  | 60 => ⟨S160000x8, .i32⟩
  | 61 => ⟨S160000x8, .i32⟩
  | 62 => ⟨S160000x8, .i32⟩
  | 63 => ⟨S160000x8x1, .i32⟩
  | 64 => ⟨S160000x8x1, .i32⟩
  | 65 => ⟨S160000x8x2, .i32⟩
  | 66 => ⟨S160000x8x1, .f32⟩
  | 67 => ⟨S160000x8x1, .f32⟩
  | 68 => ⟨S160000x8x1, .f32⟩
  | 69 => ⟨S_, .f32⟩
  | 70 => ⟨S160000x1, .f32⟩
  | 71 => ⟨S_, .f32⟩
  | 72 => ⟨S10000x1, .f32⟩
  | 73 => ⟨S160000x1, .i32⟩
  | 74 => ⟨S10000x1, .f32⟩
  | 75 => ⟨S10000x1, .f32⟩
  | 76 => ⟨S10000x1, .f32⟩
  | 77 => ⟨S1x1, .f32⟩
  | 78 => ⟨S10000x1, .f32⟩
  | 79 => ⟨S10000x1, .f32⟩
  | 80 => ⟨S_, .f32⟩
  | 81 => ⟨S10000x1, .f32⟩
  | 82 => ⟨S10000x1, .i1⟩
  | 83 => ⟨S_, .f32⟩
  | 84 => ⟨S10000x1, .f32⟩
  | 85 => ⟨S10000x1, .i1⟩
  | 86 => ⟨S_, .f32⟩
  | 87 => ⟨S_, .f32⟩
  | 88 => ⟨S10000x1, .f32⟩
  | 89 => ⟨S10000x1, .f32⟩
  | 90 => ⟨S10000x1, .f32⟩
  | 91 => ⟨S_, .f32⟩
  | 92 => ⟨S10000x1, .f32⟩
  | 93 => ⟨S10000x1, .f32⟩
  | 94 => ⟨S10000x1, .f32⟩
  | 95 => ⟨S10000, .f32⟩
  | 96 => ⟨S10000, .f32⟩
  | _ => ⟨S10000x1, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S10000x1, .f32⟩

abbrev bufTy : (tb : Table) → Fin (tcTables nBuf tb) → BufTy
  | .hbm, ⟨i, _⟩ => hbmTy i
  | .local _ .vmem, ⟨0, _⟩ => ⟨S10000, .f32⟩
  | .local _ .vmem, ⟨1, _⟩ => ⟨S10000, .f32⟩
  | _, _ => ⟨S10000x1, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_cst_0 : Ref sig .tc := ⟨.hbm, 28, rfl⟩
abbrev main_v9 : Ref sig .tc := ⟨.hbm, 29, rfl⟩
abbrev main_c : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_cst_1 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_c_2 : Ref sig .tc := ⟨.hbm, 39, rfl⟩
abbrev main_v17 : Ref sig .tc := ⟨.hbm, 40, rfl⟩
abbrev main_v18 : Ref sig .tc := ⟨.hbm, 41, rfl⟩
abbrev main_c_3 : Ref sig .tc := ⟨.hbm, 42, rfl⟩
abbrev main_c_4 : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_v19 : Ref sig .tc := ⟨.hbm, 49, rfl⟩
abbrev main_v20 : Ref sig .tc := ⟨.hbm, 50, rfl⟩
abbrev main_c_5 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_cst_6 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_c_7 : Ref sig .tc := ⟨.hbm, 62, rfl⟩
abbrev main_v30 : Ref sig .tc := ⟨.hbm, 63, rfl⟩
abbrev main_v31 : Ref sig .tc := ⟨.hbm, 64, rfl⟩
abbrev main_c_8 : Ref sig .tc := ⟨.hbm, 65, rfl⟩
abbrev main_c_9 : Ref sig .tc := ⟨.hbm, 66, rfl⟩
abbrev main_call1_v0 : Ref sig .tc := ⟨.hbm, 67, rfl⟩
abbrev main_call1_v1 : Ref sig .tc := ⟨.hbm, 68, rfl⟩
abbrev main_call1_v2 : Ref sig .tc := ⟨.hbm, 69, rfl⟩
abbrev main_call1_v3 : Ref sig .tc := ⟨.hbm, 70, rfl⟩
abbrev main_call1_v4 : Ref sig .tc := ⟨.hbm, 71, rfl⟩
abbrev main_v32 : Ref sig .tc := ⟨.hbm, 72, rfl⟩
abbrev main_v33 : Ref sig .tc := ⟨.hbm, 73, rfl⟩
abbrev main_c_10 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_cst_11 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_c_12 : Ref sig .tc := ⟨.hbm, 85, rfl⟩
abbrev main_v43 : Ref sig .tc := ⟨.hbm, 86, rfl⟩
abbrev main_v44 : Ref sig .tc := ⟨.hbm, 87, rfl⟩
abbrev main_c_13 : Ref sig .tc := ⟨.hbm, 88, rfl⟩
abbrev main_c_14 : Ref sig .tc := ⟨.hbm, 89, rfl⟩
abbrev main_call2_v0 : Ref sig .tc := ⟨.hbm, 90, rfl⟩
abbrev main_call2_v1 : Ref sig .tc := ⟨.hbm, 91, rfl⟩
abbrev main_call2_v2 : Ref sig .tc := ⟨.hbm, 92, rfl⟩
abbrev main_call2_v3 : Ref sig .tc := ⟨.hbm, 93, rfl⟩
abbrev main_call2_v4 : Ref sig .tc := ⟨.hbm, 94, rfl⟩
abbrev main_v45 : Ref sig .tc := ⟨.hbm, 95, rfl⟩
abbrev main_v46 : Ref sig .tc := ⟨.hbm, 96, rfl⟩
abbrev main_c_15 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_cst_16 : Ref sig .tc := ⟨.hbm, 101, rfl⟩
abbrev main_v50 : Ref sig .tc := ⟨.hbm, 102, rfl⟩
abbrev main_c_17 : Ref sig .tc := ⟨.hbm, 103, rfl⟩
abbrev main_v51 : Ref sig .tc := ⟨.hbm, 104, rfl⟩
abbrev main_v52 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_c_18 : Ref sig .tc := ⟨.hbm, 109, rfl⟩
abbrev main_v56 : Ref sig .tc := ⟨.hbm, 110, rfl⟩
abbrev main_v57 : Ref sig .tc := ⟨.hbm, 111, rfl⟩
abbrev main_c_19 : Ref sig .tc := ⟨.hbm, 112, rfl⟩
abbrev main_c_20 : Ref sig .tc := ⟨.hbm, 113, rfl⟩
abbrev main_call3_v0 : Ref sig .tc := ⟨.hbm, 114, rfl⟩
abbrev main_call3_v1 : Ref sig .tc := ⟨.hbm, 115, rfl⟩
abbrev main_call3_v2 : Ref sig .tc := ⟨.hbm, 116, rfl⟩
abbrev main_call3_v3 : Ref sig .tc := ⟨.hbm, 117, rfl⟩
abbrev main_call3_v4 : Ref sig .tc := ⟨.hbm, 118, rfl⟩
abbrev main_v58 : Ref sig .tc := ⟨.hbm, 119, rfl⟩
abbrev main_v59 : Ref sig .tc := ⟨.hbm, 120, rfl⟩
abbrev main_c_21 : Ref sig .tc := ⟨.hbm, 121, rfl⟩
abbrev main_v60 : Ref sig .tc := ⟨.hbm, 122, rfl⟩
abbrev main_v61 : Ref sig .tc := ⟨.hbm, 123, rfl⟩
abbrev main_v62 : Ref sig .tc := ⟨.hbm, 124, rfl⟩
abbrev main_v63 : Ref sig .tc := ⟨.hbm, 125, rfl⟩
abbrev main_v64 : Ref sig .tc := ⟨.hbm, 126, rfl⟩
abbrev main_cst_22 : Ref sig .tc := ⟨.hbm, 127, rfl⟩
abbrev main_v65 : Ref sig .tc := ⟨.hbm, 128, rfl⟩
abbrev main_v66 : Ref sig .tc := ⟨.hbm, 129, rfl⟩
abbrev main_v67 : Ref sig .tc := ⟨.hbm, 130, rfl⟩
abbrev main_v68 : Ref sig .tc := ⟨.hbm, 131, rfl⟩
abbrev main_c_23 : Ref sig .tc := ⟨.hbm, 132, rfl⟩
abbrev main_v69 : Ref sig .tc := ⟨.hbm, 133, rfl⟩
abbrev main_v70 : Ref sig .tc := ⟨.hbm, 134, rfl⟩
abbrev main_c_24 : Ref sig .tc := ⟨.hbm, 135, rfl⟩
abbrev main_c_25 : Ref sig .tc := ⟨.hbm, 136, rfl⟩
abbrev main_call4_v0 : Ref sig .tc := ⟨.hbm, 137, rfl⟩
abbrev main_call4_v1 : Ref sig .tc := ⟨.hbm, 138, rfl⟩
abbrev main_call4_v2 : Ref sig .tc := ⟨.hbm, 139, rfl⟩
abbrev main_call4_v3 : Ref sig .tc := ⟨.hbm, 140, rfl⟩
abbrev main_call4_v4 : Ref sig .tc := ⟨.hbm, 141, rfl⟩
abbrev main_v71 : Ref sig .tc := ⟨.hbm, 142, rfl⟩
abbrev main_v72 : Ref sig .tc := ⟨.hbm, 143, rfl⟩
abbrev main_c_26 : Ref sig .tc := ⟨.hbm, 144, rfl⟩
abbrev main_v73 : Ref sig .tc := ⟨.hbm, 145, rfl⟩
abbrev main_v74 : Ref sig .tc := ⟨.hbm, 146, rfl⟩
abbrev main_v75 : Ref sig .tc := ⟨.hbm, 147, rfl⟩
abbrev main_v76 : Ref sig .tc := ⟨.hbm, 148, rfl⟩
abbrev main_v77 : Ref sig .tc := ⟨.hbm, 149, rfl⟩
abbrev main_cst_27 : Ref sig .tc := ⟨.hbm, 150, rfl⟩
abbrev main_v78 : Ref sig .tc := ⟨.hbm, 151, rfl⟩
abbrev main_v79 : Ref sig .tc := ⟨.hbm, 152, rfl⟩
abbrev main_v80 : Ref sig .tc := ⟨.hbm, 153, rfl⟩
abbrev main_v81 : Ref sig .tc := ⟨.hbm, 154, rfl⟩
abbrev main_c_28 : Ref sig .tc := ⟨.hbm, 155, rfl⟩
abbrev main_v82 : Ref sig .tc := ⟨.hbm, 156, rfl⟩
abbrev main_v83 : Ref sig .tc := ⟨.hbm, 157, rfl⟩
abbrev main_c_29 : Ref sig .tc := ⟨.hbm, 158, rfl⟩
abbrev main_c_30 : Ref sig .tc := ⟨.hbm, 159, rfl⟩
abbrev main_call5_v0 : Ref sig .tc := ⟨.hbm, 160, rfl⟩
abbrev main_call5_v1 : Ref sig .tc := ⟨.hbm, 161, rfl⟩
abbrev main_call5_v2 : Ref sig .tc := ⟨.hbm, 162, rfl⟩
abbrev main_call5_v3 : Ref sig .tc := ⟨.hbm, 163, rfl⟩
abbrev main_call5_v4 : Ref sig .tc := ⟨.hbm, 164, rfl⟩
abbrev main_v84 : Ref sig .tc := ⟨.hbm, 165, rfl⟩
abbrev main_v85 : Ref sig .tc := ⟨.hbm, 166, rfl⟩
abbrev main_c_31 : Ref sig .tc := ⟨.hbm, 167, rfl⟩
abbrev main_v86 : Ref sig .tc := ⟨.hbm, 168, rfl⟩
abbrev main_v87 : Ref sig .tc := ⟨.hbm, 169, rfl⟩
abbrev main_v88 : Ref sig .tc := ⟨.hbm, 170, rfl⟩
abbrev main_cst_32 : Ref sig .tc := ⟨.hbm, 171, rfl⟩
abbrev main_v89 : Ref sig .tc := ⟨.hbm, 172, rfl⟩
abbrev main_c_33 : Ref sig .tc := ⟨.hbm, 173, rfl⟩
abbrev main_v90 : Ref sig .tc := ⟨.hbm, 174, rfl⟩
abbrev main_v91 : Ref sig .tc := ⟨.hbm, 175, rfl⟩
abbrev main_v92 : Ref sig .tc := ⟨.hbm, 176, rfl⟩
abbrev main_cst_34 : Ref sig .tc := ⟨.hbm, 177, rfl⟩
abbrev main_v93 : Ref sig .tc := ⟨.hbm, 178, rfl⟩
abbrev main_v94 : Ref sig .tc := ⟨.hbm, 179, rfl⟩
abbrev main_v95 : Ref sig .tc := ⟨.hbm, 180, rfl⟩
abbrev main_v96 : Ref sig .tc := ⟨.hbm, 181, rfl⟩
abbrev main_c_35 : Ref sig .tc := ⟨.hbm, 182, rfl⟩
abbrev main_v97 : Ref sig .tc := ⟨.hbm, 183, rfl⟩
abbrev main_v98 : Ref sig .tc := ⟨.hbm, 184, rfl⟩
abbrev main_c_36 : Ref sig .tc := ⟨.hbm, 185, rfl⟩
abbrev main_c_37 : Ref sig .tc := ⟨.hbm, 186, rfl⟩
abbrev main_call6_v0 : Ref sig .tc := ⟨.hbm, 187, rfl⟩
abbrev main_call6_v1 : Ref sig .tc := ⟨.hbm, 188, rfl⟩
abbrev main_call6_v2 : Ref sig .tc := ⟨.hbm, 189, rfl⟩
abbrev main_call6_v3 : Ref sig .tc := ⟨.hbm, 190, rfl⟩
abbrev main_call6_v4 : Ref sig .tc := ⟨.hbm, 191, rfl⟩
abbrev main_v99 : Ref sig .tc := ⟨.hbm, 192, rfl⟩
abbrev main_v100 : Ref sig .tc := ⟨.hbm, 193, rfl⟩
abbrev main_c_38 : Ref sig .tc := ⟨.hbm, 194, rfl⟩
abbrev main_v101 : Ref sig .tc := ⟨.hbm, 195, rfl⟩
abbrev main_v102 : Ref sig .tc := ⟨.hbm, 196, rfl⟩
abbrev main_v103 : Ref sig .tc := ⟨.hbm, 197, rfl⟩
abbrev main_v104 : Ref sig .tc := ⟨.hbm, 198, rfl⟩
abbrev main_v105 : Ref sig .tc := ⟨.hbm, 199, rfl⟩
abbrev main_v106 : Ref sig .tc := ⟨.hbm, 200, rfl⟩
abbrev main_v107 : Ref sig .tc := ⟨.hbm, 201, rfl⟩
abbrev main_c_39 : Ref sig .tc := ⟨.hbm, 202, rfl⟩
abbrev main_v108 : Ref sig .tc := ⟨.hbm, 203, rfl⟩
abbrev main_v109 : Ref sig .tc := ⟨.hbm, 204, rfl⟩
abbrev main_c_40 : Ref sig .tc := ⟨.hbm, 205, rfl⟩
abbrev main_c_41 : Ref sig .tc := ⟨.hbm, 206, rfl⟩
abbrev main_call7_v0 : Ref sig .tc := ⟨.hbm, 207, rfl⟩
abbrev main_call7_v1 : Ref sig .tc := ⟨.hbm, 208, rfl⟩
abbrev main_call7_v2 : Ref sig .tc := ⟨.hbm, 209, rfl⟩
abbrev main_call7_v3 : Ref sig .tc := ⟨.hbm, 210, rfl⟩
abbrev main_call7_v4 : Ref sig .tc := ⟨.hbm, 211, rfl⟩
abbrev main_v110 : Ref sig .tc := ⟨.hbm, 212, rfl⟩
abbrev main_v111 : Ref sig .tc := ⟨.hbm, 213, rfl⟩
abbrev main_c_42 : Ref sig .tc := ⟨.hbm, 214, rfl⟩
abbrev main_v112 : Ref sig .tc := ⟨.hbm, 215, rfl⟩
abbrev main_v113 : Ref sig .tc := ⟨.hbm, 216, rfl⟩
abbrev main_v114 : Ref sig .tc := ⟨.hbm, 217, rfl⟩
abbrev main_v115 : Ref sig .tc := ⟨.hbm, 218, rfl⟩
abbrev main_v116 : Ref sig .tc := ⟨.hbm, 219, rfl⟩
abbrev main_cst_43 : Ref sig .tc := ⟨.hbm, 220, rfl⟩
abbrev main_v117 : Ref sig .tc := ⟨.hbm, 221, rfl⟩
abbrev main_v118 : Ref sig .tc := ⟨.hbm, 222, rfl⟩
abbrev main_v119 : Ref sig .tc := ⟨.hbm, 223, rfl⟩
abbrev main_v120 : Ref sig .tc := ⟨.hbm, 224, rfl⟩
abbrev main_c_44 : Ref sig .tc := ⟨.hbm, 225, rfl⟩
abbrev main_v121 : Ref sig .tc := ⟨.hbm, 226, rfl⟩
abbrev main_v122 : Ref sig .tc := ⟨.hbm, 227, rfl⟩
abbrev main_c_45 : Ref sig .tc := ⟨.hbm, 228, rfl⟩
abbrev main_c_46 : Ref sig .tc := ⟨.hbm, 229, rfl⟩
abbrev main_call8_v0 : Ref sig .tc := ⟨.hbm, 230, rfl⟩
abbrev main_call8_v1 : Ref sig .tc := ⟨.hbm, 231, rfl⟩
abbrev main_call8_v2 : Ref sig .tc := ⟨.hbm, 232, rfl⟩
abbrev main_call8_v3 : Ref sig .tc := ⟨.hbm, 233, rfl⟩
abbrev main_call8_v4 : Ref sig .tc := ⟨.hbm, 234, rfl⟩
abbrev main_v123 : Ref sig .tc := ⟨.hbm, 235, rfl⟩
abbrev main_v124 : Ref sig .tc := ⟨.hbm, 236, rfl⟩
abbrev main_c_47 : Ref sig .tc := ⟨.hbm, 237, rfl⟩
abbrev main_v125 : Ref sig .tc := ⟨.hbm, 238, rfl⟩
abbrev main_v126 : Ref sig .tc := ⟨.hbm, 239, rfl⟩
abbrev main_v127 : Ref sig .tc := ⟨.hbm, 240, rfl⟩
abbrev main_cst_48 : Ref sig .tc := ⟨.hbm, 241, rfl⟩
abbrev main_v128 : Ref sig .tc := ⟨.hbm, 242, rfl⟩
abbrev main_c_49 : Ref sig .tc := ⟨.hbm, 243, rfl⟩
abbrev main_v129 : Ref sig .tc := ⟨.hbm, 244, rfl⟩
abbrev main_v130 : Ref sig .tc := ⟨.hbm, 245, rfl⟩
abbrev main_v131 : Ref sig .tc := ⟨.hbm, 246, rfl⟩
abbrev main_v132 : Ref sig .tc := ⟨.hbm, 247, rfl⟩
abbrev main_v133 : Ref sig .tc := ⟨.hbm, 248, rfl⟩
abbrev main_c_50 : Ref sig .tc := ⟨.hbm, 249, rfl⟩
abbrev main_v134 : Ref sig .tc := ⟨.hbm, 250, rfl⟩
abbrev main_v135 : Ref sig .tc := ⟨.hbm, 251, rfl⟩
abbrev main_c_51 : Ref sig .tc := ⟨.hbm, 252, rfl⟩
abbrev main_c_52 : Ref sig .tc := ⟨.hbm, 253, rfl⟩
abbrev main_call9_v0 : Ref sig .tc := ⟨.hbm, 254, rfl⟩
abbrev main_call9_v1 : Ref sig .tc := ⟨.hbm, 255, rfl⟩
abbrev main_call9_v2 : Ref sig .tc := ⟨.hbm, 256, rfl⟩
abbrev main_call9_v3 : Ref sig .tc := ⟨.hbm, 257, rfl⟩
abbrev main_call9_v4 : Ref sig .tc := ⟨.hbm, 258, rfl⟩
abbrev main_v136 : Ref sig .tc := ⟨.hbm, 259, rfl⟩
abbrev main_v137 : Ref sig .tc := ⟨.hbm, 260, rfl⟩
abbrev main_c_53 : Ref sig .tc := ⟨.hbm, 261, rfl⟩
abbrev main_v138 : Ref sig .tc := ⟨.hbm, 262, rfl⟩
abbrev main_v139 : Ref sig .tc := ⟨.hbm, 263, rfl⟩
abbrev main_v140 : Ref sig .tc := ⟨.hbm, 264, rfl⟩
abbrev main_v141 : Ref sig .tc := ⟨.hbm, 265, rfl⟩
abbrev main_v142 : Ref sig .tc := ⟨.hbm, 266, rfl⟩
abbrev main_v143 : Ref sig .tc := ⟨.hbm, 267, rfl⟩
abbrev main_v144 : Ref sig .tc := ⟨.hbm, 268, rfl⟩
abbrev main_c_54 : Ref sig .tc := ⟨.hbm, 269, rfl⟩
abbrev main_v145 : Ref sig .tc := ⟨.hbm, 270, rfl⟩
abbrev main_v146 : Ref sig .tc := ⟨.hbm, 271, rfl⟩
abbrev main_c_55 : Ref sig .tc := ⟨.hbm, 272, rfl⟩
abbrev main_c_56 : Ref sig .tc := ⟨.hbm, 273, rfl⟩
abbrev main_call10_v0 : Ref sig .tc := ⟨.hbm, 274, rfl⟩
abbrev main_call10_v1 : Ref sig .tc := ⟨.hbm, 275, rfl⟩
abbrev main_call10_v2 : Ref sig .tc := ⟨.hbm, 276, rfl⟩
abbrev main_call10_v3 : Ref sig .tc := ⟨.hbm, 277, rfl⟩
abbrev main_call10_v4 : Ref sig .tc := ⟨.hbm, 278, rfl⟩
abbrev main_v147 : Ref sig .tc := ⟨.hbm, 279, rfl⟩
abbrev main_v148 : Ref sig .tc := ⟨.hbm, 280, rfl⟩
abbrev main_c_57 : Ref sig .tc := ⟨.hbm, 281, rfl⟩
abbrev main_v149 : Ref sig .tc := ⟨.hbm, 282, rfl⟩
abbrev main_v150 : Ref sig .tc := ⟨.hbm, 283, rfl⟩
abbrev main_v151 : Ref sig .tc := ⟨.hbm, 284, rfl⟩
abbrev main_v152 : Ref sig .tc := ⟨.hbm, 285, rfl⟩
abbrev main_v153 : Ref sig .tc := ⟨.hbm, 286, rfl⟩
abbrev main_cst_58 : Ref sig .tc := ⟨.hbm, 287, rfl⟩
abbrev main_v154 : Ref sig .tc := ⟨.hbm, 288, rfl⟩
abbrev main_v155 : Ref sig .tc := ⟨.hbm, 289, rfl⟩
abbrev main_v156 : Ref sig .tc := ⟨.hbm, 290, rfl⟩
abbrev main_v157 : Ref sig .tc := ⟨.hbm, 291, rfl⟩
abbrev main_c_59 : Ref sig .tc := ⟨.hbm, 292, rfl⟩
abbrev main_v158 : Ref sig .tc := ⟨.hbm, 293, rfl⟩
abbrev main_v159 : Ref sig .tc := ⟨.hbm, 294, rfl⟩
abbrev main_c_60 : Ref sig .tc := ⟨.hbm, 295, rfl⟩
abbrev main_c_61 : Ref sig .tc := ⟨.hbm, 296, rfl⟩
abbrev main_call11_v0 : Ref sig .tc := ⟨.hbm, 297, rfl⟩
abbrev main_call11_v1 : Ref sig .tc := ⟨.hbm, 298, rfl⟩
abbrev main_call11_v2 : Ref sig .tc := ⟨.hbm, 299, rfl⟩
abbrev main_call11_v3 : Ref sig .tc := ⟨.hbm, 300, rfl⟩
abbrev main_call11_v4 : Ref sig .tc := ⟨.hbm, 301, rfl⟩
abbrev main_v160 : Ref sig .tc := ⟨.hbm, 302, rfl⟩
abbrev main_v161 : Ref sig .tc := ⟨.hbm, 303, rfl⟩
abbrev main_c_62 : Ref sig .tc := ⟨.hbm, 304, rfl⟩
abbrev main_v162 : Ref sig .tc := ⟨.hbm, 305, rfl⟩
abbrev main_v163 : Ref sig .tc := ⟨.hbm, 306, rfl⟩
abbrev main_v164 : Ref sig .tc := ⟨.hbm, 307, rfl⟩
abbrev main_cst_63 : Ref sig .tc := ⟨.hbm, 308, rfl⟩
abbrev main_v165 : Ref sig .tc := ⟨.hbm, 309, rfl⟩
abbrev main_c_64 : Ref sig .tc := ⟨.hbm, 310, rfl⟩
abbrev main_v166 : Ref sig .tc := ⟨.hbm, 311, rfl⟩
abbrev main_v167 : Ref sig .tc := ⟨.hbm, 312, rfl⟩
abbrev main_v168 : Ref sig .tc := ⟨.hbm, 313, rfl⟩
abbrev main_cst_65 : Ref sig .tc := ⟨.hbm, 314, rfl⟩
abbrev main_v169 : Ref sig .tc := ⟨.hbm, 315, rfl⟩
abbrev main_v170 : Ref sig .tc := ⟨.hbm, 316, rfl⟩
abbrev main_v171 : Ref sig .tc := ⟨.hbm, 317, rfl⟩
abbrev main_v172 : Ref sig .tc := ⟨.hbm, 318, rfl⟩
abbrev main_c_66 : Ref sig .tc := ⟨.hbm, 319, rfl⟩
abbrev main_v173 : Ref sig .tc := ⟨.hbm, 320, rfl⟩
abbrev main_v174 : Ref sig .tc := ⟨.hbm, 321, rfl⟩
abbrev main_c_67 : Ref sig .tc := ⟨.hbm, 322, rfl⟩
abbrev main_c_68 : Ref sig .tc := ⟨.hbm, 323, rfl⟩
abbrev main_call12_v0 : Ref sig .tc := ⟨.hbm, 324, rfl⟩
abbrev main_call12_v1 : Ref sig .tc := ⟨.hbm, 325, rfl⟩
abbrev main_call12_v2 : Ref sig .tc := ⟨.hbm, 326, rfl⟩
abbrev main_call12_v3 : Ref sig .tc := ⟨.hbm, 327, rfl⟩
abbrev main_call12_v4 : Ref sig .tc := ⟨.hbm, 328, rfl⟩
abbrev main_v175 : Ref sig .tc := ⟨.hbm, 329, rfl⟩
abbrev main_v176 : Ref sig .tc := ⟨.hbm, 330, rfl⟩
abbrev main_c_69 : Ref sig .tc := ⟨.hbm, 331, rfl⟩
abbrev main_v177 : Ref sig .tc := ⟨.hbm, 332, rfl⟩
abbrev main_v178 : Ref sig .tc := ⟨.hbm, 333, rfl⟩
abbrev main_v179 : Ref sig .tc := ⟨.hbm, 334, rfl⟩
abbrev main_v180 : Ref sig .tc := ⟨.hbm, 335, rfl⟩
abbrev main_v181 : Ref sig .tc := ⟨.hbm, 336, rfl⟩
abbrev main_cst_70 : Ref sig .tc := ⟨.hbm, 337, rfl⟩
abbrev main_v182 : Ref sig .tc := ⟨.hbm, 338, rfl⟩
abbrev main_v183 : Ref sig .tc := ⟨.hbm, 339, rfl⟩
abbrev main_v184 : Ref sig .tc := ⟨.hbm, 340, rfl⟩
abbrev main_v185 : Ref sig .tc := ⟨.hbm, 341, rfl⟩
abbrev main_c_71 : Ref sig .tc := ⟨.hbm, 342, rfl⟩
abbrev main_v186 : Ref sig .tc := ⟨.hbm, 343, rfl⟩
abbrev main_v187 : Ref sig .tc := ⟨.hbm, 344, rfl⟩
abbrev main_c_72 : Ref sig .tc := ⟨.hbm, 345, rfl⟩
abbrev main_c_73 : Ref sig .tc := ⟨.hbm, 346, rfl⟩
abbrev main_call13_v0 : Ref sig .tc := ⟨.hbm, 347, rfl⟩
abbrev main_call13_v1 : Ref sig .tc := ⟨.hbm, 348, rfl⟩
abbrev main_call13_v2 : Ref sig .tc := ⟨.hbm, 349, rfl⟩
abbrev main_call13_v3 : Ref sig .tc := ⟨.hbm, 350, rfl⟩
abbrev main_call13_v4 : Ref sig .tc := ⟨.hbm, 351, rfl⟩
abbrev main_v188 : Ref sig .tc := ⟨.hbm, 352, rfl⟩
abbrev main_v189 : Ref sig .tc := ⟨.hbm, 353, rfl⟩
abbrev main_c_74 : Ref sig .tc := ⟨.hbm, 354, rfl⟩
abbrev main_v190 : Ref sig .tc := ⟨.hbm, 355, rfl⟩
abbrev main_v191 : Ref sig .tc := ⟨.hbm, 356, rfl⟩
abbrev main_v192 : Ref sig .tc := ⟨.hbm, 357, rfl⟩
abbrev main_v193 : Ref sig .tc := ⟨.hbm, 358, rfl⟩
abbrev main_v194 : Ref sig .tc := ⟨.hbm, 359, rfl⟩
abbrev main_v195 : Ref sig .tc := ⟨.hbm, 360, rfl⟩
abbrev main_v196 : Ref sig .tc := ⟨.hbm, 361, rfl⟩
abbrev main_c_75 : Ref sig .tc := ⟨.hbm, 362, rfl⟩
abbrev main_v197 : Ref sig .tc := ⟨.hbm, 363, rfl⟩
abbrev main_v198 : Ref sig .tc := ⟨.hbm, 364, rfl⟩
abbrev main_c_76 : Ref sig .tc := ⟨.hbm, 365, rfl⟩
abbrev main_c_77 : Ref sig .tc := ⟨.hbm, 366, rfl⟩
abbrev main_call14_v0 : Ref sig .tc := ⟨.hbm, 367, rfl⟩
abbrev main_call14_v1 : Ref sig .tc := ⟨.hbm, 368, rfl⟩
abbrev main_call14_v2 : Ref sig .tc := ⟨.hbm, 369, rfl⟩
abbrev main_call14_v3 : Ref sig .tc := ⟨.hbm, 370, rfl⟩
abbrev main_call14_v4 : Ref sig .tc := ⟨.hbm, 371, rfl⟩
abbrev main_v199 : Ref sig .tc := ⟨.hbm, 372, rfl⟩
abbrev main_v200 : Ref sig .tc := ⟨.hbm, 373, rfl⟩
abbrev main_c_78 : Ref sig .tc := ⟨.hbm, 374, rfl⟩
abbrev main_v201 : Ref sig .tc := ⟨.hbm, 375, rfl⟩
abbrev main_v202 : Ref sig .tc := ⟨.hbm, 376, rfl⟩
abbrev main_v203 : Ref sig .tc := ⟨.hbm, 377, rfl⟩
abbrev main_cst_79 : Ref sig .tc := ⟨.hbm, 378, rfl⟩
abbrev main_v204 : Ref sig .tc := ⟨.hbm, 379, rfl⟩
abbrev main_c_80 : Ref sig .tc := ⟨.hbm, 380, rfl⟩
abbrev main_v205 : Ref sig .tc := ⟨.hbm, 381, rfl⟩
abbrev main_v206 : Ref sig .tc := ⟨.hbm, 382, rfl⟩
abbrev main_v207 : Ref sig .tc := ⟨.hbm, 383, rfl⟩
abbrev main_v208 : Ref sig .tc := ⟨.hbm, 384, rfl⟩
abbrev main_v209 : Ref sig .tc := ⟨.hbm, 385, rfl⟩
abbrev main_c_81 : Ref sig .tc := ⟨.hbm, 386, rfl⟩
abbrev main_v210 : Ref sig .tc := ⟨.hbm, 387, rfl⟩
abbrev main_v211 : Ref sig .tc := ⟨.hbm, 388, rfl⟩
abbrev main_c_82 : Ref sig .tc := ⟨.hbm, 389, rfl⟩
abbrev main_c_83 : Ref sig .tc := ⟨.hbm, 390, rfl⟩
abbrev main_call15_v0 : Ref sig .tc := ⟨.hbm, 391, rfl⟩
abbrev main_call15_v1 : Ref sig .tc := ⟨.hbm, 392, rfl⟩
abbrev main_call15_v2 : Ref sig .tc := ⟨.hbm, 393, rfl⟩
abbrev main_call15_v3 : Ref sig .tc := ⟨.hbm, 394, rfl⟩
abbrev main_call15_v4 : Ref sig .tc := ⟨.hbm, 395, rfl⟩
abbrev main_v212 : Ref sig .tc := ⟨.hbm, 396, rfl⟩
abbrev main_v213 : Ref sig .tc := ⟨.hbm, 397, rfl⟩
abbrev main_c_84 : Ref sig .tc := ⟨.hbm, 398, rfl⟩
abbrev main_v214 : Ref sig .tc := ⟨.hbm, 399, rfl⟩
abbrev main_v215 : Ref sig .tc := ⟨.hbm, 400, rfl⟩
abbrev main_v216 : Ref sig .tc := ⟨.hbm, 401, rfl⟩
abbrev main_v217 : Ref sig .tc := ⟨.hbm, 402, rfl⟩
abbrev main_v218 : Ref sig .tc := ⟨.hbm, 403, rfl⟩
abbrev main_cst_85 : Ref sig .tc := ⟨.hbm, 404, rfl⟩
abbrev main_v219 : Ref sig .tc := ⟨.hbm, 405, rfl⟩
abbrev main_v220 : Ref sig .tc := ⟨.hbm, 406, rfl⟩
abbrev main_v221 : Ref sig .tc := ⟨.hbm, 407, rfl⟩
abbrev main_v222 : Ref sig .tc := ⟨.hbm, 408, rfl⟩
abbrev main_c_86 : Ref sig .tc := ⟨.hbm, 409, rfl⟩
abbrev main_v223 : Ref sig .tc := ⟨.hbm, 410, rfl⟩
abbrev main_v224 : Ref sig .tc := ⟨.hbm, 411, rfl⟩
abbrev main_c_87 : Ref sig .tc := ⟨.hbm, 412, rfl⟩
abbrev main_c_88 : Ref sig .tc := ⟨.hbm, 413, rfl⟩
abbrev main_call16_v0 : Ref sig .tc := ⟨.hbm, 414, rfl⟩
abbrev main_call16_v1 : Ref sig .tc := ⟨.hbm, 415, rfl⟩
abbrev main_call16_v2 : Ref sig .tc := ⟨.hbm, 416, rfl⟩
abbrev main_call16_v3 : Ref sig .tc := ⟨.hbm, 417, rfl⟩
abbrev main_call16_v4 : Ref sig .tc := ⟨.hbm, 418, rfl⟩
abbrev main_v225 : Ref sig .tc := ⟨.hbm, 419, rfl⟩
abbrev main_v226 : Ref sig .tc := ⟨.hbm, 420, rfl⟩
abbrev main_c_89 : Ref sig .tc := ⟨.hbm, 421, rfl⟩
abbrev main_v227 : Ref sig .tc := ⟨.hbm, 422, rfl⟩
abbrev main_v228 : Ref sig .tc := ⟨.hbm, 423, rfl⟩
abbrev main_v229 : Ref sig .tc := ⟨.hbm, 424, rfl⟩
abbrev main_v230 : Ref sig .tc := ⟨.hbm, 425, rfl⟩
abbrev main_v231 : Ref sig .tc := ⟨.hbm, 426, rfl⟩
abbrev main_v232 : Ref sig .tc := ⟨.hbm, 427, rfl⟩
abbrev main_v233 : Ref sig .tc := ⟨.hbm, 428, rfl⟩
abbrev main_c_90 : Ref sig .tc := ⟨.hbm, 429, rfl⟩
abbrev main_v234 : Ref sig .tc := ⟨.hbm, 430, rfl⟩
abbrev main_v235 : Ref sig .tc := ⟨.hbm, 431, rfl⟩
abbrev main_c_91 : Ref sig .tc := ⟨.hbm, 432, rfl⟩
abbrev main_c_92 : Ref sig .tc := ⟨.hbm, 433, rfl⟩
abbrev main_call17_v0 : Ref sig .tc := ⟨.hbm, 434, rfl⟩
abbrev main_call17_v1 : Ref sig .tc := ⟨.hbm, 435, rfl⟩
abbrev main_call17_v2 : Ref sig .tc := ⟨.hbm, 436, rfl⟩
abbrev main_call17_v3 : Ref sig .tc := ⟨.hbm, 437, rfl⟩
abbrev main_call17_v4 : Ref sig .tc := ⟨.hbm, 438, rfl⟩
abbrev main_v236 : Ref sig .tc := ⟨.hbm, 439, rfl⟩
abbrev main_v237 : Ref sig .tc := ⟨.hbm, 440, rfl⟩
abbrev main_c_93 : Ref sig .tc := ⟨.hbm, 441, rfl⟩
abbrev main_v238 : Ref sig .tc := ⟨.hbm, 442, rfl⟩
abbrev main_v239 : Ref sig .tc := ⟨.hbm, 443, rfl⟩
abbrev main_v240 : Ref sig .tc := ⟨.hbm, 444, rfl⟩
abbrev main_cst_94 : Ref sig .tc := ⟨.hbm, 445, rfl⟩
abbrev main_v241 : Ref sig .tc := ⟨.hbm, 446, rfl⟩
abbrev main_c_95 : Ref sig .tc := ⟨.hbm, 447, rfl⟩
abbrev main_v242 : Ref sig .tc := ⟨.hbm, 448, rfl⟩
abbrev main_v243 : Ref sig .tc := ⟨.hbm, 449, rfl⟩
abbrev main_v244 : Ref sig .tc := ⟨.hbm, 450, rfl⟩
abbrev main_cst_96 : Ref sig .tc := ⟨.hbm, 451, rfl⟩
abbrev main_v245 : Ref sig .tc := ⟨.hbm, 452, rfl⟩
abbrev main_v246 : Ref sig .tc := ⟨.hbm, 453, rfl⟩
abbrev main_v247 : Ref sig .tc := ⟨.hbm, 454, rfl⟩
abbrev main_v248 : Ref sig .tc := ⟨.hbm, 455, rfl⟩
abbrev main_c_97 : Ref sig .tc := ⟨.hbm, 456, rfl⟩
abbrev main_v249 : Ref sig .tc := ⟨.hbm, 457, rfl⟩
abbrev main_v250 : Ref sig .tc := ⟨.hbm, 458, rfl⟩
abbrev main_c_98 : Ref sig .tc := ⟨.hbm, 459, rfl⟩
abbrev main_c_99 : Ref sig .tc := ⟨.hbm, 460, rfl⟩
abbrev main_call18_v0 : Ref sig .tc := ⟨.hbm, 461, rfl⟩
abbrev main_call18_v1 : Ref sig .tc := ⟨.hbm, 462, rfl⟩
abbrev main_call18_v2 : Ref sig .tc := ⟨.hbm, 463, rfl⟩
abbrev main_call18_v3 : Ref sig .tc := ⟨.hbm, 464, rfl⟩
abbrev main_call18_v4 : Ref sig .tc := ⟨.hbm, 465, rfl⟩
abbrev main_v251 : Ref sig .tc := ⟨.hbm, 466, rfl⟩
abbrev main_v252 : Ref sig .tc := ⟨.hbm, 467, rfl⟩
abbrev main_c_100 : Ref sig .tc := ⟨.hbm, 468, rfl⟩
abbrev main_v253 : Ref sig .tc := ⟨.hbm, 469, rfl⟩
abbrev main_v254 : Ref sig .tc := ⟨.hbm, 470, rfl⟩
abbrev main_v255 : Ref sig .tc := ⟨.hbm, 471, rfl⟩
abbrev main_v256 : Ref sig .tc := ⟨.hbm, 472, rfl⟩
abbrev main_v257 : Ref sig .tc := ⟨.hbm, 473, rfl⟩
abbrev main_v258 : Ref sig .tc := ⟨.hbm, 474, rfl⟩
abbrev main_v259 : Ref sig .tc := ⟨.hbm, 475, rfl⟩
abbrev main_c_101 : Ref sig .tc := ⟨.hbm, 476, rfl⟩
abbrev main_v260 : Ref sig .tc := ⟨.hbm, 477, rfl⟩
abbrev main_v261 : Ref sig .tc := ⟨.hbm, 478, rfl⟩
abbrev main_c_102 : Ref sig .tc := ⟨.hbm, 479, rfl⟩
abbrev main_c_103 : Ref sig .tc := ⟨.hbm, 480, rfl⟩
abbrev main_call19_v0 : Ref sig .tc := ⟨.hbm, 481, rfl⟩
abbrev main_call19_v1 : Ref sig .tc := ⟨.hbm, 482, rfl⟩
abbrev main_call19_v2 : Ref sig .tc := ⟨.hbm, 483, rfl⟩
abbrev main_call19_v3 : Ref sig .tc := ⟨.hbm, 484, rfl⟩
abbrev main_call19_v4 : Ref sig .tc := ⟨.hbm, 485, rfl⟩
abbrev main_v262 : Ref sig .tc := ⟨.hbm, 486, rfl⟩
abbrev main_v263 : Ref sig .tc := ⟨.hbm, 487, rfl⟩
abbrev main_c_104 : Ref sig .tc := ⟨.hbm, 488, rfl⟩
abbrev main_v264 : Ref sig .tc := ⟨.hbm, 489, rfl⟩
abbrev main_v265 : Ref sig .tc := ⟨.hbm, 490, rfl⟩
abbrev main_v266 : Ref sig .tc := ⟨.hbm, 491, rfl⟩
abbrev main_v267 : Ref sig .tc := ⟨.hbm, 492, rfl⟩
abbrev main_v268 : Ref sig .tc := ⟨.hbm, 493, rfl⟩
abbrev main_v269 : Ref sig .tc := ⟨.hbm, 494, rfl⟩
abbrev main_v270 : Ref sig .tc := ⟨.hbm, 495, rfl⟩
abbrev main_c_105 : Ref sig .tc := ⟨.hbm, 496, rfl⟩
abbrev main_v271 : Ref sig .tc := ⟨.hbm, 497, rfl⟩
abbrev main_v272 : Ref sig .tc := ⟨.hbm, 498, rfl⟩
abbrev main_c_106 : Ref sig .tc := ⟨.hbm, 499, rfl⟩
abbrev main_c_107 : Ref sig .tc := ⟨.hbm, 500, rfl⟩
abbrev main_call20_v0 : Ref sig .tc := ⟨.hbm, 501, rfl⟩
abbrev main_call20_v1 : Ref sig .tc := ⟨.hbm, 502, rfl⟩
abbrev main_call20_v2 : Ref sig .tc := ⟨.hbm, 503, rfl⟩
abbrev main_call20_v3 : Ref sig .tc := ⟨.hbm, 504, rfl⟩
abbrev main_call20_v4 : Ref sig .tc := ⟨.hbm, 505, rfl⟩
abbrev main_v273 : Ref sig .tc := ⟨.hbm, 506, rfl⟩
abbrev main_v274 : Ref sig .tc := ⟨.hbm, 507, rfl⟩
abbrev main_c_108 : Ref sig .tc := ⟨.hbm, 508, rfl⟩
abbrev main_v275 : Ref sig .tc := ⟨.hbm, 509, rfl⟩
abbrev main_v276 : Ref sig .tc := ⟨.hbm, 510, rfl⟩
abbrev main_v277 : Ref sig .tc := ⟨.hbm, 511, rfl⟩
abbrev main_cst_109 : Ref sig .tc := ⟨.hbm, 512, rfl⟩
abbrev main_v278 : Ref sig .tc := ⟨.hbm, 513, rfl⟩
abbrev main_c_110 : Ref sig .tc := ⟨.hbm, 514, rfl⟩
abbrev main_v279 : Ref sig .tc := ⟨.hbm, 515, rfl⟩
abbrev main_v280 : Ref sig .tc := ⟨.hbm, 516, rfl⟩
abbrev main_v281 : Ref sig .tc := ⟨.hbm, 517, rfl⟩
abbrev main_v282 : Ref sig .tc := ⟨.hbm, 518, rfl⟩
abbrev main_v283 : Ref sig .tc := ⟨.hbm, 519, rfl⟩
abbrev main_c_111 : Ref sig .tc := ⟨.hbm, 520, rfl⟩
abbrev main_v284 : Ref sig .tc := ⟨.hbm, 521, rfl⟩
abbrev main_v285 : Ref sig .tc := ⟨.hbm, 522, rfl⟩
abbrev main_c_112 : Ref sig .tc := ⟨.hbm, 523, rfl⟩
abbrev main_c_113 : Ref sig .tc := ⟨.hbm, 524, rfl⟩
abbrev main_call21_v0 : Ref sig .tc := ⟨.hbm, 525, rfl⟩
abbrev main_call21_v1 : Ref sig .tc := ⟨.hbm, 526, rfl⟩
abbrev main_call21_v2 : Ref sig .tc := ⟨.hbm, 527, rfl⟩
abbrev main_call21_v3 : Ref sig .tc := ⟨.hbm, 528, rfl⟩
abbrev main_call21_v4 : Ref sig .tc := ⟨.hbm, 529, rfl⟩
abbrev main_v286 : Ref sig .tc := ⟨.hbm, 530, rfl⟩
abbrev main_v287 : Ref sig .tc := ⟨.hbm, 531, rfl⟩
abbrev main_c_114 : Ref sig .tc := ⟨.hbm, 532, rfl⟩
abbrev main_v288 : Ref sig .tc := ⟨.hbm, 533, rfl⟩
abbrev main_v289 : Ref sig .tc := ⟨.hbm, 534, rfl⟩
abbrev main_v290 : Ref sig .tc := ⟨.hbm, 535, rfl⟩
abbrev main_v291 : Ref sig .tc := ⟨.hbm, 536, rfl⟩
abbrev main_v292 : Ref sig .tc := ⟨.hbm, 537, rfl⟩
abbrev main_v293 : Ref sig .tc := ⟨.hbm, 538, rfl⟩
abbrev main_v294 : Ref sig .tc := ⟨.hbm, 539, rfl⟩
abbrev main_c_115 : Ref sig .tc := ⟨.hbm, 540, rfl⟩
abbrev main_v295 : Ref sig .tc := ⟨.hbm, 541, rfl⟩
abbrev main_v296 : Ref sig .tc := ⟨.hbm, 542, rfl⟩
abbrev main_c_116 : Ref sig .tc := ⟨.hbm, 543, rfl⟩
abbrev main_c_117 : Ref sig .tc := ⟨.hbm, 544, rfl⟩
abbrev main_call22_v0 : Ref sig .tc := ⟨.hbm, 545, rfl⟩
abbrev main_call22_v1 : Ref sig .tc := ⟨.hbm, 546, rfl⟩
abbrev main_call22_v2 : Ref sig .tc := ⟨.hbm, 547, rfl⟩
abbrev main_call22_v3 : Ref sig .tc := ⟨.hbm, 548, rfl⟩
abbrev main_call22_v4 : Ref sig .tc := ⟨.hbm, 549, rfl⟩
abbrev main_v297 : Ref sig .tc := ⟨.hbm, 550, rfl⟩
abbrev main_v298 : Ref sig .tc := ⟨.hbm, 551, rfl⟩
abbrev main_c_118 : Ref sig .tc := ⟨.hbm, 552, rfl⟩
abbrev main_v299 : Ref sig .tc := ⟨.hbm, 553, rfl⟩
abbrev main_v300 : Ref sig .tc := ⟨.hbm, 554, rfl⟩
abbrev main_v301 : Ref sig .tc := ⟨.hbm, 555, rfl⟩
abbrev main_v302 : Ref sig .tc := ⟨.hbm, 556, rfl⟩
abbrev main_v303 : Ref sig .tc := ⟨.hbm, 557, rfl⟩
abbrev main_v304 : Ref sig .tc := ⟨.hbm, 558, rfl⟩
abbrev main_v305 : Ref sig .tc := ⟨.hbm, 559, rfl⟩
abbrev main_c_119 : Ref sig .tc := ⟨.hbm, 560, rfl⟩
abbrev main_v306 : Ref sig .tc := ⟨.hbm, 561, rfl⟩
abbrev main_v307 : Ref sig .tc := ⟨.hbm, 562, rfl⟩
abbrev main_c_120 : Ref sig .tc := ⟨.hbm, 563, rfl⟩
abbrev main_c_121 : Ref sig .tc := ⟨.hbm, 564, rfl⟩
abbrev main_call23_v0 : Ref sig .tc := ⟨.hbm, 565, rfl⟩
abbrev main_call23_v1 : Ref sig .tc := ⟨.hbm, 566, rfl⟩
abbrev main_call23_v2 : Ref sig .tc := ⟨.hbm, 567, rfl⟩
abbrev main_call23_v3 : Ref sig .tc := ⟨.hbm, 568, rfl⟩
abbrev main_call23_v4 : Ref sig .tc := ⟨.hbm, 569, rfl⟩
abbrev main_v308 : Ref sig .tc := ⟨.hbm, 570, rfl⟩
abbrev main_v309 : Ref sig .tc := ⟨.hbm, 571, rfl⟩
abbrev main_c_122 : Ref sig .tc := ⟨.hbm, 572, rfl⟩
abbrev main_v310 : Ref sig .tc := ⟨.hbm, 573, rfl⟩
abbrev main_v311 : Ref sig .tc := ⟨.hbm, 574, rfl⟩
abbrev main_v312 : Ref sig .tc := ⟨.hbm, 575, rfl⟩
abbrev main_v313 : Ref sig .tc := ⟨.hbm, 576, rfl⟩
abbrev main_v314 : Ref sig .tc := ⟨.hbm, 577, rfl⟩
abbrev main_v315 : Ref sig .tc := ⟨.hbm, 578, rfl⟩
abbrev main_v316 : Ref sig .tc := ⟨.hbm, 579, rfl⟩
abbrev main_v317 : Ref sig .tc := ⟨.hbm, 580, rfl⟩
abbrev main_v318 : Ref sig .tc := ⟨.hbm, 581, rfl⟩
abbrev main_v319 : Ref sig .tc := ⟨.hbm, 582, rfl⟩
abbrev main_v320 : Ref sig .tc := ⟨.hbm, 583, rfl⟩
abbrev main_v321 : Ref sig .tc := ⟨.hbm, 584, rfl⟩
abbrev main_v322 : Ref sig .tc := ⟨.hbm, 585, rfl⟩
abbrev main_v323 : Ref sig .tc := ⟨.hbm, 586, rfl⟩
abbrev main_v324 : Ref sig .tc := ⟨.hbm, 587, rfl⟩
abbrev main_v325 : Ref sig .tc := ⟨.hbm, 588, rfl⟩
abbrev main_v326 : Ref sig .tc := ⟨.hbm, 589, rfl⟩
abbrev main_v327 : Ref sig .tc := ⟨.hbm, 590, rfl⟩
abbrev main_v328 : Ref sig .tc := ⟨.hbm, 591, rfl⟩
abbrev main_v329 : Ref sig .tc := ⟨.hbm, 592, rfl⟩
abbrev main_v330 : Ref sig .tc := ⟨.hbm, 593, rfl⟩
abbrev main_cst_123 : Ref sig .tc := ⟨.hbm, 594, rfl⟩
abbrev main_v331 : Ref sig .tc := ⟨.hbm, 595, rfl⟩
abbrev main_v332 : Ref sig .tc := ⟨.hbm, 596, rfl⟩
abbrev main_cst_124 : Ref sig .tc := ⟨.hbm, 597, rfl⟩
abbrev main_v333 : Ref sig .tc := ⟨.hbm, 598, rfl⟩
abbrev main_v334 : Ref sig .tc := ⟨.hbm, 599, rfl⟩
abbrev main_cst_125 : Ref sig .tc := ⟨.hbm, 600, rfl⟩
abbrev main_v335 : Ref sig .tc := ⟨.hbm, 601, rfl⟩
abbrev main_v336 : Ref sig .tc := ⟨.hbm, 602, rfl⟩
abbrev main_cst_126 : Ref sig .tc := ⟨.hbm, 603, rfl⟩
abbrev main_v337 : Ref sig .tc := ⟨.hbm, 604, rfl⟩
abbrev main_v338 : Ref sig .tc := ⟨.hbm, 605, rfl⟩
abbrev main_cst_127 : Ref sig .tc := ⟨.hbm, 606, rfl⟩
abbrev main_cst_128 : Ref sig .tc := ⟨.hbm, 607, rfl⟩
abbrev main_call24_v0 : Ref sig .tc := ⟨.hbm, 608, rfl⟩
abbrev main_call24_v1 : Ref sig .tc := ⟨.hbm, 609, rfl⟩
abbrev main_call24_v2 : Ref sig .tc := ⟨.hbm, 610, rfl⟩
abbrev main_call24_v3 : Ref sig .tc := ⟨.hbm, 611, rfl⟩
abbrev main_call24_v4 : Ref sig .tc := ⟨.hbm, 612, rfl⟩
abbrev main_v339 : Ref sig .tc := ⟨.hbm, 613, rfl⟩
abbrev main_v340 : Ref sig .tc := ⟨.hbm, 614, rfl⟩
abbrev main_v341 : Ref sig .tc := ⟨.hbm, 615, rfl⟩
abbrev main_c_129 : Ref sig .tc := ⟨.hbm, 616, rfl⟩
abbrev main_v342 : Ref sig .tc := ⟨.hbm, 617, rfl⟩
abbrev main_v343 : Ref sig .tc := ⟨.hbm, 618, rfl⟩
abbrev main_c_130 : Ref sig .tc := ⟨.hbm, 619, rfl⟩
abbrev main_v344 : Ref sig .tc := ⟨.hbm, 620, rfl⟩
abbrev main_v345 : Ref sig .tc := ⟨.hbm, 621, rfl⟩
abbrev main_v346 : Ref sig .tc := ⟨.hbm, 622, rfl⟩
abbrev main_c_131 : Ref sig .tc := ⟨.hbm, 623, rfl⟩
abbrev main_v347 : Ref sig .tc := ⟨.hbm, 624, rfl⟩
abbrev main_v348 : Ref sig .tc := ⟨.hbm, 625, rfl⟩
abbrev main_c_132 : Ref sig .tc := ⟨.hbm, 626, rfl⟩
abbrev main_v349 : Ref sig .tc := ⟨.hbm, 627, rfl⟩
abbrev main_v350 : Ref sig .tc := ⟨.hbm, 628, rfl⟩
abbrev main_v351 : Ref sig .tc := ⟨.hbm, 629, rfl⟩
abbrev main_v352 : Ref sig .tc := ⟨.hbm, 630, rfl⟩
abbrev main_v353 : Ref sig .tc := ⟨.hbm, 631, rfl⟩
abbrev main_v354 : Ref sig .tc := ⟨.hbm, 632, rfl⟩
abbrev main_v355 : Ref sig .tc := ⟨.hbm, 633, rfl⟩
abbrev main_v356 : Ref sig .tc := ⟨.hbm, 634, rfl⟩
abbrev main_v357 : Ref sig .tc := ⟨.hbm, 635, rfl⟩
abbrev main_v358 : Ref sig .tc := ⟨.hbm, 636, rfl⟩
abbrev main_v359 : Ref sig .tc := ⟨.hbm, 637, rfl⟩
abbrev main_cst_133 : Ref sig .tc := ⟨.hbm, 638, rfl⟩
abbrev main_v360 : Ref sig .tc := ⟨.hbm, 639, rfl⟩
abbrev main_cst_134 : Ref sig .tc := ⟨.hbm, 640, rfl⟩
abbrev main_v361 : Ref sig .tc := ⟨.hbm, 641, rfl⟩
abbrev main_v362 : Ref sig .tc := ⟨.hbm, 642, rfl⟩
abbrev main_v363 : Ref sig .tc := ⟨.hbm, 643, rfl⟩
abbrev main_v364 : Ref sig .tc := ⟨.hbm, 644, rfl⟩
abbrev main_v365 : Ref sig .tc := ⟨.hbm, 645, rfl⟩
abbrev main_v366 : Ref sig .tc := ⟨.hbm, 646, rfl⟩
abbrev main_v367 : Ref sig .tc := ⟨.hbm, 647, rfl⟩
abbrev main_v368 : Ref sig .tc := ⟨.hbm, 648, rfl⟩
abbrev main_call25_cst : Ref sig .tc := ⟨.hbm, 649, rfl⟩
abbrev main_call25_v0 : Ref sig .tc := ⟨.hbm, 650, rfl⟩
abbrev main_call25_v1 : Ref sig .tc := ⟨.hbm, 651, rfl⟩
abbrev main_call25_cst_0 : Ref sig .tc := ⟨.hbm, 652, rfl⟩
abbrev main_call25_v2 : Ref sig .tc := ⟨.hbm, 653, rfl⟩
abbrev main_call25_v3 : Ref sig .tc := ⟨.hbm, 654, rfl⟩
abbrev main_call25_cst_1 : Ref sig .tc := ⟨.hbm, 655, rfl⟩
abbrev main_call25_call0_v0 : Ref sig .tc := ⟨.hbm, 656, rfl⟩
abbrev main_call25_call0_v1 : Ref sig .tc := ⟨.hbm, 657, rfl⟩
abbrev main_call25_v4 : Ref sig .tc := ⟨.hbm, 658, rfl⟩
abbrev main_call25_v5 : Ref sig .tc := ⟨.hbm, 659, rfl⟩
abbrev main_call25_cst_2 : Ref sig .tc := ⟨.hbm, 660, rfl⟩
abbrev main_call25_v6 : Ref sig .tc := ⟨.hbm, 661, rfl⟩
abbrev main_call25_v7 : Ref sig .tc := ⟨.hbm, 662, rfl⟩
abbrev main_v369 : Ref sig .tc := ⟨.hbm, 663, rfl⟩
abbrev main_v370 : Ref sig .tc := ⟨.hbm, 664, rfl⟩
abbrev main_v371 : Ref sig .tc := ⟨.hbm, 665, rfl⟩
abbrev main_c_135 : Ref sig .tc := ⟨.hbm, 666, rfl⟩
abbrev main_v372 : Ref sig .tc := ⟨.hbm, 667, rfl⟩
abbrev main_v373 : Ref sig .tc := ⟨.hbm, 668, rfl⟩
abbrev main_c_136 : Ref sig .tc := ⟨.hbm, 669, rfl⟩
abbrev main_v374 : Ref sig .tc := ⟨.hbm, 670, rfl⟩
abbrev main_v375 : Ref sig .tc := ⟨.hbm, 671, rfl⟩
abbrev main_v376 : Ref sig .tc := ⟨.hbm, 672, rfl⟩
abbrev main_c_137 : Ref sig .tc := ⟨.hbm, 673, rfl⟩
abbrev main_v377 : Ref sig .tc := ⟨.hbm, 674, rfl⟩
abbrev main_v378 : Ref sig .tc := ⟨.hbm, 675, rfl⟩
abbrev main_c_138 : Ref sig .tc := ⟨.hbm, 676, rfl⟩
abbrev main_v379 : Ref sig .tc := ⟨.hbm, 677, rfl⟩
abbrev main_v380 : Ref sig .tc := ⟨.hbm, 678, rfl⟩
abbrev main_v381 : Ref sig .tc := ⟨.hbm, 679, rfl⟩
abbrev main_v382 : Ref sig .tc := ⟨.hbm, 680, rfl⟩
abbrev main_v383 : Ref sig .tc := ⟨.hbm, 681, rfl⟩
abbrev main_v384 : Ref sig .tc := ⟨.hbm, 682, rfl⟩
abbrev main_v385 : Ref sig .tc := ⟨.hbm, 683, rfl⟩
abbrev main_v386 : Ref sig .tc := ⟨.hbm, 684, rfl⟩
abbrev main_v387 : Ref sig .tc := ⟨.hbm, 685, rfl⟩
abbrev main_v388 : Ref sig .tc := ⟨.hbm, 686, rfl⟩
abbrev main_v389 : Ref sig .tc := ⟨.hbm, 687, rfl⟩
abbrev main_cst_139 : Ref sig .tc := ⟨.hbm, 688, rfl⟩
abbrev main_v390 : Ref sig .tc := ⟨.hbm, 689, rfl⟩
abbrev main_cst_140 : Ref sig .tc := ⟨.hbm, 690, rfl⟩
abbrev main_v391 : Ref sig .tc := ⟨.hbm, 691, rfl⟩
abbrev main_v392 : Ref sig .tc := ⟨.hbm, 692, rfl⟩
abbrev main_v393 : Ref sig .tc := ⟨.hbm, 693, rfl⟩
abbrev main_v394 : Ref sig .tc := ⟨.hbm, 694, rfl⟩
abbrev main_v395 : Ref sig .tc := ⟨.hbm, 695, rfl⟩
abbrev main_v396 : Ref sig .tc := ⟨.hbm, 696, rfl⟩
abbrev main_v397 : Ref sig .tc := ⟨.hbm, 697, rfl⟩
abbrev main_v398 : Ref sig .tc := ⟨.hbm, 698, rfl⟩
abbrev main_call26_cst : Ref sig .tc := ⟨.hbm, 699, rfl⟩
abbrev main_call26_v0 : Ref sig .tc := ⟨.hbm, 700, rfl⟩
abbrev main_call26_v1 : Ref sig .tc := ⟨.hbm, 701, rfl⟩
abbrev main_call26_cst_0 : Ref sig .tc := ⟨.hbm, 702, rfl⟩
abbrev main_call26_v2 : Ref sig .tc := ⟨.hbm, 703, rfl⟩
abbrev main_call26_v3 : Ref sig .tc := ⟨.hbm, 704, rfl⟩
abbrev main_call26_cst_1 : Ref sig .tc := ⟨.hbm, 705, rfl⟩
abbrev main_call26_call0_v0 : Ref sig .tc := ⟨.hbm, 706, rfl⟩
abbrev main_call26_call0_v1 : Ref sig .tc := ⟨.hbm, 707, rfl⟩
abbrev main_call26_v4 : Ref sig .tc := ⟨.hbm, 708, rfl⟩
abbrev main_call26_v5 : Ref sig .tc := ⟨.hbm, 709, rfl⟩
abbrev main_call26_cst_2 : Ref sig .tc := ⟨.hbm, 710, rfl⟩
abbrev main_call26_v6 : Ref sig .tc := ⟨.hbm, 711, rfl⟩
abbrev main_call26_v7 : Ref sig .tc := ⟨.hbm, 712, rfl⟩
abbrev main_v399 : Ref sig .tc := ⟨.hbm, 713, rfl⟩
abbrev main_v400 : Ref sig .tc := ⟨.hbm, 714, rfl⟩
abbrev main_v401 : Ref sig .tc := ⟨.hbm, 715, rfl⟩
abbrev main_c_141 : Ref sig .tc := ⟨.hbm, 716, rfl⟩
abbrev main_v402 : Ref sig .tc := ⟨.hbm, 717, rfl⟩
abbrev main_v403 : Ref sig .tc := ⟨.hbm, 718, rfl⟩
abbrev main_c_142 : Ref sig .tc := ⟨.hbm, 719, rfl⟩
abbrev main_v404 : Ref sig .tc := ⟨.hbm, 720, rfl⟩
abbrev main_v405 : Ref sig .tc := ⟨.hbm, 721, rfl⟩
abbrev main_v406 : Ref sig .tc := ⟨.hbm, 722, rfl⟩
abbrev main_c_143 : Ref sig .tc := ⟨.hbm, 723, rfl⟩
abbrev main_v407 : Ref sig .tc := ⟨.hbm, 724, rfl⟩
abbrev main_v408 : Ref sig .tc := ⟨.hbm, 725, rfl⟩
abbrev main_c_144 : Ref sig .tc := ⟨.hbm, 726, rfl⟩
abbrev main_v409 : Ref sig .tc := ⟨.hbm, 727, rfl⟩
abbrev main_v410 : Ref sig .tc := ⟨.hbm, 728, rfl⟩
abbrev main_v411 : Ref sig .tc := ⟨.hbm, 729, rfl⟩
abbrev main_v412 : Ref sig .tc := ⟨.hbm, 730, rfl⟩
abbrev main_v413 : Ref sig .tc := ⟨.hbm, 731, rfl⟩
abbrev main_v414 : Ref sig .tc := ⟨.hbm, 732, rfl⟩
abbrev main_v415 : Ref sig .tc := ⟨.hbm, 733, rfl⟩
abbrev main_v416 : Ref sig .tc := ⟨.hbm, 734, rfl⟩
abbrev main_v417 : Ref sig .tc := ⟨.hbm, 735, rfl⟩
abbrev main_v418 : Ref sig .tc := ⟨.hbm, 736, rfl⟩
abbrev main_v419 : Ref sig .tc := ⟨.hbm, 737, rfl⟩
abbrev main_cst_145 : Ref sig .tc := ⟨.hbm, 738, rfl⟩
abbrev main_v420 : Ref sig .tc := ⟨.hbm, 739, rfl⟩
abbrev main_cst_146 : Ref sig .tc := ⟨.hbm, 740, rfl⟩
abbrev main_v421 : Ref sig .tc := ⟨.hbm, 741, rfl⟩
abbrev main_v422 : Ref sig .tc := ⟨.hbm, 742, rfl⟩
abbrev main_v423 : Ref sig .tc := ⟨.hbm, 743, rfl⟩
abbrev main_v424 : Ref sig .tc := ⟨.hbm, 744, rfl⟩
abbrev main_v425 : Ref sig .tc := ⟨.hbm, 745, rfl⟩
abbrev main_v426 : Ref sig .tc := ⟨.hbm, 746, rfl⟩
abbrev main_v427 : Ref sig .tc := ⟨.hbm, 747, rfl⟩
abbrev main_v428 : Ref sig .tc := ⟨.hbm, 748, rfl⟩
abbrev main_call27_cst : Ref sig .tc := ⟨.hbm, 749, rfl⟩
abbrev main_call27_v0 : Ref sig .tc := ⟨.hbm, 750, rfl⟩
abbrev main_call27_v1 : Ref sig .tc := ⟨.hbm, 751, rfl⟩
abbrev main_call27_cst_0 : Ref sig .tc := ⟨.hbm, 752, rfl⟩
abbrev main_call27_v2 : Ref sig .tc := ⟨.hbm, 753, rfl⟩
abbrev main_call27_v3 : Ref sig .tc := ⟨.hbm, 754, rfl⟩
abbrev main_call27_cst_1 : Ref sig .tc := ⟨.hbm, 755, rfl⟩
abbrev main_call27_call0_v0 : Ref sig .tc := ⟨.hbm, 756, rfl⟩
abbrev main_call27_call0_v1 : Ref sig .tc := ⟨.hbm, 757, rfl⟩
abbrev main_call27_v4 : Ref sig .tc := ⟨.hbm, 758, rfl⟩
abbrev main_call27_v5 : Ref sig .tc := ⟨.hbm, 759, rfl⟩
abbrev main_call27_cst_2 : Ref sig .tc := ⟨.hbm, 760, rfl⟩
abbrev main_call27_v6 : Ref sig .tc := ⟨.hbm, 761, rfl⟩
abbrev main_call27_v7 : Ref sig .tc := ⟨.hbm, 762, rfl⟩
abbrev main_v429 : Ref sig .tc := ⟨.hbm, 763, rfl⟩
abbrev main_v430 : Ref sig .tc := ⟨.hbm, 764, rfl⟩
abbrev main_v431 : Ref sig .tc := ⟨.hbm, 765, rfl⟩
abbrev main_c_147 : Ref sig .tc := ⟨.hbm, 766, rfl⟩
abbrev main_v432 : Ref sig .tc := ⟨.hbm, 767, rfl⟩
abbrev main_v433 : Ref sig .tc := ⟨.hbm, 768, rfl⟩
abbrev main_c_148 : Ref sig .tc := ⟨.hbm, 769, rfl⟩
abbrev main_v434 : Ref sig .tc := ⟨.hbm, 770, rfl⟩
abbrev main_v435 : Ref sig .tc := ⟨.hbm, 771, rfl⟩
abbrev main_v436 : Ref sig .tc := ⟨.hbm, 772, rfl⟩
abbrev main_c_149 : Ref sig .tc := ⟨.hbm, 773, rfl⟩
abbrev main_v437 : Ref sig .tc := ⟨.hbm, 774, rfl⟩
abbrev main_v438 : Ref sig .tc := ⟨.hbm, 775, rfl⟩
abbrev main_c_150 : Ref sig .tc := ⟨.hbm, 776, rfl⟩
abbrev main_v439 : Ref sig .tc := ⟨.hbm, 777, rfl⟩
abbrev main_v440 : Ref sig .tc := ⟨.hbm, 778, rfl⟩
abbrev main_v441 : Ref sig .tc := ⟨.hbm, 779, rfl⟩
abbrev main_v442 : Ref sig .tc := ⟨.hbm, 780, rfl⟩
abbrev main_v443 : Ref sig .tc := ⟨.hbm, 781, rfl⟩
abbrev main_v444 : Ref sig .tc := ⟨.hbm, 782, rfl⟩
abbrev main_v445 : Ref sig .tc := ⟨.hbm, 783, rfl⟩
abbrev main_v446 : Ref sig .tc := ⟨.hbm, 784, rfl⟩
abbrev main_v447 : Ref sig .tc := ⟨.hbm, 785, rfl⟩
abbrev main_v448 : Ref sig .tc := ⟨.hbm, 786, rfl⟩
abbrev main_v449 : Ref sig .tc := ⟨.hbm, 787, rfl⟩
abbrev main_cst_151 : Ref sig .tc := ⟨.hbm, 788, rfl⟩
abbrev main_v450 : Ref sig .tc := ⟨.hbm, 789, rfl⟩
abbrev main_cst_152 : Ref sig .tc := ⟨.hbm, 790, rfl⟩
abbrev main_v451 : Ref sig .tc := ⟨.hbm, 791, rfl⟩
abbrev main_v452 : Ref sig .tc := ⟨.hbm, 792, rfl⟩
abbrev main_v453 : Ref sig .tc := ⟨.hbm, 793, rfl⟩
abbrev main_v454 : Ref sig .tc := ⟨.hbm, 794, rfl⟩
abbrev main_v455 : Ref sig .tc := ⟨.hbm, 795, rfl⟩
abbrev main_v456 : Ref sig .tc := ⟨.hbm, 796, rfl⟩
abbrev main_v457 : Ref sig .tc := ⟨.hbm, 797, rfl⟩
abbrev main_v458 : Ref sig .tc := ⟨.hbm, 798, rfl⟩
abbrev main_call28_cst : Ref sig .tc := ⟨.hbm, 799, rfl⟩
abbrev main_call28_v0 : Ref sig .tc := ⟨.hbm, 800, rfl⟩
abbrev main_call28_v1 : Ref sig .tc := ⟨.hbm, 801, rfl⟩
abbrev main_call28_cst_0 : Ref sig .tc := ⟨.hbm, 802, rfl⟩
abbrev main_call28_v2 : Ref sig .tc := ⟨.hbm, 803, rfl⟩
abbrev main_call28_v3 : Ref sig .tc := ⟨.hbm, 804, rfl⟩
abbrev main_call28_cst_1 : Ref sig .tc := ⟨.hbm, 805, rfl⟩
abbrev main_call28_call0_v0 : Ref sig .tc := ⟨.hbm, 806, rfl⟩
abbrev main_call28_call0_v1 : Ref sig .tc := ⟨.hbm, 807, rfl⟩
abbrev main_call28_v4 : Ref sig .tc := ⟨.hbm, 808, rfl⟩
abbrev main_call28_v5 : Ref sig .tc := ⟨.hbm, 809, rfl⟩
abbrev main_call28_cst_2 : Ref sig .tc := ⟨.hbm, 810, rfl⟩
abbrev main_call28_v6 : Ref sig .tc := ⟨.hbm, 811, rfl⟩
abbrev main_call28_v7 : Ref sig .tc := ⟨.hbm, 812, rfl⟩
abbrev main_v459 : Ref sig .tc := ⟨.hbm, 813, rfl⟩
abbrev main_v460 : Ref sig .tc := ⟨.hbm, 814, rfl⟩
abbrev main_v461 : Ref sig .tc := ⟨.hbm, 815, rfl⟩
abbrev main_c_153 : Ref sig .tc := ⟨.hbm, 816, rfl⟩
abbrev main_v462 : Ref sig .tc := ⟨.hbm, 817, rfl⟩
abbrev main_v463 : Ref sig .tc := ⟨.hbm, 818, rfl⟩
abbrev main_c_154 : Ref sig .tc := ⟨.hbm, 819, rfl⟩
abbrev main_v464 : Ref sig .tc := ⟨.hbm, 820, rfl⟩
abbrev main_v465 : Ref sig .tc := ⟨.hbm, 821, rfl⟩
abbrev main_v466 : Ref sig .tc := ⟨.hbm, 822, rfl⟩
abbrev main_c_155 : Ref sig .tc := ⟨.hbm, 823, rfl⟩
abbrev main_v467 : Ref sig .tc := ⟨.hbm, 824, rfl⟩
abbrev main_v468 : Ref sig .tc := ⟨.hbm, 825, rfl⟩
abbrev main_c_156 : Ref sig .tc := ⟨.hbm, 826, rfl⟩
abbrev main_v469 : Ref sig .tc := ⟨.hbm, 827, rfl⟩
abbrev main_v470 : Ref sig .tc := ⟨.hbm, 828, rfl⟩
abbrev main_v471 : Ref sig .tc := ⟨.hbm, 829, rfl⟩
abbrev main_v472 : Ref sig .tc := ⟨.hbm, 830, rfl⟩
abbrev main_v473 : Ref sig .tc := ⟨.hbm, 831, rfl⟩
abbrev main_v474 : Ref sig .tc := ⟨.hbm, 832, rfl⟩
abbrev main_v475 : Ref sig .tc := ⟨.hbm, 833, rfl⟩
abbrev main_v476 : Ref sig .tc := ⟨.hbm, 834, rfl⟩
abbrev main_v477 : Ref sig .tc := ⟨.hbm, 835, rfl⟩
abbrev main_v478 : Ref sig .tc := ⟨.hbm, 836, rfl⟩
abbrev main_cst_157 : Ref sig .tc := ⟨.hbm, 837, rfl⟩
abbrev main_v479 : Ref sig .tc := ⟨.hbm, 838, rfl⟩
abbrev main_cst_158 : Ref sig .tc := ⟨.hbm, 839, rfl⟩
abbrev main_v480 : Ref sig .tc := ⟨.hbm, 840, rfl⟩
abbrev main_v481 : Ref sig .tc := ⟨.hbm, 841, rfl⟩
abbrev main_v482 : Ref sig .tc := ⟨.hbm, 842, rfl⟩
abbrev main_v483 : Ref sig .tc := ⟨.hbm, 843, rfl⟩
abbrev main_v484 : Ref sig .tc := ⟨.hbm, 844, rfl⟩
abbrev main_v485 : Ref sig .tc := ⟨.hbm, 845, rfl⟩
abbrev main_v486 : Ref sig .tc := ⟨.hbm, 846, rfl⟩
abbrev main_v487 : Ref sig .tc := ⟨.hbm, 847, rfl⟩
abbrev main_call29_cst : Ref sig .tc := ⟨.hbm, 848, rfl⟩
abbrev main_call29_v0 : Ref sig .tc := ⟨.hbm, 849, rfl⟩
abbrev main_call29_v1 : Ref sig .tc := ⟨.hbm, 850, rfl⟩
abbrev main_call29_cst_0 : Ref sig .tc := ⟨.hbm, 851, rfl⟩
abbrev main_call29_v2 : Ref sig .tc := ⟨.hbm, 852, rfl⟩
abbrev main_call29_v3 : Ref sig .tc := ⟨.hbm, 853, rfl⟩
abbrev main_call29_cst_1 : Ref sig .tc := ⟨.hbm, 854, rfl⟩
abbrev main_call29_call0_v0 : Ref sig .tc := ⟨.hbm, 855, rfl⟩
abbrev main_call29_call0_v1 : Ref sig .tc := ⟨.hbm, 856, rfl⟩
abbrev main_call29_v4 : Ref sig .tc := ⟨.hbm, 857, rfl⟩
abbrev main_call29_v5 : Ref sig .tc := ⟨.hbm, 858, rfl⟩
abbrev main_call29_cst_2 : Ref sig .tc := ⟨.hbm, 859, rfl⟩
abbrev main_call29_v6 : Ref sig .tc := ⟨.hbm, 860, rfl⟩
abbrev main_call29_v7 : Ref sig .tc := ⟨.hbm, 861, rfl⟩
abbrev main_v488 : Ref sig .tc := ⟨.hbm, 862, rfl⟩
abbrev main_v489 : Ref sig .tc := ⟨.hbm, 863, rfl⟩
abbrev main_v490 : Ref sig .tc := ⟨.hbm, 864, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S10000 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S10000 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S10000x1 : Shape := ⟨2, ![10000, 1]⟩
abbrev S2x160000 : Shape := ⟨2, ![2, 160000]⟩
abbrev S160000x3 : Shape := ⟨2, ![160000, 3]⟩
abbrev S125x1x8 : Shape := ⟨3, ![125, 1, 8]⟩
abbrev S1x8 : Shape := ⟨2, ![1, 8]⟩
abbrev S8 : Shape := ⟨1, ![8]⟩
abbrev S125x8x16 : Shape := ⟨3, ![125, 8, 16]⟩
abbrev S8x16 : Shape := ⟨2, ![8, 16]⟩
abbrev S16 : Shape := ⟨1, ![16]⟩
abbrev S125x16x16 : Shape := ⟨3, ![125, 16, 16]⟩
abbrev S16x16 : Shape := ⟨2, ![16, 16]⟩
abbrev S125x16x8 : Shape := ⟨3, ![125, 16, 8]⟩
abbrev S16x8 : Shape := ⟨2, ![16, 8]⟩
abbrev S125x8x1 : Shape := ⟨3, ![125, 8, 1]⟩
abbrev S8x1 : Shape := ⟨2, ![8, 1]⟩
abbrev S1 : Shape := ⟨1, ![1]⟩
abbrev S1x160000 : Shape := ⟨2, ![1, 160000]⟩
abbrev S160000 : Shape := ⟨1, ![160000]⟩
abbrev S_ : Shape := ⟨0, ![]⟩
abbrev S160000x1 : Shape := ⟨2, ![160000, 1]⟩
abbrev S160000x8 : Shape := ⟨2, ![160000, 8]⟩
abbrev S10000x125x8 : Shape := ⟨3, ![10000, 125, 8]⟩
abbrev S160000x8x1 : Shape := ⟨3, ![160000, 8, 1]⟩
abbrev S160000x8x2 : Shape := ⟨3, ![160000, 8, 2]⟩
abbrev S160000x8x8 : Shape := ⟨3, ![160000, 8, 8]⟩
abbrev S10000x8 : Shape := ⟨2, ![10000, 8]⟩
abbrev S10000x125x16 : Shape := ⟨3, ![10000, 125, 16]⟩
abbrev S160000x8x16 : Shape := ⟨3, ![160000, 8, 16]⟩
abbrev S160000x16 : Shape := ⟨2, ![160000, 16]⟩
abbrev S10000x16 : Shape := ⟨2, ![10000, 16]⟩
abbrev S1x16 : Shape := ⟨2, ![1, 16]⟩
abbrev S10000x125x1 : Shape := ⟨3, ![10000, 125, 1]⟩
abbrev S1x1 : Shape := ⟨2, ![1, 1]⟩
abbrev S10000 : Shape := ⟨1, ![10000]⟩

abbrev nBuf : Space → Nat
  | .hbm => 864
  | .vmem => 0
  | .smem => 0
  | _ => 0

abbrev hbmTy0_0 (i : Nat) : BufTy := match i % 128 with
  | 0 => ⟨S10000x1, .f32⟩
  | 1 => ⟨S2x160000, .i32⟩
  | 2 => ⟨S160000x3, .f32⟩
  | 3 => ⟨S125x1x8, .f32⟩
  | 4 => ⟨S1x8, .f32⟩
  | 5 => ⟨S8, .f32⟩
  | 6 => ⟨S125x8x16, .f32⟩
  | 7 => ⟨S8x16, .f32⟩
  | 8 => ⟨S16, .f32⟩
  | 9 => ⟨S125x16x16, .f32⟩
  | 10 => ⟨S16x16, .f32⟩
  | 11 => ⟨S16, .f32⟩
  | 12 => ⟨S125x16x8, .f32⟩
  | 13 => ⟨S16x8, .f32⟩
  | 14 => ⟨S8, .f32⟩
  | 15 => ⟨S125x8x1, .f32⟩
  | 16 => ⟨S8x1, .f32⟩
  | 17 => ⟨S1, .f32⟩
  | 18 => ⟨S1x160000, .i32⟩
  | 19 => ⟨S160000, .i32⟩
  | 20 => ⟨S1x160000, .i32⟩
  | 21 => ⟨S160000, .i32⟩
  | 22 => ⟨S_, .f32⟩
  | 23 => ⟨S160000x3, .f32⟩
  | 24 => ⟨S160000x3, .f32⟩
  | 25 => ⟨S160000x3, .f32⟩
  | 26 => ⟨S160000x3, .f32⟩
  | 27 => ⟨S160000x3, .i32⟩
  | 28 => ⟨S_, .f32⟩
  | 29 => ⟨S160000, .f32⟩
  | 30 => ⟨S_, .i32⟩
  | 31 => ⟨S160000, .i32⟩
  | 32 => ⟨S160000x1, .f32⟩
  | 33 => ⟨S160000, .f32⟩
  | 34 => ⟨S_, .f32⟩
  | 35 => ⟨S160000, .f32⟩
  | 36 => ⟨S160000, .f32⟩
  | 37 => ⟨S160000x1, .i32⟩
  | 38 => ⟨S160000, .i32⟩
  | 39 => ⟨S_, .i32⟩
  | 40 => ⟨S160000, .i32⟩
  | 41 => ⟨S160000, .i32⟩
  | 42 => ⟨S_, .i32⟩
  | 43 => ⟨S_, .i32⟩
  | 44 => ⟨S_, .i32⟩
  | 45 => ⟨S160000, .i32⟩
  | 46 => ⟨S160000, .i32⟩
  | 47 => ⟨S_, .i32⟩
  | 48 => ⟨S160000, .i32⟩
  | 49 => ⟨S160000, .i32⟩
  | 50 => ⟨S160000, .f32⟩
  | 51 => ⟨S_, .i32⟩
  | 52 => ⟨S160000, .i32⟩
  | 53 => ⟨S160000, .i32⟩
  | 54 => ⟨S160000, .i32⟩
  | 55 => ⟨S160000x1, .f32⟩
  | 56 => ⟨S160000, .f32⟩
  | 57 => ⟨S_, .f32⟩
  | 58 => ⟨S160000, .f32⟩
  | 59 => ⟨S160000, .f32⟩
  | 60 => ⟨S160000x1, .i32⟩
  | 61 => ⟨S160000, .i32⟩
  | 62 => ⟨S_, .i32⟩
  | 63 => ⟨S160000, .i32⟩
  | 64 => ⟨S160000, .i32⟩
  | 65 => ⟨S_, .i32⟩
  | 66 => ⟨S_, .i32⟩
  | 67 => ⟨S_, .i32⟩
  | 68 => ⟨S160000, .i32⟩
  | 69 => ⟨S160000, .i32⟩
  | 70 => ⟨S_, .i32⟩
  | 71 => ⟨S160000, .i32⟩
  | 72 => ⟨S160000, .i32⟩
  | 73 => ⟨S160000, .f32⟩
  | 74 => ⟨S_, .i32⟩
  | 75 => ⟨S160000, .i32⟩
  | 76 => ⟨S160000, .i32⟩
  | 77 => ⟨S160000, .i32⟩
  | 78 => ⟨S160000x1, .f32⟩
  | 79 => ⟨S160000, .f32⟩
  | 80 => ⟨S_, .f32⟩
  | 81 => ⟨S160000, .f32⟩
  | 82 => ⟨S160000, .f32⟩
  | 83 => ⟨S160000x1, .i32⟩
  | 84 => ⟨S160000, .i32⟩
  | 85 => ⟨S_, .i32⟩
  | 86 => ⟨S160000, .i32⟩
  | 87 => ⟨S160000, .i32⟩
  | 88 => ⟨S_, .i32⟩
  | 89 => ⟨S_, .i32⟩
  | 90 => ⟨S_, .i32⟩
  | 91 => ⟨S160000, .i32⟩
  | 92 => ⟨S160000, .i32⟩
  | 93 => ⟨S_, .i32⟩
  | 94 => ⟨S160000, .i32⟩
  | 95 => ⟨S160000, .i32⟩
  | 96 => ⟨S160000, .f32⟩
  | 97 => ⟨S_, .i32⟩
  | 98 => ⟨S160000, .i32⟩
  | 99 => ⟨S160000, .i32⟩
  | 100 => ⟨S160000, .i32⟩
  | 101 => ⟨S_, .f32⟩
  | 102 => ⟨S160000, .f32⟩
  | 103 => ⟨S_, .i32⟩
  | 104 => ⟨S160000, .i32⟩
  | 105 => ⟨S160000x1, .f32⟩
  | 106 => ⟨S160000, .f32⟩
  | 107 => ⟨S160000x1, .i32⟩
  | 108 => ⟨S160000, .i32⟩
  | 109 => ⟨S_, .i32⟩
  | 110 => ⟨S160000, .i32⟩
  | 111 => ⟨S160000, .i32⟩
  | 112 => ⟨S_, .i32⟩
  | 113 => ⟨S_, .i32⟩
  | 114 => ⟨S_, .i32⟩
  | 115 => ⟨S160000, .i32⟩
  | 116 => ⟨S160000, .i32⟩
  | 117 => ⟨S_, .i32⟩
  | 118 => ⟨S160000, .i32⟩
  | 119 => ⟨S160000, .i32⟩
  | 120 => ⟨S160000, .f32⟩
  | 121 => ⟨S_, .i32⟩
  | 122 => ⟨S160000, .i32⟩
  | 123 => ⟨S160000, .i32⟩
  | 124 => ⟨S160000, .i32⟩
  | 125 => ⟨S160000x1, .f32⟩
  | 126 => ⟨S160000, .f32⟩
  | 127 => ⟨S_, .f32⟩
  | _ => ⟨S10000x1, .f32⟩

abbrev hbmTy0_1 (i : Nat) : BufTy := match i % 128 with
  | 0 => ⟨S160000, .f32⟩
  | 1 => ⟨S160000, .f32⟩
  | 2 => ⟨S160000x1, .i32⟩
  | 3 => ⟨S160000, .i32⟩
  | 4 => ⟨S_, .i32⟩
  | 5 => ⟨S160000, .i32⟩
  | 6 => ⟨S160000, .i32⟩
  | 7 => ⟨S_, .i32⟩
  | 8 => ⟨S_, .i32⟩
  | 9 => ⟨S_, .i32⟩
  | 10 => ⟨S160000, .i32⟩
  | 11 => ⟨S160000, .i32⟩
  | 12 => ⟨S_, .i32⟩
  | 13 => ⟨S160000, .i32⟩
  | 14 => ⟨S160000, .i32⟩
  | 15 => ⟨S160000, .f32⟩
  | 16 => ⟨S_, .i32⟩
  | 17 => ⟨S160000, .i32⟩
  | 18 => ⟨S160000, .i32⟩
  | 19 => ⟨S160000, .i32⟩
  | 20 => ⟨S160000x1, .f32⟩
  | 21 => ⟨S160000, .f32⟩
  | 22 => ⟨S_, .f32⟩
  | 23 => ⟨S160000, .f32⟩
  | 24 => ⟨S160000, .f32⟩
  | 25 => ⟨S160000x1, .i32⟩
  | 26 => ⟨S160000, .i32⟩
  | 27 => ⟨S_, .i32⟩
  | 28 => ⟨S160000, .i32⟩
  | 29 => ⟨S160000, .i32⟩
  | 30 => ⟨S_, .i32⟩
  | 31 => ⟨S_, .i32⟩
  | 32 => ⟨S_, .i32⟩
  | 33 => ⟨S160000, .i32⟩
  | 34 => ⟨S160000, .i32⟩
  | 35 => ⟨S_, .i32⟩
  | 36 => ⟨S160000, .i32⟩
  | 37 => ⟨S160000, .i32⟩
  | 38 => ⟨S160000, .f32⟩
  | 39 => ⟨S_, .i32⟩
  | 40 => ⟨S160000, .i32⟩
  | 41 => ⟨S160000, .i32⟩
  | 42 => ⟨S160000, .i32⟩
  | 43 => ⟨S_, .f32⟩
  | 44 => ⟨S160000, .f32⟩
  | 45 => ⟨S_, .i32⟩
  | 46 => ⟨S160000, .i32⟩
  | 47 => ⟨S160000x1, .f32⟩
  | 48 => ⟨S160000, .f32⟩
  | 49 => ⟨S_, .f32⟩
  | 50 => ⟨S160000, .f32⟩
  | 51 => ⟨S160000, .f32⟩
  | 52 => ⟨S160000x1, .i32⟩
  | 53 => ⟨S160000, .i32⟩
  | 54 => ⟨S_, .i32⟩
  | 55 => ⟨S160000, .i32⟩
  | 56 => ⟨S160000, .i32⟩
  | 57 => ⟨S_, .i32⟩
  | 58 => ⟨S_, .i32⟩
  | 59 => ⟨S_, .i32⟩
  | 60 => ⟨S160000, .i32⟩
  | 61 => ⟨S160000, .i32⟩
  | 62 => ⟨S_, .i32⟩
  | 63 => ⟨S160000, .i32⟩
  | 64 => ⟨S160000, .i32⟩
  | 65 => ⟨S160000, .f32⟩
  | 66 => ⟨S_, .i32⟩
  | 67 => ⟨S160000, .i32⟩
  | 68 => ⟨S160000, .i32⟩
  | 69 => ⟨S160000, .i32⟩
  | 70 => ⟨S160000x1, .f32⟩
  | 71 => ⟨S160000, .f32⟩
  | 72 => ⟨S160000x1, .i32⟩
  | 73 => ⟨S160000, .i32⟩
  | 74 => ⟨S_, .i32⟩
  | 75 => ⟨S160000, .i32⟩
  | 76 => ⟨S160000, .i32⟩
  | 77 => ⟨S_, .i32⟩
  | 78 => ⟨S_, .i32⟩
  | 79 => ⟨S_, .i32⟩
  | 80 => ⟨S160000, .i32⟩
  | 81 => ⟨S160000, .i32⟩
  | 82 => ⟨S_, .i32⟩
  | 83 => ⟨S160000, .i32⟩
  | 84 => ⟨S160000, .i32⟩
  | 85 => ⟨S160000, .f32⟩
  | 86 => ⟨S_, .i32⟩
  | 87 => ⟨S160000, .i32⟩
  | 88 => ⟨S160000, .i32⟩
  | 89 => ⟨S160000, .i32⟩
  | 90 => ⟨S160000x1, .f32⟩
  | 91 => ⟨S160000, .f32⟩
  | 92 => ⟨S_, .f32⟩
  | 93 => ⟨S160000, .f32⟩
  | 94 => ⟨S160000, .f32⟩
  | 95 => ⟨S160000x1, .i32⟩
  | 96 => ⟨S160000, .i32⟩
  | 97 => ⟨S_, .i32⟩
  | 98 => ⟨S160000, .i32⟩
  | 99 => ⟨S160000, .i32⟩
  | 100 => ⟨S_, .i32⟩
  | 101 => ⟨S_, .i32⟩
  | 102 => ⟨S_, .i32⟩
  | 103 => ⟨S160000, .i32⟩
  | 104 => ⟨S160000, .i32⟩
  | 105 => ⟨S_, .i32⟩
  | 106 => ⟨S160000, .i32⟩
  | 107 => ⟨S160000, .i32⟩
  | 108 => ⟨S160000, .f32⟩
  | 109 => ⟨S_, .i32⟩
  | 110 => ⟨S160000, .i32⟩
  | 111 => ⟨S160000, .i32⟩
  | 112 => ⟨S160000, .i32⟩
  | 113 => ⟨S_, .f32⟩
  | 114 => ⟨S160000, .f32⟩
  | 115 => ⟨S_, .i32⟩
  | 116 => ⟨S160000, .i32⟩
  | 117 => ⟨S160000x1, .f32⟩
  | 118 => ⟨S160000, .f32⟩
  | 119 => ⟨S160000x1, .i32⟩
  | 120 => ⟨S160000, .i32⟩
  | 121 => ⟨S_, .i32⟩
  | 122 => ⟨S160000, .i32⟩
  | 123 => ⟨S160000, .i32⟩
  | 124 => ⟨S_, .i32⟩
  | 125 => ⟨S_, .i32⟩
  | 126 => ⟨S_, .i32⟩
  | 127 => ⟨S160000, .i32⟩
  | _ => ⟨S10000x1, .f32⟩

abbrev hbmTy0_2 (i : Nat) : BufTy := match i % 128 with
  | 0 => ⟨S160000, .i32⟩
  | 1 => ⟨S_, .i32⟩
  | 2 => ⟨S160000, .i32⟩
  | 3 => ⟨S160000, .i32⟩
  | 4 => ⟨S160000, .f32⟩
  | 5 => ⟨S_, .i32⟩
  | 6 => ⟨S160000, .i32⟩
  | 7 => ⟨S160000, .i32⟩
  | 8 => ⟨S160000, .i32⟩
  | 9 => ⟨S160000x1, .f32⟩
  | 10 => ⟨S160000, .f32⟩
  | 11 => ⟨S160000x1, .i32⟩
  | 12 => ⟨S160000, .i32⟩
  | 13 => ⟨S_, .i32⟩
  | 14 => ⟨S160000, .i32⟩
  | 15 => ⟨S160000, .i32⟩
  | 16 => ⟨S_, .i32⟩
  | 17 => ⟨S_, .i32⟩
  | 18 => ⟨S_, .i32⟩
  | 19 => ⟨S160000, .i32⟩
  | 20 => ⟨S160000, .i32⟩
  | 21 => ⟨S_, .i32⟩
  | 22 => ⟨S160000, .i32⟩
  | 23 => ⟨S160000, .i32⟩
  | 24 => ⟨S160000, .f32⟩
  | 25 => ⟨S_, .i32⟩
  | 26 => ⟨S160000, .i32⟩
  | 27 => ⟨S160000, .i32⟩
  | 28 => ⟨S160000, .i32⟩
  | 29 => ⟨S160000x1, .f32⟩
  | 30 => ⟨S160000, .f32⟩
  | 31 => ⟨S_, .f32⟩
  | 32 => ⟨S160000, .f32⟩
  | 33 => ⟨S160000, .f32⟩
  | 34 => ⟨S160000x1, .i32⟩
  | 35 => ⟨S160000, .i32⟩
  | 36 => ⟨S_, .i32⟩
  | 37 => ⟨S160000, .i32⟩
  | 38 => ⟨S160000, .i32⟩
  | 39 => ⟨S_, .i32⟩
  | 40 => ⟨S_, .i32⟩
  | 41 => ⟨S_, .i32⟩
  | 42 => ⟨S160000, .i32⟩
  | 43 => ⟨S160000, .i32⟩
  | 44 => ⟨S_, .i32⟩
  | 45 => ⟨S160000, .i32⟩
  | 46 => ⟨S160000, .i32⟩
  | 47 => ⟨S160000, .f32⟩
  | 48 => ⟨S_, .i32⟩
  | 49 => ⟨S160000, .i32⟩
  | 50 => ⟨S160000, .i32⟩
  | 51 => ⟨S160000, .i32⟩
  | 52 => ⟨S_, .f32⟩
  | 53 => ⟨S160000, .f32⟩
  | 54 => ⟨S_, .i32⟩
  | 55 => ⟨S160000, .i32⟩
  | 56 => ⟨S160000x1, .f32⟩
  | 57 => ⟨S160000, .f32⟩
  | 58 => ⟨S_, .f32⟩
  | 59 => ⟨S160000, .f32⟩
  | 60 => ⟨S160000, .f32⟩
  | 61 => ⟨S160000x1, .i32⟩
  | 62 => ⟨S160000, .i32⟩
  | 63 => ⟨S_, .i32⟩
  | 64 => ⟨S160000, .i32⟩
  | 65 => ⟨S160000, .i32⟩
  | 66 => ⟨S_, .i32⟩
  | 67 => ⟨S_, .i32⟩
  | 68 => ⟨S_, .i32⟩
  | 69 => ⟨S160000, .i32⟩
  | 70 => ⟨S160000, .i32⟩
  | 71 => ⟨S_, .i32⟩
  | 72 => ⟨S160000, .i32⟩
  | 73 => ⟨S160000, .i32⟩
  | 74 => ⟨S160000, .f32⟩
  | 75 => ⟨S_, .i32⟩
  | 76 => ⟨S160000, .i32⟩
  | 77 => ⟨S160000, .i32⟩
  | 78 => ⟨S160000, .i32⟩
  | 79 => ⟨S160000x1, .f32⟩
  | 80 => ⟨S160000, .f32⟩
  | 81 => ⟨S_, .f32⟩
  | 82 => ⟨S160000, .f32⟩
  | 83 => ⟨S160000, .f32⟩
  | 84 => ⟨S160000x1, .i32⟩
  | 85 => ⟨S160000, .i32⟩
  | 86 => ⟨S_, .i32⟩
  | 87 => ⟨S160000, .i32⟩
  | 88 => ⟨S160000, .i32⟩
  | 89 => ⟨S_, .i32⟩
  | 90 => ⟨S_, .i32⟩
  | 91 => ⟨S_, .i32⟩
  | 92 => ⟨S160000, .i32⟩
  | 93 => ⟨S160000, .i32⟩
  | 94 => ⟨S_, .i32⟩
  | 95 => ⟨S160000, .i32⟩
  | 96 => ⟨S160000, .i32⟩
  | 97 => ⟨S160000, .f32⟩
  | 98 => ⟨S_, .i32⟩
  | 99 => ⟨S160000, .i32⟩
  | 100 => ⟨S160000, .i32⟩
  | 101 => ⟨S160000, .i32⟩
  | 102 => ⟨S160000x1, .f32⟩
  | 103 => ⟨S160000, .f32⟩
  | 104 => ⟨S160000x1, .i32⟩
  | 105 => ⟨S160000, .i32⟩
  | 106 => ⟨S_, .i32⟩
  | 107 => ⟨S160000, .i32⟩
  | 108 => ⟨S160000, .i32⟩
  | 109 => ⟨S_, .i32⟩
  | 110 => ⟨S_, .i32⟩
  | 111 => ⟨S_, .i32⟩
  | 112 => ⟨S160000, .i32⟩
  | 113 => ⟨S160000, .i32⟩
  | 114 => ⟨S_, .i32⟩
  | 115 => ⟨S160000, .i32⟩
  | 116 => ⟨S160000, .i32⟩
  | 117 => ⟨S160000, .f32⟩
  | 118 => ⟨S_, .i32⟩
  | 119 => ⟨S160000, .i32⟩
  | 120 => ⟨S160000, .i32⟩
  | 121 => ⟨S160000, .i32⟩
  | 122 => ⟨S_, .f32⟩
  | 123 => ⟨S160000, .f32⟩
  | 124 => ⟨S_, .i32⟩
  | 125 => ⟨S160000, .i32⟩
  | 126 => ⟨S160000x1, .f32⟩
  | 127 => ⟨S160000, .f32⟩
  | _ => ⟨S10000x1, .f32⟩

abbrev hbmTy0_3 (i : Nat) : BufTy := match i % 128 with
  | 0 => ⟨S160000x1, .i32⟩
  | 1 => ⟨S160000, .i32⟩
  | 2 => ⟨S_, .i32⟩
  | 3 => ⟨S160000, .i32⟩
  | 4 => ⟨S160000, .i32⟩
  | 5 => ⟨S_, .i32⟩
  | 6 => ⟨S_, .i32⟩
  | 7 => ⟨S_, .i32⟩
  | 8 => ⟨S160000, .i32⟩
  | 9 => ⟨S160000, .i32⟩
  | 10 => ⟨S_, .i32⟩
  | 11 => ⟨S160000, .i32⟩
  | 12 => ⟨S160000, .i32⟩
  | 13 => ⟨S160000, .f32⟩
  | 14 => ⟨S_, .i32⟩
  | 15 => ⟨S160000, .i32⟩
  | 16 => ⟨S160000, .i32⟩
  | 17 => ⟨S160000, .i32⟩
  | 18 => ⟨S160000x1, .f32⟩
  | 19 => ⟨S160000, .f32⟩
  | 20 => ⟨S_, .f32⟩
  | 21 => ⟨S160000, .f32⟩
  | 22 => ⟨S160000, .f32⟩
  | 23 => ⟨S160000x1, .i32⟩
  | 24 => ⟨S160000, .i32⟩
  | 25 => ⟨S_, .i32⟩
  | 26 => ⟨S160000, .i32⟩
  | 27 => ⟨S160000, .i32⟩
  | 28 => ⟨S_, .i32⟩
  | 29 => ⟨S_, .i32⟩
  | 30 => ⟨S_, .i32⟩
  | 31 => ⟨S160000, .i32⟩
  | 32 => ⟨S160000, .i32⟩
  | 33 => ⟨S_, .i32⟩
  | 34 => ⟨S160000, .i32⟩
  | 35 => ⟨S160000, .i32⟩
  | 36 => ⟨S160000, .f32⟩
  | 37 => ⟨S_, .i32⟩
  | 38 => ⟨S160000, .i32⟩
  | 39 => ⟨S160000, .i32⟩
  | 40 => ⟨S160000, .i32⟩
  | 41 => ⟨S160000x1, .f32⟩
  | 42 => ⟨S160000, .f32⟩
  | 43 => ⟨S160000x1, .i32⟩
  | 44 => ⟨S160000, .i32⟩
  | 45 => ⟨S_, .i32⟩
  | 46 => ⟨S160000, .i32⟩
  | 47 => ⟨S160000, .i32⟩
  | 48 => ⟨S_, .i32⟩
  | 49 => ⟨S_, .i32⟩
  | 50 => ⟨S_, .i32⟩
  | 51 => ⟨S160000, .i32⟩
  | 52 => ⟨S160000, .i32⟩
  | 53 => ⟨S_, .i32⟩
  | 54 => ⟨S160000, .i32⟩
  | 55 => ⟨S160000, .i32⟩
  | 56 => ⟨S160000, .f32⟩
  | 57 => ⟨S_, .i32⟩
  | 58 => ⟨S160000, .i32⟩
  | 59 => ⟨S160000, .i32⟩
  | 60 => ⟨S160000, .i32⟩
  | 61 => ⟨S_, .f32⟩
  | 62 => ⟨S160000, .f32⟩
  | 63 => ⟨S_, .i32⟩
  | 64 => ⟨S160000, .i32⟩
  | 65 => ⟨S160000x1, .f32⟩
  | 66 => ⟨S160000, .f32⟩
  | 67 => ⟨S_, .f32⟩
  | 68 => ⟨S160000, .f32⟩
  | 69 => ⟨S160000, .f32⟩
  | 70 => ⟨S160000x1, .i32⟩
  | 71 => ⟨S160000, .i32⟩
  | 72 => ⟨S_, .i32⟩
  | 73 => ⟨S160000, .i32⟩
  | 74 => ⟨S160000, .i32⟩
  | 75 => ⟨S_, .i32⟩
  | 76 => ⟨S_, .i32⟩
  | 77 => ⟨S_, .i32⟩
  | 78 => ⟨S160000, .i32⟩
  | 79 => ⟨S160000, .i32⟩
  | 80 => ⟨S_, .i32⟩
  | 81 => ⟨S160000, .i32⟩
  | 82 => ⟨S160000, .i32⟩
  | 83 => ⟨S160000, .f32⟩
  | 84 => ⟨S_, .i32⟩
  | 85 => ⟨S160000, .i32⟩
  | 86 => ⟨S160000, .i32⟩
  | 87 => ⟨S160000, .i32⟩
  | 88 => ⟨S160000x1, .f32⟩
  | 89 => ⟨S160000, .f32⟩
  | 90 => ⟨S160000x1, .i32⟩
  | 91 => ⟨S160000, .i32⟩
  | 92 => ⟨S_, .i32⟩
  | 93 => ⟨S160000, .i32⟩
  | 94 => ⟨S160000, .i32⟩
  | 95 => ⟨S_, .i32⟩
  | 96 => ⟨S_, .i32⟩
  | 97 => ⟨S_, .i32⟩
  | 98 => ⟨S160000, .i32⟩
  | 99 => ⟨S160000, .i32⟩
  | 100 => ⟨S_, .i32⟩
  | 101 => ⟨S160000, .i32⟩
  | 102 => ⟨S160000, .i32⟩
  | 103 => ⟨S160000, .f32⟩
  | 104 => ⟨S_, .i32⟩
  | 105 => ⟨S160000, .i32⟩
  | 106 => ⟨S160000, .i32⟩
  | 107 => ⟨S160000, .i32⟩
  | 108 => ⟨S160000x1, .f32⟩
  | 109 => ⟨S160000, .f32⟩
  | 110 => ⟨S160000x1, .i32⟩
  | 111 => ⟨S160000, .i32⟩
  | 112 => ⟨S_, .i32⟩
  | 113 => ⟨S160000, .i32⟩
  | 114 => ⟨S160000, .i32⟩
  | 115 => ⟨S_, .i32⟩
  | 116 => ⟨S_, .i32⟩
  | 117 => ⟨S_, .i32⟩
  | 118 => ⟨S160000, .i32⟩
  | 119 => ⟨S160000, .i32⟩
  | 120 => ⟨S_, .i32⟩
  | 121 => ⟨S160000, .i32⟩
  | 122 => ⟨S160000, .i32⟩
  | 123 => ⟨S160000, .f32⟩
  | 124 => ⟨S_, .i32⟩
  | 125 => ⟨S160000, .i32⟩
  | 126 => ⟨S160000, .i32⟩
  | 127 => ⟨S160000, .i32⟩
  | _ => ⟨S10000x1, .f32⟩

abbrev hbmTy0_4 (i : Nat) : BufTy := match i % 128 with
  | 0 => ⟨S_, .f32⟩
  | 1 => ⟨S160000, .f32⟩
  | 2 => ⟨S_, .i32⟩
  | 3 => ⟨S160000, .i32⟩
  | 4 => ⟨S160000x1, .f32⟩
  | 5 => ⟨S160000, .f32⟩
  | 6 => ⟨S160000x1, .i32⟩
  | 7 => ⟨S160000, .i32⟩
  | 8 => ⟨S_, .i32⟩
  | 9 => ⟨S160000, .i32⟩
  | 10 => ⟨S160000, .i32⟩
  | 11 => ⟨S_, .i32⟩
  | 12 => ⟨S_, .i32⟩
  | 13 => ⟨S_, .i32⟩
  | 14 => ⟨S160000, .i32⟩
  | 15 => ⟨S160000, .i32⟩
  | 16 => ⟨S_, .i32⟩
  | 17 => ⟨S160000, .i32⟩
  | 18 => ⟨S160000, .i32⟩
  | 19 => ⟨S160000, .f32⟩
  | 20 => ⟨S_, .i32⟩
  | 21 => ⟨S160000, .i32⟩
  | 22 => ⟨S160000, .i32⟩
  | 23 => ⟨S160000, .i32⟩
  | 24 => ⟨S160000x1, .f32⟩
  | 25 => ⟨S160000, .f32⟩
  | 26 => ⟨S160000x1, .i32⟩
  | 27 => ⟨S160000, .i32⟩
  | 28 => ⟨S_, .i32⟩
  | 29 => ⟨S160000, .i32⟩
  | 30 => ⟨S160000, .i32⟩
  | 31 => ⟨S_, .i32⟩
  | 32 => ⟨S_, .i32⟩
  | 33 => ⟨S_, .i32⟩
  | 34 => ⟨S160000, .i32⟩
  | 35 => ⟨S160000, .i32⟩
  | 36 => ⟨S_, .i32⟩
  | 37 => ⟨S160000, .i32⟩
  | 38 => ⟨S160000, .i32⟩
  | 39 => ⟨S160000, .f32⟩
  | 40 => ⟨S_, .i32⟩
  | 41 => ⟨S160000, .i32⟩
  | 42 => ⟨S160000, .i32⟩
  | 43 => ⟨S160000, .i32⟩
  | 44 => ⟨S160000x1, .f32⟩
  | 45 => ⟨S160000, .f32⟩
  | 46 => ⟨S160000x1, .i32⟩
  | 47 => ⟨S160000, .i32⟩
  | 48 => ⟨S_, .i32⟩
  | 49 => ⟨S160000, .i32⟩
  | 50 => ⟨S160000, .i32⟩
  | 51 => ⟨S_, .i32⟩
  | 52 => ⟨S_, .i32⟩
  | 53 => ⟨S_, .i32⟩
  | 54 => ⟨S160000, .i32⟩
  | 55 => ⟨S160000, .i32⟩
  | 56 => ⟨S_, .i32⟩
  | 57 => ⟨S160000, .i32⟩
  | 58 => ⟨S160000, .i32⟩
  | 59 => ⟨S160000, .f32⟩
  | 60 => ⟨S_, .i32⟩
  | 61 => ⟨S160000, .i32⟩
  | 62 => ⟨S160000, .i32⟩
  | 63 => ⟨S160000, .i32⟩
  | 64 => ⟨S160000x1, .f32⟩
  | 65 => ⟨S160000x1, .f32⟩
  | 66 => ⟨S160000x1, .f32⟩
  | 67 => ⟨S160000x1, .f32⟩
  | 68 => ⟨S160000x1, .f32⟩
  | 69 => ⟨S160000x1, .f32⟩
  | 70 => ⟨S160000x1, .f32⟩
  | 71 => ⟨S160000x1, .f32⟩
  | 72 => ⟨S160000x8, .f32⟩
  | 73 => ⟨S160000x1, .i32⟩
  | 74 => ⟨S160000x1, .i32⟩
  | 75 => ⟨S160000x1, .i32⟩
  | 76 => ⟨S160000x1, .i32⟩
  | 77 => ⟨S160000x1, .i32⟩
  | 78 => ⟨S160000x1, .i32⟩
  | 79 => ⟨S160000x1, .i32⟩
  | 80 => ⟨S160000x1, .i32⟩
  | 81 => ⟨S160000x8, .i32⟩
  | 82 => ⟨S_, .f32⟩
  | 83 => ⟨S10000x1, .f32⟩
  | 84 => ⟨S10000x1, .f32⟩
  | 85 => ⟨S_, .f32⟩
  | 86 => ⟨S10000x1, .f32⟩
  | 87 => ⟨S10000x1, .f32⟩
  | 88 => ⟨S_, .f32⟩
  | 89 => ⟨S10000x1, .f32⟩
  | 90 => ⟨S10000x1, .f32⟩
  | 91 => ⟨S_, .f32⟩
  | 92 => ⟨S10000x1, .f32⟩
  | 93 => ⟨S10000x1, .f32⟩
  | 94 => ⟨S_, .f32⟩
  | 95 => ⟨S_, .f32⟩
  | 96 => ⟨S_, .f32⟩
  | 97 => ⟨S10000x1, .f32⟩
  | 98 => ⟨S10000x1, .f32⟩
  | 99 => ⟨S_, .f32⟩
  | 100 => ⟨S10000x1, .f32⟩
  | 101 => ⟨S10000x1, .f32⟩
  | 102 => ⟨S10000x125x8, .f32⟩
  | 103 => ⟨S160000x1, .i32⟩
  | 104 => ⟨S_, .i32⟩
  | 105 => ⟨S160000x1, .i32⟩
  | 106 => ⟨S160000x1, .i1⟩
  | 107 => ⟨S_, .i32⟩
  | 108 => ⟨S160000x1, .i32⟩
  | 109 => ⟨S160000x1, .i32⟩
  | 110 => ⟨S160000x1, .i32⟩
  | 111 => ⟨S_, .i32⟩
  | 112 => ⟨S160000x8, .i32⟩
  | 113 => ⟨S160000x8, .i1⟩
  | 114 => ⟨S_, .i32⟩
  | 115 => ⟨S160000x8, .i32⟩
  | 116 => ⟨S160000x8, .i32⟩
  | 117 => ⟨S160000x8, .i32⟩
  | 118 => ⟨S160000x8, .i32⟩
  | 119 => ⟨S160000x8x1, .i32⟩
  | 120 => ⟨S160000x8x1, .i32⟩
  | 121 => ⟨S160000x8x2, .i32⟩
  | 122 => ⟨S160000x8x8, .f32⟩
  | 123 => ⟨S160000x8x1, .f32⟩
  | 124 => ⟨S160000x8x8, .f32⟩
  | 125 => ⟨S160000x8x8, .f32⟩
  | 126 => ⟨S_, .f32⟩
  | 127 => ⟨S160000x8, .f32⟩
  | _ => ⟨S10000x1, .f32⟩

abbrev hbmTy0_5 (i : Nat) : BufTy := match i % 128 with
  | 0 => ⟨S_, .f32⟩
  | 1 => ⟨S10000x8, .f32⟩
  | 2 => ⟨S160000x1, .i32⟩
  | 3 => ⟨S10000x8, .f32⟩
  | 4 => ⟨S10000x8, .f32⟩
  | 5 => ⟨S10000x8, .f32⟩
  | 6 => ⟨S1x8, .f32⟩
  | 7 => ⟨S10000x8, .f32⟩
  | 8 => ⟨S10000x8, .f32⟩
  | 9 => ⟨S_, .f32⟩
  | 10 => ⟨S10000x8, .f32⟩
  | 11 => ⟨S10000x8, .i1⟩
  | 12 => ⟨S_, .f32⟩
  | 13 => ⟨S10000x8, .f32⟩
  | 14 => ⟨S10000x8, .i1⟩
  | 15 => ⟨S_, .f32⟩
  | 16 => ⟨S_, .f32⟩
  | 17 => ⟨S10000x8, .f32⟩
  | 18 => ⟨S10000x8, .f32⟩
  | 19 => ⟨S10000x8, .f32⟩
  | 20 => ⟨S_, .f32⟩
  | 21 => ⟨S10000x8, .f32⟩
  | 22 => ⟨S10000x8, .f32⟩
  | 23 => ⟨S10000x8, .f32⟩
  | 24 => ⟨S10000x125x16, .f32⟩
  | 25 => ⟨S160000x1, .i32⟩
  | 26 => ⟨S_, .i32⟩
  | 27 => ⟨S160000x1, .i32⟩
  | 28 => ⟨S160000x1, .i1⟩
  | 29 => ⟨S_, .i32⟩
  | 30 => ⟨S160000x1, .i32⟩
  | 31 => ⟨S160000x1, .i32⟩
  | 32 => ⟨S160000x1, .i32⟩
  | 33 => ⟨S_, .i32⟩
  | 34 => ⟨S160000x8, .i32⟩
  | 35 => ⟨S160000x8, .i1⟩
  | 36 => ⟨S_, .i32⟩
  | 37 => ⟨S160000x8, .i32⟩
  | 38 => ⟨S160000x8, .i32⟩
  | 39 => ⟨S160000x8, .i32⟩
  | 40 => ⟨S160000x8, .i32⟩
  | 41 => ⟨S160000x8x1, .i32⟩
  | 42 => ⟨S160000x8x1, .i32⟩
  | 43 => ⟨S160000x8x2, .i32⟩
  | 44 => ⟨S160000x8x16, .f32⟩
  | 45 => ⟨S160000x8x1, .f32⟩
  | 46 => ⟨S160000x8x16, .f32⟩
  | 47 => ⟨S160000x8x16, .f32⟩
  | 48 => ⟨S_, .f32⟩
  | 49 => ⟨S160000x16, .f32⟩
  | 50 => ⟨S_, .f32⟩
  | 51 => ⟨S10000x16, .f32⟩
  | 52 => ⟨S160000x1, .i32⟩
  | 53 => ⟨S10000x16, .f32⟩
  | 54 => ⟨S10000x16, .f32⟩
  | 55 => ⟨S10000x16, .f32⟩
  | 56 => ⟨S1x16, .f32⟩
  | 57 => ⟨S10000x16, .f32⟩
  | 58 => ⟨S10000x16, .f32⟩
  | 59 => ⟨S_, .f32⟩
  | 60 => ⟨S10000x16, .f32⟩
  | 61 => ⟨S10000x16, .i1⟩
  | 62 => ⟨S_, .f32⟩
  | 63 => ⟨S10000x16, .f32⟩
  | 64 => ⟨S10000x16, .i1⟩
  | 65 => ⟨S_, .f32⟩
  | 66 => ⟨S_, .f32⟩
  | 67 => ⟨S10000x16, .f32⟩
  | 68 => ⟨S10000x16, .f32⟩
  | 69 => ⟨S10000x16, .f32⟩
  | 70 => ⟨S_, .f32⟩
  | 71 => ⟨S10000x16, .f32⟩
  | 72 => ⟨S10000x16, .f32⟩
  | 73 => ⟨S10000x16, .f32⟩
  | 74 => ⟨S10000x125x16, .f32⟩
  | 75 => ⟨S160000x1, .i32⟩
  | 76 => ⟨S_, .i32⟩
  | 77 => ⟨S160000x1, .i32⟩
  | 78 => ⟨S160000x1, .i1⟩
  | 79 => ⟨S_, .i32⟩
  | 80 => ⟨S160000x1, .i32⟩
  | 81 => ⟨S160000x1, .i32⟩
  | 82 => ⟨S160000x1, .i32⟩
  | 83 => ⟨S_, .i32⟩
  | 84 => ⟨S160000x8, .i32⟩
  | 85 => ⟨S160000x8, .i1⟩
  | 86 => ⟨S_, .i32⟩
  | 87 => ⟨S160000x8, .i32⟩
  | 88 => ⟨S160000x8, .i32⟩
  | 89 => ⟨S160000x8, .i32⟩
  | 90 => ⟨S160000x8, .i32⟩
  | 91 => ⟨S160000x8x1, .i32⟩
  | 92 => ⟨S160000x8x1, .i32⟩
  | 93 => ⟨S160000x8x2, .i32⟩
  | 94 => ⟨S160000x8x16, .f32⟩
  | 95 => ⟨S160000x8x1, .f32⟩
  | 96 => ⟨S160000x8x16, .f32⟩
  | 97 => ⟨S160000x8x16, .f32⟩
  | 98 => ⟨S_, .f32⟩
  | 99 => ⟨S160000x16, .f32⟩
  | 100 => ⟨S_, .f32⟩
  | 101 => ⟨S10000x16, .f32⟩
  | 102 => ⟨S160000x1, .i32⟩
  | 103 => ⟨S10000x16, .f32⟩
  | 104 => ⟨S10000x16, .f32⟩
  | 105 => ⟨S10000x16, .f32⟩
  | 106 => ⟨S1x16, .f32⟩
  | 107 => ⟨S10000x16, .f32⟩
  | 108 => ⟨S10000x16, .f32⟩
  | 109 => ⟨S_, .f32⟩
  | 110 => ⟨S10000x16, .f32⟩
  | 111 => ⟨S10000x16, .i1⟩
  | 112 => ⟨S_, .f32⟩
  | 113 => ⟨S10000x16, .f32⟩
  | 114 => ⟨S10000x16, .i1⟩
  | 115 => ⟨S_, .f32⟩
  | 116 => ⟨S_, .f32⟩
  | 117 => ⟨S10000x16, .f32⟩
  | 118 => ⟨S10000x16, .f32⟩
  | 119 => ⟨S10000x16, .f32⟩
  | 120 => ⟨S_, .f32⟩
  | 121 => ⟨S10000x16, .f32⟩
  | 122 => ⟨S10000x16, .f32⟩
  | 123 => ⟨S10000x16, .f32⟩
  | 124 => ⟨S10000x125x8, .f32⟩
  | 125 => ⟨S160000x1, .i32⟩
  | 126 => ⟨S_, .i32⟩
  | 127 => ⟨S160000x1, .i32⟩
  | _ => ⟨S10000x1, .f32⟩

abbrev hbmTy0_6 (i : Nat) : BufTy := match i % 128 with
  | 0 => ⟨S160000x1, .i1⟩
  | 1 => ⟨S_, .i32⟩
  | 2 => ⟨S160000x1, .i32⟩
  | 3 => ⟨S160000x1, .i32⟩
  | 4 => ⟨S160000x1, .i32⟩
  | 5 => ⟨S_, .i32⟩
  | 6 => ⟨S160000x8, .i32⟩
  | 7 => ⟨S160000x8, .i1⟩
  | 8 => ⟨S_, .i32⟩
  | 9 => ⟨S160000x8, .i32⟩
  | 10 => ⟨S160000x8, .i32⟩
  | 11 => ⟨S160000x8, .i32⟩
  | 12 => ⟨S160000x8, .i32⟩
  | 13 => ⟨S160000x8x1, .i32⟩
  | 14 => ⟨S160000x8x1, .i32⟩
  | 15 => ⟨S160000x8x2, .i32⟩
  | 16 => ⟨S160000x8x8, .f32⟩
  | 17 => ⟨S160000x8x1, .f32⟩
  | 18 => ⟨S160000x8x8, .f32⟩
  | 19 => ⟨S160000x8x8, .f32⟩
  | 20 => ⟨S_, .f32⟩
  | 21 => ⟨S160000x8, .f32⟩
  | 22 => ⟨S_, .f32⟩
  | 23 => ⟨S10000x8, .f32⟩
  | 24 => ⟨S160000x1, .i32⟩
  | 25 => ⟨S10000x8, .f32⟩
  | 26 => ⟨S10000x8, .f32⟩
  | 27 => ⟨S10000x8, .f32⟩
  | 28 => ⟨S1x8, .f32⟩
  | 29 => ⟨S10000x8, .f32⟩
  | 30 => ⟨S10000x8, .f32⟩
  | 31 => ⟨S_, .f32⟩
  | 32 => ⟨S10000x8, .f32⟩
  | 33 => ⟨S10000x8, .i1⟩
  | 34 => ⟨S_, .f32⟩
  | 35 => ⟨S10000x8, .f32⟩
  | 36 => ⟨S10000x8, .i1⟩
  | 37 => ⟨S_, .f32⟩
  | 38 => ⟨S_, .f32⟩
  | 39 => ⟨S10000x8, .f32⟩
  | 40 => ⟨S10000x8, .f32⟩
  | 41 => ⟨S10000x8, .f32⟩
  | 42 => ⟨S_, .f32⟩
  | 43 => ⟨S10000x8, .f32⟩
  | 44 => ⟨S10000x8, .f32⟩
  | 45 => ⟨S10000x8, .f32⟩
  | 46 => ⟨S10000x125x1, .f32⟩
  | 47 => ⟨S160000x1, .i32⟩
  | 48 => ⟨S_, .i32⟩
  | 49 => ⟨S160000x1, .i32⟩
  | 50 => ⟨S160000x1, .i1⟩
  | 51 => ⟨S_, .i32⟩
  | 52 => ⟨S160000x1, .i32⟩
  | 53 => ⟨S160000x1, .i32⟩
  | 54 => ⟨S160000x1, .i32⟩
  | 55 => ⟨S_, .i32⟩
  | 56 => ⟨S160000x8, .i32⟩
  | 57 => ⟨S160000x8, .i1⟩
  | 58 => ⟨S_, .i32⟩
  | 59 => ⟨S160000x8, .i32⟩
  | 60 => ⟨S160000x8, .i32⟩
  | 61 => ⟨S160000x8, .i32⟩
  | 62 => ⟨S160000x8, .i32⟩
  | 63 => ⟨S160000x8x1, .i32⟩
  | 64 => ⟨S160000x8x1, .i32⟩
  | 65 => ⟨S160000x8x2, .i32⟩
  | 66 => ⟨S160000x8x1, .f32⟩
  | 67 => ⟨S160000x8x1, .f32⟩
  | 68 => ⟨S160000x8x1, .f32⟩
  | 69 => ⟨S_, .f32⟩
  | 70 => ⟨S160000x1, .f32⟩
  | 71 => ⟨S_, .f32⟩
  | 72 => ⟨S10000x1, .f32⟩
  | 73 => ⟨S160000x1, .i32⟩
  | 74 => ⟨S10000x1, .f32⟩
  | 75 => ⟨S10000x1, .f32⟩
  | 76 => ⟨S10000x1, .f32⟩
  | 77 => ⟨S1x1, .f32⟩
  | 78 => ⟨S10000x1, .f32⟩
  | 79 => ⟨S10000x1, .f32⟩
  | 80 => ⟨S_, .f32⟩
  | 81 => ⟨S10000x1, .f32⟩
  | 82 => ⟨S10000x1, .i1⟩
  | 83 => ⟨S_, .f32⟩
  | 84 => ⟨S10000x1, .f32⟩
  | 85 => ⟨S10000x1, .i1⟩
  | 86 => ⟨S_, .f32⟩
  | 87 => ⟨S_, .f32⟩
  | 88 => ⟨S10000x1, .f32⟩
  | 89 => ⟨S10000x1, .f32⟩
  | 90 => ⟨S10000x1, .f32⟩
  | 91 => ⟨S_, .f32⟩
  | 92 => ⟨S10000x1, .f32⟩
  | 93 => ⟨S10000x1, .f32⟩
  | 94 => ⟨S10000x1, .f32⟩
  | 95 => ⟨S10000, .f32⟩
  | _ => ⟨S10000x1, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S10000x1, .f32⟩

abbrev bufTy : (tb : Table) → Fin (tcTables nBuf tb) → BufTy
  | .hbm, ⟨i, _⟩ => hbmTy i
  | _, _ => ⟨S10000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_cst_0 : Ref sig .tc := ⟨.hbm, 28, rfl⟩
abbrev main_v9 : Ref sig .tc := ⟨.hbm, 29, rfl⟩
abbrev main_c : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_cst_1 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_c_2 : Ref sig .tc := ⟨.hbm, 39, rfl⟩
abbrev main_v17 : Ref sig .tc := ⟨.hbm, 40, rfl⟩
abbrev main_v18 : Ref sig .tc := ⟨.hbm, 41, rfl⟩
abbrev main_c_3 : Ref sig .tc := ⟨.hbm, 42, rfl⟩
abbrev main_c_4 : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_v19 : Ref sig .tc := ⟨.hbm, 49, rfl⟩
abbrev main_v20 : Ref sig .tc := ⟨.hbm, 50, rfl⟩
abbrev main_c_5 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_cst_6 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_c_7 : Ref sig .tc := ⟨.hbm, 62, rfl⟩
abbrev main_v30 : Ref sig .tc := ⟨.hbm, 63, rfl⟩
abbrev main_v31 : Ref sig .tc := ⟨.hbm, 64, rfl⟩
abbrev main_c_8 : Ref sig .tc := ⟨.hbm, 65, rfl⟩
abbrev main_c_9 : Ref sig .tc := ⟨.hbm, 66, rfl⟩
abbrev main_call1_v0 : Ref sig .tc := ⟨.hbm, 67, rfl⟩
abbrev main_call1_v1 : Ref sig .tc := ⟨.hbm, 68, rfl⟩
abbrev main_call1_v2 : Ref sig .tc := ⟨.hbm, 69, rfl⟩
abbrev main_call1_v3 : Ref sig .tc := ⟨.hbm, 70, rfl⟩
abbrev main_call1_v4 : Ref sig .tc := ⟨.hbm, 71, rfl⟩
abbrev main_v32 : Ref sig .tc := ⟨.hbm, 72, rfl⟩
abbrev main_v33 : Ref sig .tc := ⟨.hbm, 73, rfl⟩
abbrev main_c_10 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_cst_11 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_c_12 : Ref sig .tc := ⟨.hbm, 85, rfl⟩
abbrev main_v43 : Ref sig .tc := ⟨.hbm, 86, rfl⟩
abbrev main_v44 : Ref sig .tc := ⟨.hbm, 87, rfl⟩
abbrev main_c_13 : Ref sig .tc := ⟨.hbm, 88, rfl⟩
abbrev main_c_14 : Ref sig .tc := ⟨.hbm, 89, rfl⟩
abbrev main_call2_v0 : Ref sig .tc := ⟨.hbm, 90, rfl⟩
abbrev main_call2_v1 : Ref sig .tc := ⟨.hbm, 91, rfl⟩
abbrev main_call2_v2 : Ref sig .tc := ⟨.hbm, 92, rfl⟩
abbrev main_call2_v3 : Ref sig .tc := ⟨.hbm, 93, rfl⟩
abbrev main_call2_v4 : Ref sig .tc := ⟨.hbm, 94, rfl⟩
abbrev main_v45 : Ref sig .tc := ⟨.hbm, 95, rfl⟩
abbrev main_v46 : Ref sig .tc := ⟨.hbm, 96, rfl⟩
abbrev main_c_15 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_cst_16 : Ref sig .tc := ⟨.hbm, 101, rfl⟩
abbrev main_v50 : Ref sig .tc := ⟨.hbm, 102, rfl⟩
abbrev main_c_17 : Ref sig .tc := ⟨.hbm, 103, rfl⟩
abbrev main_v51 : Ref sig .tc := ⟨.hbm, 104, rfl⟩
abbrev main_v52 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_c_18 : Ref sig .tc := ⟨.hbm, 109, rfl⟩
abbrev main_v56 : Ref sig .tc := ⟨.hbm, 110, rfl⟩
abbrev main_v57 : Ref sig .tc := ⟨.hbm, 111, rfl⟩
abbrev main_c_19 : Ref sig .tc := ⟨.hbm, 112, rfl⟩
abbrev main_c_20 : Ref sig .tc := ⟨.hbm, 113, rfl⟩
abbrev main_call3_v0 : Ref sig .tc := ⟨.hbm, 114, rfl⟩
abbrev main_call3_v1 : Ref sig .tc := ⟨.hbm, 115, rfl⟩
abbrev main_call3_v2 : Ref sig .tc := ⟨.hbm, 116, rfl⟩
abbrev main_call3_v3 : Ref sig .tc := ⟨.hbm, 117, rfl⟩
abbrev main_call3_v4 : Ref sig .tc := ⟨.hbm, 118, rfl⟩
abbrev main_v58 : Ref sig .tc := ⟨.hbm, 119, rfl⟩
abbrev main_v59 : Ref sig .tc := ⟨.hbm, 120, rfl⟩
abbrev main_c_21 : Ref sig .tc := ⟨.hbm, 121, rfl⟩
abbrev main_v60 : Ref sig .tc := ⟨.hbm, 122, rfl⟩
abbrev main_v61 : Ref sig .tc := ⟨.hbm, 123, rfl⟩
abbrev main_v62 : Ref sig .tc := ⟨.hbm, 124, rfl⟩
abbrev main_v63 : Ref sig .tc := ⟨.hbm, 125, rfl⟩
abbrev main_v64 : Ref sig .tc := ⟨.hbm, 126, rfl⟩
abbrev main_cst_22 : Ref sig .tc := ⟨.hbm, 127, rfl⟩
abbrev main_v65 : Ref sig .tc := ⟨.hbm, 128, rfl⟩
abbrev main_v66 : Ref sig .tc := ⟨.hbm, 129, rfl⟩
abbrev main_v67 : Ref sig .tc := ⟨.hbm, 130, rfl⟩
abbrev main_v68 : Ref sig .tc := ⟨.hbm, 131, rfl⟩
abbrev main_c_23 : Ref sig .tc := ⟨.hbm, 132, rfl⟩
abbrev main_v69 : Ref sig .tc := ⟨.hbm, 133, rfl⟩
abbrev main_v70 : Ref sig .tc := ⟨.hbm, 134, rfl⟩
abbrev main_c_24 : Ref sig .tc := ⟨.hbm, 135, rfl⟩
abbrev main_c_25 : Ref sig .tc := ⟨.hbm, 136, rfl⟩
abbrev main_call4_v0 : Ref sig .tc := ⟨.hbm, 137, rfl⟩
abbrev main_call4_v1 : Ref sig .tc := ⟨.hbm, 138, rfl⟩
abbrev main_call4_v2 : Ref sig .tc := ⟨.hbm, 139, rfl⟩
abbrev main_call4_v3 : Ref sig .tc := ⟨.hbm, 140, rfl⟩
abbrev main_call4_v4 : Ref sig .tc := ⟨.hbm, 141, rfl⟩
abbrev main_v71 : Ref sig .tc := ⟨.hbm, 142, rfl⟩
abbrev main_v72 : Ref sig .tc := ⟨.hbm, 143, rfl⟩
abbrev main_c_26 : Ref sig .tc := ⟨.hbm, 144, rfl⟩
abbrev main_v73 : Ref sig .tc := ⟨.hbm, 145, rfl⟩
abbrev main_v74 : Ref sig .tc := ⟨.hbm, 146, rfl⟩
abbrev main_v75 : Ref sig .tc := ⟨.hbm, 147, rfl⟩
abbrev main_v76 : Ref sig .tc := ⟨.hbm, 148, rfl⟩
abbrev main_v77 : Ref sig .tc := ⟨.hbm, 149, rfl⟩
abbrev main_cst_27 : Ref sig .tc := ⟨.hbm, 150, rfl⟩
abbrev main_v78 : Ref sig .tc := ⟨.hbm, 151, rfl⟩
abbrev main_v79 : Ref sig .tc := ⟨.hbm, 152, rfl⟩
abbrev main_v80 : Ref sig .tc := ⟨.hbm, 153, rfl⟩
abbrev main_v81 : Ref sig .tc := ⟨.hbm, 154, rfl⟩
abbrev main_c_28 : Ref sig .tc := ⟨.hbm, 155, rfl⟩
abbrev main_v82 : Ref sig .tc := ⟨.hbm, 156, rfl⟩
abbrev main_v83 : Ref sig .tc := ⟨.hbm, 157, rfl⟩
abbrev main_c_29 : Ref sig .tc := ⟨.hbm, 158, rfl⟩
abbrev main_c_30 : Ref sig .tc := ⟨.hbm, 159, rfl⟩
abbrev main_call5_v0 : Ref sig .tc := ⟨.hbm, 160, rfl⟩
abbrev main_call5_v1 : Ref sig .tc := ⟨.hbm, 161, rfl⟩
abbrev main_call5_v2 : Ref sig .tc := ⟨.hbm, 162, rfl⟩
abbrev main_call5_v3 : Ref sig .tc := ⟨.hbm, 163, rfl⟩
abbrev main_call5_v4 : Ref sig .tc := ⟨.hbm, 164, rfl⟩
abbrev main_v84 : Ref sig .tc := ⟨.hbm, 165, rfl⟩
abbrev main_v85 : Ref sig .tc := ⟨.hbm, 166, rfl⟩
abbrev main_c_31 : Ref sig .tc := ⟨.hbm, 167, rfl⟩
abbrev main_v86 : Ref sig .tc := ⟨.hbm, 168, rfl⟩
abbrev main_v87 : Ref sig .tc := ⟨.hbm, 169, rfl⟩
abbrev main_v88 : Ref sig .tc := ⟨.hbm, 170, rfl⟩
abbrev main_cst_32 : Ref sig .tc := ⟨.hbm, 171, rfl⟩
abbrev main_v89 : Ref sig .tc := ⟨.hbm, 172, rfl⟩
abbrev main_c_33 : Ref sig .tc := ⟨.hbm, 173, rfl⟩
abbrev main_v90 : Ref sig .tc := ⟨.hbm, 174, rfl⟩
abbrev main_v91 : Ref sig .tc := ⟨.hbm, 175, rfl⟩
abbrev main_v92 : Ref sig .tc := ⟨.hbm, 176, rfl⟩
abbrev main_cst_34 : Ref sig .tc := ⟨.hbm, 177, rfl⟩
abbrev main_v93 : Ref sig .tc := ⟨.hbm, 178, rfl⟩
abbrev main_v94 : Ref sig .tc := ⟨.hbm, 179, rfl⟩
abbrev main_v95 : Ref sig .tc := ⟨.hbm, 180, rfl⟩
abbrev main_v96 : Ref sig .tc := ⟨.hbm, 181, rfl⟩
abbrev main_c_35 : Ref sig .tc := ⟨.hbm, 182, rfl⟩
abbrev main_v97 : Ref sig .tc := ⟨.hbm, 183, rfl⟩
abbrev main_v98 : Ref sig .tc := ⟨.hbm, 184, rfl⟩
abbrev main_c_36 : Ref sig .tc := ⟨.hbm, 185, rfl⟩
abbrev main_c_37 : Ref sig .tc := ⟨.hbm, 186, rfl⟩
abbrev main_call6_v0 : Ref sig .tc := ⟨.hbm, 187, rfl⟩
abbrev main_call6_v1 : Ref sig .tc := ⟨.hbm, 188, rfl⟩
abbrev main_call6_v2 : Ref sig .tc := ⟨.hbm, 189, rfl⟩
abbrev main_call6_v3 : Ref sig .tc := ⟨.hbm, 190, rfl⟩
abbrev main_call6_v4 : Ref sig .tc := ⟨.hbm, 191, rfl⟩
abbrev main_v99 : Ref sig .tc := ⟨.hbm, 192, rfl⟩
abbrev main_v100 : Ref sig .tc := ⟨.hbm, 193, rfl⟩
abbrev main_c_38 : Ref sig .tc := ⟨.hbm, 194, rfl⟩
abbrev main_v101 : Ref sig .tc := ⟨.hbm, 195, rfl⟩
abbrev main_v102 : Ref sig .tc := ⟨.hbm, 196, rfl⟩
abbrev main_v103 : Ref sig .tc := ⟨.hbm, 197, rfl⟩
abbrev main_v104 : Ref sig .tc := ⟨.hbm, 198, rfl⟩
abbrev main_v105 : Ref sig .tc := ⟨.hbm, 199, rfl⟩
abbrev main_v106 : Ref sig .tc := ⟨.hbm, 200, rfl⟩
abbrev main_v107 : Ref sig .tc := ⟨.hbm, 201, rfl⟩
abbrev main_c_39 : Ref sig .tc := ⟨.hbm, 202, rfl⟩
abbrev main_v108 : Ref sig .tc := ⟨.hbm, 203, rfl⟩
abbrev main_v109 : Ref sig .tc := ⟨.hbm, 204, rfl⟩
abbrev main_c_40 : Ref sig .tc := ⟨.hbm, 205, rfl⟩
abbrev main_c_41 : Ref sig .tc := ⟨.hbm, 206, rfl⟩
abbrev main_call7_v0 : Ref sig .tc := ⟨.hbm, 207, rfl⟩
abbrev main_call7_v1 : Ref sig .tc := ⟨.hbm, 208, rfl⟩
abbrev main_call7_v2 : Ref sig .tc := ⟨.hbm, 209, rfl⟩
abbrev main_call7_v3 : Ref sig .tc := ⟨.hbm, 210, rfl⟩
abbrev main_call7_v4 : Ref sig .tc := ⟨.hbm, 211, rfl⟩
abbrev main_v110 : Ref sig .tc := ⟨.hbm, 212, rfl⟩
abbrev main_v111 : Ref sig .tc := ⟨.hbm, 213, rfl⟩
abbrev main_c_42 : Ref sig .tc := ⟨.hbm, 214, rfl⟩
abbrev main_v112 : Ref sig .tc := ⟨.hbm, 215, rfl⟩
abbrev main_v113 : Ref sig .tc := ⟨.hbm, 216, rfl⟩
abbrev main_v114 : Ref sig .tc := ⟨.hbm, 217, rfl⟩
abbrev main_v115 : Ref sig .tc := ⟨.hbm, 218, rfl⟩
abbrev main_v116 : Ref sig .tc := ⟨.hbm, 219, rfl⟩
abbrev main_cst_43 : Ref sig .tc := ⟨.hbm, 220, rfl⟩
abbrev main_v117 : Ref sig .tc := ⟨.hbm, 221, rfl⟩
abbrev main_v118 : Ref sig .tc := ⟨.hbm, 222, rfl⟩
abbrev main_v119 : Ref sig .tc := ⟨.hbm, 223, rfl⟩
abbrev main_v120 : Ref sig .tc := ⟨.hbm, 224, rfl⟩
abbrev main_c_44 : Ref sig .tc := ⟨.hbm, 225, rfl⟩
abbrev main_v121 : Ref sig .tc := ⟨.hbm, 226, rfl⟩
abbrev main_v122 : Ref sig .tc := ⟨.hbm, 227, rfl⟩
abbrev main_c_45 : Ref sig .tc := ⟨.hbm, 228, rfl⟩
abbrev main_c_46 : Ref sig .tc := ⟨.hbm, 229, rfl⟩
abbrev main_call8_v0 : Ref sig .tc := ⟨.hbm, 230, rfl⟩
abbrev main_call8_v1 : Ref sig .tc := ⟨.hbm, 231, rfl⟩
abbrev main_call8_v2 : Ref sig .tc := ⟨.hbm, 232, rfl⟩
abbrev main_call8_v3 : Ref sig .tc := ⟨.hbm, 233, rfl⟩
abbrev main_call8_v4 : Ref sig .tc := ⟨.hbm, 234, rfl⟩
abbrev main_v123 : Ref sig .tc := ⟨.hbm, 235, rfl⟩
abbrev main_v124 : Ref sig .tc := ⟨.hbm, 236, rfl⟩
abbrev main_c_47 : Ref sig .tc := ⟨.hbm, 237, rfl⟩
abbrev main_v125 : Ref sig .tc := ⟨.hbm, 238, rfl⟩
abbrev main_v126 : Ref sig .tc := ⟨.hbm, 239, rfl⟩
abbrev main_v127 : Ref sig .tc := ⟨.hbm, 240, rfl⟩
abbrev main_cst_48 : Ref sig .tc := ⟨.hbm, 241, rfl⟩
abbrev main_v128 : Ref sig .tc := ⟨.hbm, 242, rfl⟩
abbrev main_c_49 : Ref sig .tc := ⟨.hbm, 243, rfl⟩
abbrev main_v129 : Ref sig .tc := ⟨.hbm, 244, rfl⟩
abbrev main_v130 : Ref sig .tc := ⟨.hbm, 245, rfl⟩
abbrev main_v131 : Ref sig .tc := ⟨.hbm, 246, rfl⟩
abbrev main_v132 : Ref sig .tc := ⟨.hbm, 247, rfl⟩
abbrev main_v133 : Ref sig .tc := ⟨.hbm, 248, rfl⟩
abbrev main_c_50 : Ref sig .tc := ⟨.hbm, 249, rfl⟩
abbrev main_v134 : Ref sig .tc := ⟨.hbm, 250, rfl⟩
abbrev main_v135 : Ref sig .tc := ⟨.hbm, 251, rfl⟩
abbrev main_c_51 : Ref sig .tc := ⟨.hbm, 252, rfl⟩
abbrev main_c_52 : Ref sig .tc := ⟨.hbm, 253, rfl⟩
abbrev main_call9_v0 : Ref sig .tc := ⟨.hbm, 254, rfl⟩
abbrev main_call9_v1 : Ref sig .tc := ⟨.hbm, 255, rfl⟩
abbrev main_call9_v2 : Ref sig .tc := ⟨.hbm, 256, rfl⟩
abbrev main_call9_v3 : Ref sig .tc := ⟨.hbm, 257, rfl⟩
abbrev main_call9_v4 : Ref sig .tc := ⟨.hbm, 258, rfl⟩
abbrev main_v136 : Ref sig .tc := ⟨.hbm, 259, rfl⟩
abbrev main_v137 : Ref sig .tc := ⟨.hbm, 260, rfl⟩
abbrev main_c_53 : Ref sig .tc := ⟨.hbm, 261, rfl⟩
abbrev main_v138 : Ref sig .tc := ⟨.hbm, 262, rfl⟩
abbrev main_v139 : Ref sig .tc := ⟨.hbm, 263, rfl⟩
abbrev main_v140 : Ref sig .tc := ⟨.hbm, 264, rfl⟩
abbrev main_v141 : Ref sig .tc := ⟨.hbm, 265, rfl⟩
abbrev main_v142 : Ref sig .tc := ⟨.hbm, 266, rfl⟩
abbrev main_v143 : Ref sig .tc := ⟨.hbm, 267, rfl⟩
abbrev main_v144 : Ref sig .tc := ⟨.hbm, 268, rfl⟩
abbrev main_c_54 : Ref sig .tc := ⟨.hbm, 269, rfl⟩
abbrev main_v145 : Ref sig .tc := ⟨.hbm, 270, rfl⟩
abbrev main_v146 : Ref sig .tc := ⟨.hbm, 271, rfl⟩
abbrev main_c_55 : Ref sig .tc := ⟨.hbm, 272, rfl⟩
abbrev main_c_56 : Ref sig .tc := ⟨.hbm, 273, rfl⟩
abbrev main_call10_v0 : Ref sig .tc := ⟨.hbm, 274, rfl⟩
abbrev main_call10_v1 : Ref sig .tc := ⟨.hbm, 275, rfl⟩
abbrev main_call10_v2 : Ref sig .tc := ⟨.hbm, 276, rfl⟩
abbrev main_call10_v3 : Ref sig .tc := ⟨.hbm, 277, rfl⟩
abbrev main_call10_v4 : Ref sig .tc := ⟨.hbm, 278, rfl⟩
abbrev main_v147 : Ref sig .tc := ⟨.hbm, 279, rfl⟩
abbrev main_v148 : Ref sig .tc := ⟨.hbm, 280, rfl⟩
abbrev main_c_57 : Ref sig .tc := ⟨.hbm, 281, rfl⟩
abbrev main_v149 : Ref sig .tc := ⟨.hbm, 282, rfl⟩
abbrev main_v150 : Ref sig .tc := ⟨.hbm, 283, rfl⟩
abbrev main_v151 : Ref sig .tc := ⟨.hbm, 284, rfl⟩
abbrev main_v152 : Ref sig .tc := ⟨.hbm, 285, rfl⟩
abbrev main_v153 : Ref sig .tc := ⟨.hbm, 286, rfl⟩
abbrev main_cst_58 : Ref sig .tc := ⟨.hbm, 287, rfl⟩
abbrev main_v154 : Ref sig .tc := ⟨.hbm, 288, rfl⟩
abbrev main_v155 : Ref sig .tc := ⟨.hbm, 289, rfl⟩
abbrev main_v156 : Ref sig .tc := ⟨.hbm, 290, rfl⟩
abbrev main_v157 : Ref sig .tc := ⟨.hbm, 291, rfl⟩
abbrev main_c_59 : Ref sig .tc := ⟨.hbm, 292, rfl⟩
abbrev main_v158 : Ref sig .tc := ⟨.hbm, 293, rfl⟩
abbrev main_v159 : Ref sig .tc := ⟨.hbm, 294, rfl⟩
abbrev main_c_60 : Ref sig .tc := ⟨.hbm, 295, rfl⟩
abbrev main_c_61 : Ref sig .tc := ⟨.hbm, 296, rfl⟩
abbrev main_call11_v0 : Ref sig .tc := ⟨.hbm, 297, rfl⟩
abbrev main_call11_v1 : Ref sig .tc := ⟨.hbm, 298, rfl⟩
abbrev main_call11_v2 : Ref sig .tc := ⟨.hbm, 299, rfl⟩
abbrev main_call11_v3 : Ref sig .tc := ⟨.hbm, 300, rfl⟩
abbrev main_call11_v4 : Ref sig .tc := ⟨.hbm, 301, rfl⟩
abbrev main_v160 : Ref sig .tc := ⟨.hbm, 302, rfl⟩
abbrev main_v161 : Ref sig .tc := ⟨.hbm, 303, rfl⟩
abbrev main_c_62 : Ref sig .tc := ⟨.hbm, 304, rfl⟩
abbrev main_v162 : Ref sig .tc := ⟨.hbm, 305, rfl⟩
abbrev main_v163 : Ref sig .tc := ⟨.hbm, 306, rfl⟩
abbrev main_v164 : Ref sig .tc := ⟨.hbm, 307, rfl⟩
abbrev main_cst_63 : Ref sig .tc := ⟨.hbm, 308, rfl⟩
abbrev main_v165 : Ref sig .tc := ⟨.hbm, 309, rfl⟩
abbrev main_c_64 : Ref sig .tc := ⟨.hbm, 310, rfl⟩
abbrev main_v166 : Ref sig .tc := ⟨.hbm, 311, rfl⟩
abbrev main_v167 : Ref sig .tc := ⟨.hbm, 312, rfl⟩
abbrev main_v168 : Ref sig .tc := ⟨.hbm, 313, rfl⟩
abbrev main_cst_65 : Ref sig .tc := ⟨.hbm, 314, rfl⟩
abbrev main_v169 : Ref sig .tc := ⟨.hbm, 315, rfl⟩
abbrev main_v170 : Ref sig .tc := ⟨.hbm, 316, rfl⟩
abbrev main_v171 : Ref sig .tc := ⟨.hbm, 317, rfl⟩
abbrev main_v172 : Ref sig .tc := ⟨.hbm, 318, rfl⟩
abbrev main_c_66 : Ref sig .tc := ⟨.hbm, 319, rfl⟩
abbrev main_v173 : Ref sig .tc := ⟨.hbm, 320, rfl⟩
abbrev main_v174 : Ref sig .tc := ⟨.hbm, 321, rfl⟩
abbrev main_c_67 : Ref sig .tc := ⟨.hbm, 322, rfl⟩
abbrev main_c_68 : Ref sig .tc := ⟨.hbm, 323, rfl⟩
abbrev main_call12_v0 : Ref sig .tc := ⟨.hbm, 324, rfl⟩
abbrev main_call12_v1 : Ref sig .tc := ⟨.hbm, 325, rfl⟩
abbrev main_call12_v2 : Ref sig .tc := ⟨.hbm, 326, rfl⟩
abbrev main_call12_v3 : Ref sig .tc := ⟨.hbm, 327, rfl⟩
abbrev main_call12_v4 : Ref sig .tc := ⟨.hbm, 328, rfl⟩
abbrev main_v175 : Ref sig .tc := ⟨.hbm, 329, rfl⟩
abbrev main_v176 : Ref sig .tc := ⟨.hbm, 330, rfl⟩
abbrev main_c_69 : Ref sig .tc := ⟨.hbm, 331, rfl⟩
abbrev main_v177 : Ref sig .tc := ⟨.hbm, 332, rfl⟩
abbrev main_v178 : Ref sig .tc := ⟨.hbm, 333, rfl⟩
abbrev main_v179 : Ref sig .tc := ⟨.hbm, 334, rfl⟩
abbrev main_v180 : Ref sig .tc := ⟨.hbm, 335, rfl⟩
abbrev main_v181 : Ref sig .tc := ⟨.hbm, 336, rfl⟩
abbrev main_cst_70 : Ref sig .tc := ⟨.hbm, 337, rfl⟩
abbrev main_v182 : Ref sig .tc := ⟨.hbm, 338, rfl⟩
abbrev main_v183 : Ref sig .tc := ⟨.hbm, 339, rfl⟩
abbrev main_v184 : Ref sig .tc := ⟨.hbm, 340, rfl⟩
abbrev main_v185 : Ref sig .tc := ⟨.hbm, 341, rfl⟩
abbrev main_c_71 : Ref sig .tc := ⟨.hbm, 342, rfl⟩
abbrev main_v186 : Ref sig .tc := ⟨.hbm, 343, rfl⟩
abbrev main_v187 : Ref sig .tc := ⟨.hbm, 344, rfl⟩
abbrev main_c_72 : Ref sig .tc := ⟨.hbm, 345, rfl⟩
abbrev main_c_73 : Ref sig .tc := ⟨.hbm, 346, rfl⟩
abbrev main_call13_v0 : Ref sig .tc := ⟨.hbm, 347, rfl⟩
abbrev main_call13_v1 : Ref sig .tc := ⟨.hbm, 348, rfl⟩
abbrev main_call13_v2 : Ref sig .tc := ⟨.hbm, 349, rfl⟩
abbrev main_call13_v3 : Ref sig .tc := ⟨.hbm, 350, rfl⟩
abbrev main_call13_v4 : Ref sig .tc := ⟨.hbm, 351, rfl⟩
abbrev main_v188 : Ref sig .tc := ⟨.hbm, 352, rfl⟩
abbrev main_v189 : Ref sig .tc := ⟨.hbm, 353, rfl⟩
abbrev main_c_74 : Ref sig .tc := ⟨.hbm, 354, rfl⟩
abbrev main_v190 : Ref sig .tc := ⟨.hbm, 355, rfl⟩
abbrev main_v191 : Ref sig .tc := ⟨.hbm, 356, rfl⟩
abbrev main_v192 : Ref sig .tc := ⟨.hbm, 357, rfl⟩
abbrev main_v193 : Ref sig .tc := ⟨.hbm, 358, rfl⟩
abbrev main_v194 : Ref sig .tc := ⟨.hbm, 359, rfl⟩
abbrev main_v195 : Ref sig .tc := ⟨.hbm, 360, rfl⟩
abbrev main_v196 : Ref sig .tc := ⟨.hbm, 361, rfl⟩
abbrev main_c_75 : Ref sig .tc := ⟨.hbm, 362, rfl⟩
abbrev main_v197 : Ref sig .tc := ⟨.hbm, 363, rfl⟩
abbrev main_v198 : Ref sig .tc := ⟨.hbm, 364, rfl⟩
abbrev main_c_76 : Ref sig .tc := ⟨.hbm, 365, rfl⟩
abbrev main_c_77 : Ref sig .tc := ⟨.hbm, 366, rfl⟩
abbrev main_call14_v0 : Ref sig .tc := ⟨.hbm, 367, rfl⟩
abbrev main_call14_v1 : Ref sig .tc := ⟨.hbm, 368, rfl⟩
abbrev main_call14_v2 : Ref sig .tc := ⟨.hbm, 369, rfl⟩
abbrev main_call14_v3 : Ref sig .tc := ⟨.hbm, 370, rfl⟩
abbrev main_call14_v4 : Ref sig .tc := ⟨.hbm, 371, rfl⟩
abbrev main_v199 : Ref sig .tc := ⟨.hbm, 372, rfl⟩
abbrev main_v200 : Ref sig .tc := ⟨.hbm, 373, rfl⟩
abbrev main_c_78 : Ref sig .tc := ⟨.hbm, 374, rfl⟩
abbrev main_v201 : Ref sig .tc := ⟨.hbm, 375, rfl⟩
abbrev main_v202 : Ref sig .tc := ⟨.hbm, 376, rfl⟩
abbrev main_v203 : Ref sig .tc := ⟨.hbm, 377, rfl⟩
abbrev main_cst_79 : Ref sig .tc := ⟨.hbm, 378, rfl⟩
abbrev main_v204 : Ref sig .tc := ⟨.hbm, 379, rfl⟩
abbrev main_c_80 : Ref sig .tc := ⟨.hbm, 380, rfl⟩
abbrev main_v205 : Ref sig .tc := ⟨.hbm, 381, rfl⟩
abbrev main_v206 : Ref sig .tc := ⟨.hbm, 382, rfl⟩
abbrev main_v207 : Ref sig .tc := ⟨.hbm, 383, rfl⟩
abbrev main_v208 : Ref sig .tc := ⟨.hbm, 384, rfl⟩
abbrev main_v209 : Ref sig .tc := ⟨.hbm, 385, rfl⟩
abbrev main_c_81 : Ref sig .tc := ⟨.hbm, 386, rfl⟩
abbrev main_v210 : Ref sig .tc := ⟨.hbm, 387, rfl⟩
abbrev main_v211 : Ref sig .tc := ⟨.hbm, 388, rfl⟩
abbrev main_c_82 : Ref sig .tc := ⟨.hbm, 389, rfl⟩
abbrev main_c_83 : Ref sig .tc := ⟨.hbm, 390, rfl⟩
abbrev main_call15_v0 : Ref sig .tc := ⟨.hbm, 391, rfl⟩
abbrev main_call15_v1 : Ref sig .tc := ⟨.hbm, 392, rfl⟩
abbrev main_call15_v2 : Ref sig .tc := ⟨.hbm, 393, rfl⟩
abbrev main_call15_v3 : Ref sig .tc := ⟨.hbm, 394, rfl⟩
abbrev main_call15_v4 : Ref sig .tc := ⟨.hbm, 395, rfl⟩
abbrev main_v212 : Ref sig .tc := ⟨.hbm, 396, rfl⟩
abbrev main_v213 : Ref sig .tc := ⟨.hbm, 397, rfl⟩
abbrev main_c_84 : Ref sig .tc := ⟨.hbm, 398, rfl⟩
abbrev main_v214 : Ref sig .tc := ⟨.hbm, 399, rfl⟩
abbrev main_v215 : Ref sig .tc := ⟨.hbm, 400, rfl⟩
abbrev main_v216 : Ref sig .tc := ⟨.hbm, 401, rfl⟩
abbrev main_v217 : Ref sig .tc := ⟨.hbm, 402, rfl⟩
abbrev main_v218 : Ref sig .tc := ⟨.hbm, 403, rfl⟩
abbrev main_cst_85 : Ref sig .tc := ⟨.hbm, 404, rfl⟩
abbrev main_v219 : Ref sig .tc := ⟨.hbm, 405, rfl⟩
abbrev main_v220 : Ref sig .tc := ⟨.hbm, 406, rfl⟩
abbrev main_v221 : Ref sig .tc := ⟨.hbm, 407, rfl⟩
abbrev main_v222 : Ref sig .tc := ⟨.hbm, 408, rfl⟩
abbrev main_c_86 : Ref sig .tc := ⟨.hbm, 409, rfl⟩
abbrev main_v223 : Ref sig .tc := ⟨.hbm, 410, rfl⟩
abbrev main_v224 : Ref sig .tc := ⟨.hbm, 411, rfl⟩
abbrev main_c_87 : Ref sig .tc := ⟨.hbm, 412, rfl⟩
abbrev main_c_88 : Ref sig .tc := ⟨.hbm, 413, rfl⟩
abbrev main_call16_v0 : Ref sig .tc := ⟨.hbm, 414, rfl⟩
abbrev main_call16_v1 : Ref sig .tc := ⟨.hbm, 415, rfl⟩
abbrev main_call16_v2 : Ref sig .tc := ⟨.hbm, 416, rfl⟩
abbrev main_call16_v3 : Ref sig .tc := ⟨.hbm, 417, rfl⟩
abbrev main_call16_v4 : Ref sig .tc := ⟨.hbm, 418, rfl⟩
abbrev main_v225 : Ref sig .tc := ⟨.hbm, 419, rfl⟩
abbrev main_v226 : Ref sig .tc := ⟨.hbm, 420, rfl⟩
abbrev main_c_89 : Ref sig .tc := ⟨.hbm, 421, rfl⟩
abbrev main_v227 : Ref sig .tc := ⟨.hbm, 422, rfl⟩
abbrev main_v228 : Ref sig .tc := ⟨.hbm, 423, rfl⟩
abbrev main_v229 : Ref sig .tc := ⟨.hbm, 424, rfl⟩
abbrev main_v230 : Ref sig .tc := ⟨.hbm, 425, rfl⟩
abbrev main_v231 : Ref sig .tc := ⟨.hbm, 426, rfl⟩
abbrev main_v232 : Ref sig .tc := ⟨.hbm, 427, rfl⟩
abbrev main_v233 : Ref sig .tc := ⟨.hbm, 428, rfl⟩
abbrev main_c_90 : Ref sig .tc := ⟨.hbm, 429, rfl⟩
abbrev main_v234 : Ref sig .tc := ⟨.hbm, 430, rfl⟩
abbrev main_v235 : Ref sig .tc := ⟨.hbm, 431, rfl⟩
abbrev main_c_91 : Ref sig .tc := ⟨.hbm, 432, rfl⟩
abbrev main_c_92 : Ref sig .tc := ⟨.hbm, 433, rfl⟩
abbrev main_call17_v0 : Ref sig .tc := ⟨.hbm, 434, rfl⟩
abbrev main_call17_v1 : Ref sig .tc := ⟨.hbm, 435, rfl⟩
abbrev main_call17_v2 : Ref sig .tc := ⟨.hbm, 436, rfl⟩
abbrev main_call17_v3 : Ref sig .tc := ⟨.hbm, 437, rfl⟩
abbrev main_call17_v4 : Ref sig .tc := ⟨.hbm, 438, rfl⟩
abbrev main_v236 : Ref sig .tc := ⟨.hbm, 439, rfl⟩
abbrev main_v237 : Ref sig .tc := ⟨.hbm, 440, rfl⟩
abbrev main_c_93 : Ref sig .tc := ⟨.hbm, 441, rfl⟩
abbrev main_v238 : Ref sig .tc := ⟨.hbm, 442, rfl⟩
abbrev main_v239 : Ref sig .tc := ⟨.hbm, 443, rfl⟩
abbrev main_v240 : Ref sig .tc := ⟨.hbm, 444, rfl⟩
abbrev main_cst_94 : Ref sig .tc := ⟨.hbm, 445, rfl⟩
abbrev main_v241 : Ref sig .tc := ⟨.hbm, 446, rfl⟩
abbrev main_c_95 : Ref sig .tc := ⟨.hbm, 447, rfl⟩
abbrev main_v242 : Ref sig .tc := ⟨.hbm, 448, rfl⟩
abbrev main_v243 : Ref sig .tc := ⟨.hbm, 449, rfl⟩
abbrev main_v244 : Ref sig .tc := ⟨.hbm, 450, rfl⟩
abbrev main_cst_96 : Ref sig .tc := ⟨.hbm, 451, rfl⟩
abbrev main_v245 : Ref sig .tc := ⟨.hbm, 452, rfl⟩
abbrev main_v246 : Ref sig .tc := ⟨.hbm, 453, rfl⟩
abbrev main_v247 : Ref sig .tc := ⟨.hbm, 454, rfl⟩
abbrev main_v248 : Ref sig .tc := ⟨.hbm, 455, rfl⟩
abbrev main_c_97 : Ref sig .tc := ⟨.hbm, 456, rfl⟩
abbrev main_v249 : Ref sig .tc := ⟨.hbm, 457, rfl⟩
abbrev main_v250 : Ref sig .tc := ⟨.hbm, 458, rfl⟩
abbrev main_c_98 : Ref sig .tc := ⟨.hbm, 459, rfl⟩
abbrev main_c_99 : Ref sig .tc := ⟨.hbm, 460, rfl⟩
abbrev main_call18_v0 : Ref sig .tc := ⟨.hbm, 461, rfl⟩
abbrev main_call18_v1 : Ref sig .tc := ⟨.hbm, 462, rfl⟩
abbrev main_call18_v2 : Ref sig .tc := ⟨.hbm, 463, rfl⟩
abbrev main_call18_v3 : Ref sig .tc := ⟨.hbm, 464, rfl⟩
abbrev main_call18_v4 : Ref sig .tc := ⟨.hbm, 465, rfl⟩
abbrev main_v251 : Ref sig .tc := ⟨.hbm, 466, rfl⟩
abbrev main_v252 : Ref sig .tc := ⟨.hbm, 467, rfl⟩
abbrev main_c_100 : Ref sig .tc := ⟨.hbm, 468, rfl⟩
abbrev main_v253 : Ref sig .tc := ⟨.hbm, 469, rfl⟩
abbrev main_v254 : Ref sig .tc := ⟨.hbm, 470, rfl⟩
abbrev main_v255 : Ref sig .tc := ⟨.hbm, 471, rfl⟩
abbrev main_v256 : Ref sig .tc := ⟨.hbm, 472, rfl⟩
abbrev main_v257 : Ref sig .tc := ⟨.hbm, 473, rfl⟩
abbrev main_v258 : Ref sig .tc := ⟨.hbm, 474, rfl⟩
abbrev main_v259 : Ref sig .tc := ⟨.hbm, 475, rfl⟩
abbrev main_c_101 : Ref sig .tc := ⟨.hbm, 476, rfl⟩
abbrev main_v260 : Ref sig .tc := ⟨.hbm, 477, rfl⟩
abbrev main_v261 : Ref sig .tc := ⟨.hbm, 478, rfl⟩
abbrev main_c_102 : Ref sig .tc := ⟨.hbm, 479, rfl⟩
abbrev main_c_103 : Ref sig .tc := ⟨.hbm, 480, rfl⟩
abbrev main_call19_v0 : Ref sig .tc := ⟨.hbm, 481, rfl⟩
abbrev main_call19_v1 : Ref sig .tc := ⟨.hbm, 482, rfl⟩
abbrev main_call19_v2 : Ref sig .tc := ⟨.hbm, 483, rfl⟩
abbrev main_call19_v3 : Ref sig .tc := ⟨.hbm, 484, rfl⟩
abbrev main_call19_v4 : Ref sig .tc := ⟨.hbm, 485, rfl⟩
abbrev main_v262 : Ref sig .tc := ⟨.hbm, 486, rfl⟩
abbrev main_v263 : Ref sig .tc := ⟨.hbm, 487, rfl⟩
abbrev main_c_104 : Ref sig .tc := ⟨.hbm, 488, rfl⟩
abbrev main_v264 : Ref sig .tc := ⟨.hbm, 489, rfl⟩
abbrev main_v265 : Ref sig .tc := ⟨.hbm, 490, rfl⟩
abbrev main_v266 : Ref sig .tc := ⟨.hbm, 491, rfl⟩
abbrev main_v267 : Ref sig .tc := ⟨.hbm, 492, rfl⟩
abbrev main_v268 : Ref sig .tc := ⟨.hbm, 493, rfl⟩
abbrev main_v269 : Ref sig .tc := ⟨.hbm, 494, rfl⟩
abbrev main_v270 : Ref sig .tc := ⟨.hbm, 495, rfl⟩
abbrev main_c_105 : Ref sig .tc := ⟨.hbm, 496, rfl⟩
abbrev main_v271 : Ref sig .tc := ⟨.hbm, 497, rfl⟩
abbrev main_v272 : Ref sig .tc := ⟨.hbm, 498, rfl⟩
abbrev main_c_106 : Ref sig .tc := ⟨.hbm, 499, rfl⟩
abbrev main_c_107 : Ref sig .tc := ⟨.hbm, 500, rfl⟩
abbrev main_call20_v0 : Ref sig .tc := ⟨.hbm, 501, rfl⟩
abbrev main_call20_v1 : Ref sig .tc := ⟨.hbm, 502, rfl⟩
abbrev main_call20_v2 : Ref sig .tc := ⟨.hbm, 503, rfl⟩
abbrev main_call20_v3 : Ref sig .tc := ⟨.hbm, 504, rfl⟩
abbrev main_call20_v4 : Ref sig .tc := ⟨.hbm, 505, rfl⟩
abbrev main_v273 : Ref sig .tc := ⟨.hbm, 506, rfl⟩
abbrev main_v274 : Ref sig .tc := ⟨.hbm, 507, rfl⟩
abbrev main_c_108 : Ref sig .tc := ⟨.hbm, 508, rfl⟩
abbrev main_v275 : Ref sig .tc := ⟨.hbm, 509, rfl⟩
abbrev main_v276 : Ref sig .tc := ⟨.hbm, 510, rfl⟩
abbrev main_v277 : Ref sig .tc := ⟨.hbm, 511, rfl⟩
abbrev main_cst_109 : Ref sig .tc := ⟨.hbm, 512, rfl⟩
abbrev main_v278 : Ref sig .tc := ⟨.hbm, 513, rfl⟩
abbrev main_c_110 : Ref sig .tc := ⟨.hbm, 514, rfl⟩
abbrev main_v279 : Ref sig .tc := ⟨.hbm, 515, rfl⟩
abbrev main_v280 : Ref sig .tc := ⟨.hbm, 516, rfl⟩
abbrev main_v281 : Ref sig .tc := ⟨.hbm, 517, rfl⟩
abbrev main_v282 : Ref sig .tc := ⟨.hbm, 518, rfl⟩
abbrev main_v283 : Ref sig .tc := ⟨.hbm, 519, rfl⟩
abbrev main_c_111 : Ref sig .tc := ⟨.hbm, 520, rfl⟩
abbrev main_v284 : Ref sig .tc := ⟨.hbm, 521, rfl⟩
abbrev main_v285 : Ref sig .tc := ⟨.hbm, 522, rfl⟩
abbrev main_c_112 : Ref sig .tc := ⟨.hbm, 523, rfl⟩
abbrev main_c_113 : Ref sig .tc := ⟨.hbm, 524, rfl⟩
abbrev main_call21_v0 : Ref sig .tc := ⟨.hbm, 525, rfl⟩
abbrev main_call21_v1 : Ref sig .tc := ⟨.hbm, 526, rfl⟩
abbrev main_call21_v2 : Ref sig .tc := ⟨.hbm, 527, rfl⟩
abbrev main_call21_v3 : Ref sig .tc := ⟨.hbm, 528, rfl⟩
abbrev main_call21_v4 : Ref sig .tc := ⟨.hbm, 529, rfl⟩
abbrev main_v286 : Ref sig .tc := ⟨.hbm, 530, rfl⟩
abbrev main_v287 : Ref sig .tc := ⟨.hbm, 531, rfl⟩
abbrev main_c_114 : Ref sig .tc := ⟨.hbm, 532, rfl⟩
abbrev main_v288 : Ref sig .tc := ⟨.hbm, 533, rfl⟩
abbrev main_v289 : Ref sig .tc := ⟨.hbm, 534, rfl⟩
abbrev main_v290 : Ref sig .tc := ⟨.hbm, 535, rfl⟩
abbrev main_v291 : Ref sig .tc := ⟨.hbm, 536, rfl⟩
abbrev main_v292 : Ref sig .tc := ⟨.hbm, 537, rfl⟩
abbrev main_v293 : Ref sig .tc := ⟨.hbm, 538, rfl⟩
abbrev main_v294 : Ref sig .tc := ⟨.hbm, 539, rfl⟩
abbrev main_c_115 : Ref sig .tc := ⟨.hbm, 540, rfl⟩
abbrev main_v295 : Ref sig .tc := ⟨.hbm, 541, rfl⟩
abbrev main_v296 : Ref sig .tc := ⟨.hbm, 542, rfl⟩
abbrev main_c_116 : Ref sig .tc := ⟨.hbm, 543, rfl⟩
abbrev main_c_117 : Ref sig .tc := ⟨.hbm, 544, rfl⟩
abbrev main_call22_v0 : Ref sig .tc := ⟨.hbm, 545, rfl⟩
abbrev main_call22_v1 : Ref sig .tc := ⟨.hbm, 546, rfl⟩
abbrev main_call22_v2 : Ref sig .tc := ⟨.hbm, 547, rfl⟩
abbrev main_call22_v3 : Ref sig .tc := ⟨.hbm, 548, rfl⟩
abbrev main_call22_v4 : Ref sig .tc := ⟨.hbm, 549, rfl⟩
abbrev main_v297 : Ref sig .tc := ⟨.hbm, 550, rfl⟩
abbrev main_v298 : Ref sig .tc := ⟨.hbm, 551, rfl⟩
abbrev main_c_118 : Ref sig .tc := ⟨.hbm, 552, rfl⟩
abbrev main_v299 : Ref sig .tc := ⟨.hbm, 553, rfl⟩
abbrev main_v300 : Ref sig .tc := ⟨.hbm, 554, rfl⟩
abbrev main_v301 : Ref sig .tc := ⟨.hbm, 555, rfl⟩
abbrev main_v302 : Ref sig .tc := ⟨.hbm, 556, rfl⟩
abbrev main_v303 : Ref sig .tc := ⟨.hbm, 557, rfl⟩
abbrev main_v304 : Ref sig .tc := ⟨.hbm, 558, rfl⟩
abbrev main_v305 : Ref sig .tc := ⟨.hbm, 559, rfl⟩
abbrev main_c_119 : Ref sig .tc := ⟨.hbm, 560, rfl⟩
abbrev main_v306 : Ref sig .tc := ⟨.hbm, 561, rfl⟩
abbrev main_v307 : Ref sig .tc := ⟨.hbm, 562, rfl⟩
abbrev main_c_120 : Ref sig .tc := ⟨.hbm, 563, rfl⟩
abbrev main_c_121 : Ref sig .tc := ⟨.hbm, 564, rfl⟩
abbrev main_call23_v0 : Ref sig .tc := ⟨.hbm, 565, rfl⟩
abbrev main_call23_v1 : Ref sig .tc := ⟨.hbm, 566, rfl⟩
abbrev main_call23_v2 : Ref sig .tc := ⟨.hbm, 567, rfl⟩
abbrev main_call23_v3 : Ref sig .tc := ⟨.hbm, 568, rfl⟩
abbrev main_call23_v4 : Ref sig .tc := ⟨.hbm, 569, rfl⟩
abbrev main_v308 : Ref sig .tc := ⟨.hbm, 570, rfl⟩
abbrev main_v309 : Ref sig .tc := ⟨.hbm, 571, rfl⟩
abbrev main_c_122 : Ref sig .tc := ⟨.hbm, 572, rfl⟩
abbrev main_v310 : Ref sig .tc := ⟨.hbm, 573, rfl⟩
abbrev main_v311 : Ref sig .tc := ⟨.hbm, 574, rfl⟩
abbrev main_v312 : Ref sig .tc := ⟨.hbm, 575, rfl⟩
abbrev main_v313 : Ref sig .tc := ⟨.hbm, 576, rfl⟩
abbrev main_v314 : Ref sig .tc := ⟨.hbm, 577, rfl⟩
abbrev main_v315 : Ref sig .tc := ⟨.hbm, 578, rfl⟩
abbrev main_v316 : Ref sig .tc := ⟨.hbm, 579, rfl⟩
abbrev main_v317 : Ref sig .tc := ⟨.hbm, 580, rfl⟩
abbrev main_v318 : Ref sig .tc := ⟨.hbm, 581, rfl⟩
abbrev main_v319 : Ref sig .tc := ⟨.hbm, 582, rfl⟩
abbrev main_v320 : Ref sig .tc := ⟨.hbm, 583, rfl⟩
abbrev main_v321 : Ref sig .tc := ⟨.hbm, 584, rfl⟩
abbrev main_v322 : Ref sig .tc := ⟨.hbm, 585, rfl⟩
abbrev main_v323 : Ref sig .tc := ⟨.hbm, 586, rfl⟩
abbrev main_v324 : Ref sig .tc := ⟨.hbm, 587, rfl⟩
abbrev main_v325 : Ref sig .tc := ⟨.hbm, 588, rfl⟩
abbrev main_v326 : Ref sig .tc := ⟨.hbm, 589, rfl⟩
abbrev main_v327 : Ref sig .tc := ⟨.hbm, 590, rfl⟩
abbrev main_v328 : Ref sig .tc := ⟨.hbm, 591, rfl⟩
abbrev main_v329 : Ref sig .tc := ⟨.hbm, 592, rfl⟩
abbrev main_v330 : Ref sig .tc := ⟨.hbm, 593, rfl⟩
abbrev main_cst_123 : Ref sig .tc := ⟨.hbm, 594, rfl⟩
abbrev main_v331 : Ref sig .tc := ⟨.hbm, 595, rfl⟩
abbrev main_v332 : Ref sig .tc := ⟨.hbm, 596, rfl⟩
abbrev main_cst_124 : Ref sig .tc := ⟨.hbm, 597, rfl⟩
abbrev main_v333 : Ref sig .tc := ⟨.hbm, 598, rfl⟩
abbrev main_v334 : Ref sig .tc := ⟨.hbm, 599, rfl⟩
abbrev main_cst_125 : Ref sig .tc := ⟨.hbm, 600, rfl⟩
abbrev main_v335 : Ref sig .tc := ⟨.hbm, 601, rfl⟩
abbrev main_v336 : Ref sig .tc := ⟨.hbm, 602, rfl⟩
abbrev main_cst_126 : Ref sig .tc := ⟨.hbm, 603, rfl⟩
abbrev main_v337 : Ref sig .tc := ⟨.hbm, 604, rfl⟩
abbrev main_v338 : Ref sig .tc := ⟨.hbm, 605, rfl⟩
abbrev main_cst_127 : Ref sig .tc := ⟨.hbm, 606, rfl⟩
abbrev main_cst_128 : Ref sig .tc := ⟨.hbm, 607, rfl⟩
abbrev main_call24_v0 : Ref sig .tc := ⟨.hbm, 608, rfl⟩
abbrev main_call24_v1 : Ref sig .tc := ⟨.hbm, 609, rfl⟩
abbrev main_call24_v2 : Ref sig .tc := ⟨.hbm, 610, rfl⟩
abbrev main_call24_v3 : Ref sig .tc := ⟨.hbm, 611, rfl⟩
abbrev main_call24_v4 : Ref sig .tc := ⟨.hbm, 612, rfl⟩
abbrev main_v339 : Ref sig .tc := ⟨.hbm, 613, rfl⟩
abbrev main_v340 : Ref sig .tc := ⟨.hbm, 614, rfl⟩
abbrev main_v341 : Ref sig .tc := ⟨.hbm, 615, rfl⟩
abbrev main_c_129 : Ref sig .tc := ⟨.hbm, 616, rfl⟩
abbrev main_v342 : Ref sig .tc := ⟨.hbm, 617, rfl⟩
abbrev main_v343 : Ref sig .tc := ⟨.hbm, 618, rfl⟩
abbrev main_c_130 : Ref sig .tc := ⟨.hbm, 619, rfl⟩
abbrev main_v344 : Ref sig .tc := ⟨.hbm, 620, rfl⟩
abbrev main_v345 : Ref sig .tc := ⟨.hbm, 621, rfl⟩
abbrev main_v346 : Ref sig .tc := ⟨.hbm, 622, rfl⟩
abbrev main_c_131 : Ref sig .tc := ⟨.hbm, 623, rfl⟩
abbrev main_v347 : Ref sig .tc := ⟨.hbm, 624, rfl⟩
abbrev main_v348 : Ref sig .tc := ⟨.hbm, 625, rfl⟩
abbrev main_c_132 : Ref sig .tc := ⟨.hbm, 626, rfl⟩
abbrev main_v349 : Ref sig .tc := ⟨.hbm, 627, rfl⟩
abbrev main_v350 : Ref sig .tc := ⟨.hbm, 628, rfl⟩
abbrev main_v351 : Ref sig .tc := ⟨.hbm, 629, rfl⟩
abbrev main_v352 : Ref sig .tc := ⟨.hbm, 630, rfl⟩
abbrev main_v353 : Ref sig .tc := ⟨.hbm, 631, rfl⟩
abbrev main_v354 : Ref sig .tc := ⟨.hbm, 632, rfl⟩
abbrev main_v355 : Ref sig .tc := ⟨.hbm, 633, rfl⟩
abbrev main_v356 : Ref sig .tc := ⟨.hbm, 634, rfl⟩
abbrev main_v357 : Ref sig .tc := ⟨.hbm, 635, rfl⟩
abbrev main_v358 : Ref sig .tc := ⟨.hbm, 636, rfl⟩
abbrev main_v359 : Ref sig .tc := ⟨.hbm, 637, rfl⟩
abbrev main_cst_133 : Ref sig .tc := ⟨.hbm, 638, rfl⟩
abbrev main_v360 : Ref sig .tc := ⟨.hbm, 639, rfl⟩
abbrev main_cst_134 : Ref sig .tc := ⟨.hbm, 640, rfl⟩
abbrev main_v361 : Ref sig .tc := ⟨.hbm, 641, rfl⟩
abbrev main_v362 : Ref sig .tc := ⟨.hbm, 642, rfl⟩
abbrev main_v363 : Ref sig .tc := ⟨.hbm, 643, rfl⟩
abbrev main_v364 : Ref sig .tc := ⟨.hbm, 644, rfl⟩
abbrev main_v365 : Ref sig .tc := ⟨.hbm, 645, rfl⟩
abbrev main_v366 : Ref sig .tc := ⟨.hbm, 646, rfl⟩
abbrev main_v367 : Ref sig .tc := ⟨.hbm, 647, rfl⟩
abbrev main_v368 : Ref sig .tc := ⟨.hbm, 648, rfl⟩
abbrev main_call25_cst : Ref sig .tc := ⟨.hbm, 649, rfl⟩
abbrev main_call25_v0 : Ref sig .tc := ⟨.hbm, 650, rfl⟩
abbrev main_call25_v1 : Ref sig .tc := ⟨.hbm, 651, rfl⟩
abbrev main_call25_cst_0 : Ref sig .tc := ⟨.hbm, 652, rfl⟩
abbrev main_call25_v2 : Ref sig .tc := ⟨.hbm, 653, rfl⟩
abbrev main_call25_v3 : Ref sig .tc := ⟨.hbm, 654, rfl⟩
abbrev main_call25_cst_1 : Ref sig .tc := ⟨.hbm, 655, rfl⟩
abbrev main_call25_call0_v0 : Ref sig .tc := ⟨.hbm, 656, rfl⟩
abbrev main_call25_call0_v1 : Ref sig .tc := ⟨.hbm, 657, rfl⟩
abbrev main_call25_v4 : Ref sig .tc := ⟨.hbm, 658, rfl⟩
abbrev main_call25_v5 : Ref sig .tc := ⟨.hbm, 659, rfl⟩
abbrev main_call25_cst_2 : Ref sig .tc := ⟨.hbm, 660, rfl⟩
abbrev main_call25_v6 : Ref sig .tc := ⟨.hbm, 661, rfl⟩
abbrev main_call25_v7 : Ref sig .tc := ⟨.hbm, 662, rfl⟩
abbrev main_v369 : Ref sig .tc := ⟨.hbm, 663, rfl⟩
abbrev main_v370 : Ref sig .tc := ⟨.hbm, 664, rfl⟩
abbrev main_v371 : Ref sig .tc := ⟨.hbm, 665, rfl⟩
abbrev main_c_135 : Ref sig .tc := ⟨.hbm, 666, rfl⟩
abbrev main_v372 : Ref sig .tc := ⟨.hbm, 667, rfl⟩
abbrev main_v373 : Ref sig .tc := ⟨.hbm, 668, rfl⟩
abbrev main_c_136 : Ref sig .tc := ⟨.hbm, 669, rfl⟩
abbrev main_v374 : Ref sig .tc := ⟨.hbm, 670, rfl⟩
abbrev main_v375 : Ref sig .tc := ⟨.hbm, 671, rfl⟩
abbrev main_v376 : Ref sig .tc := ⟨.hbm, 672, rfl⟩
abbrev main_c_137 : Ref sig .tc := ⟨.hbm, 673, rfl⟩
abbrev main_v377 : Ref sig .tc := ⟨.hbm, 674, rfl⟩
abbrev main_v378 : Ref sig .tc := ⟨.hbm, 675, rfl⟩
abbrev main_c_138 : Ref sig .tc := ⟨.hbm, 676, rfl⟩
abbrev main_v379 : Ref sig .tc := ⟨.hbm, 677, rfl⟩
abbrev main_v380 : Ref sig .tc := ⟨.hbm, 678, rfl⟩
abbrev main_v381 : Ref sig .tc := ⟨.hbm, 679, rfl⟩
abbrev main_v382 : Ref sig .tc := ⟨.hbm, 680, rfl⟩
abbrev main_v383 : Ref sig .tc := ⟨.hbm, 681, rfl⟩
abbrev main_v384 : Ref sig .tc := ⟨.hbm, 682, rfl⟩
abbrev main_v385 : Ref sig .tc := ⟨.hbm, 683, rfl⟩
abbrev main_v386 : Ref sig .tc := ⟨.hbm, 684, rfl⟩
abbrev main_v387 : Ref sig .tc := ⟨.hbm, 685, rfl⟩
abbrev main_v388 : Ref sig .tc := ⟨.hbm, 686, rfl⟩
abbrev main_v389 : Ref sig .tc := ⟨.hbm, 687, rfl⟩
abbrev main_cst_139 : Ref sig .tc := ⟨.hbm, 688, rfl⟩
abbrev main_v390 : Ref sig .tc := ⟨.hbm, 689, rfl⟩
abbrev main_cst_140 : Ref sig .tc := ⟨.hbm, 690, rfl⟩
abbrev main_v391 : Ref sig .tc := ⟨.hbm, 691, rfl⟩
abbrev main_v392 : Ref sig .tc := ⟨.hbm, 692, rfl⟩
abbrev main_v393 : Ref sig .tc := ⟨.hbm, 693, rfl⟩
abbrev main_v394 : Ref sig .tc := ⟨.hbm, 694, rfl⟩
abbrev main_v395 : Ref sig .tc := ⟨.hbm, 695, rfl⟩
abbrev main_v396 : Ref sig .tc := ⟨.hbm, 696, rfl⟩
abbrev main_v397 : Ref sig .tc := ⟨.hbm, 697, rfl⟩
abbrev main_v398 : Ref sig .tc := ⟨.hbm, 698, rfl⟩
abbrev main_call26_cst : Ref sig .tc := ⟨.hbm, 699, rfl⟩
abbrev main_call26_v0 : Ref sig .tc := ⟨.hbm, 700, rfl⟩
abbrev main_call26_v1 : Ref sig .tc := ⟨.hbm, 701, rfl⟩
abbrev main_call26_cst_0 : Ref sig .tc := ⟨.hbm, 702, rfl⟩
abbrev main_call26_v2 : Ref sig .tc := ⟨.hbm, 703, rfl⟩
abbrev main_call26_v3 : Ref sig .tc := ⟨.hbm, 704, rfl⟩
abbrev main_call26_cst_1 : Ref sig .tc := ⟨.hbm, 705, rfl⟩
abbrev main_call26_call0_v0 : Ref sig .tc := ⟨.hbm, 706, rfl⟩
abbrev main_call26_call0_v1 : Ref sig .tc := ⟨.hbm, 707, rfl⟩
abbrev main_call26_v4 : Ref sig .tc := ⟨.hbm, 708, rfl⟩
abbrev main_call26_v5 : Ref sig .tc := ⟨.hbm, 709, rfl⟩
abbrev main_call26_cst_2 : Ref sig .tc := ⟨.hbm, 710, rfl⟩
abbrev main_call26_v6 : Ref sig .tc := ⟨.hbm, 711, rfl⟩
abbrev main_call26_v7 : Ref sig .tc := ⟨.hbm, 712, rfl⟩
abbrev main_v399 : Ref sig .tc := ⟨.hbm, 713, rfl⟩
abbrev main_v400 : Ref sig .tc := ⟨.hbm, 714, rfl⟩
abbrev main_v401 : Ref sig .tc := ⟨.hbm, 715, rfl⟩
abbrev main_c_141 : Ref sig .tc := ⟨.hbm, 716, rfl⟩
abbrev main_v402 : Ref sig .tc := ⟨.hbm, 717, rfl⟩
abbrev main_v403 : Ref sig .tc := ⟨.hbm, 718, rfl⟩
abbrev main_c_142 : Ref sig .tc := ⟨.hbm, 719, rfl⟩
abbrev main_v404 : Ref sig .tc := ⟨.hbm, 720, rfl⟩
abbrev main_v405 : Ref sig .tc := ⟨.hbm, 721, rfl⟩
abbrev main_v406 : Ref sig .tc := ⟨.hbm, 722, rfl⟩
abbrev main_c_143 : Ref sig .tc := ⟨.hbm, 723, rfl⟩
abbrev main_v407 : Ref sig .tc := ⟨.hbm, 724, rfl⟩
abbrev main_v408 : Ref sig .tc := ⟨.hbm, 725, rfl⟩
abbrev main_c_144 : Ref sig .tc := ⟨.hbm, 726, rfl⟩
abbrev main_v409 : Ref sig .tc := ⟨.hbm, 727, rfl⟩
abbrev main_v410 : Ref sig .tc := ⟨.hbm, 728, rfl⟩
abbrev main_v411 : Ref sig .tc := ⟨.hbm, 729, rfl⟩
abbrev main_v412 : Ref sig .tc := ⟨.hbm, 730, rfl⟩
abbrev main_v413 : Ref sig .tc := ⟨.hbm, 731, rfl⟩
abbrev main_v414 : Ref sig .tc := ⟨.hbm, 732, rfl⟩
abbrev main_v415 : Ref sig .tc := ⟨.hbm, 733, rfl⟩
abbrev main_v416 : Ref sig .tc := ⟨.hbm, 734, rfl⟩
abbrev main_v417 : Ref sig .tc := ⟨.hbm, 735, rfl⟩
abbrev main_v418 : Ref sig .tc := ⟨.hbm, 736, rfl⟩
abbrev main_v419 : Ref sig .tc := ⟨.hbm, 737, rfl⟩
abbrev main_cst_145 : Ref sig .tc := ⟨.hbm, 738, rfl⟩
abbrev main_v420 : Ref sig .tc := ⟨.hbm, 739, rfl⟩
abbrev main_cst_146 : Ref sig .tc := ⟨.hbm, 740, rfl⟩
abbrev main_v421 : Ref sig .tc := ⟨.hbm, 741, rfl⟩
abbrev main_v422 : Ref sig .tc := ⟨.hbm, 742, rfl⟩
abbrev main_v423 : Ref sig .tc := ⟨.hbm, 743, rfl⟩
abbrev main_v424 : Ref sig .tc := ⟨.hbm, 744, rfl⟩
abbrev main_v425 : Ref sig .tc := ⟨.hbm, 745, rfl⟩
abbrev main_v426 : Ref sig .tc := ⟨.hbm, 746, rfl⟩
abbrev main_v427 : Ref sig .tc := ⟨.hbm, 747, rfl⟩
abbrev main_v428 : Ref sig .tc := ⟨.hbm, 748, rfl⟩
abbrev main_call27_cst : Ref sig .tc := ⟨.hbm, 749, rfl⟩
abbrev main_call27_v0 : Ref sig .tc := ⟨.hbm, 750, rfl⟩
abbrev main_call27_v1 : Ref sig .tc := ⟨.hbm, 751, rfl⟩
abbrev main_call27_cst_0 : Ref sig .tc := ⟨.hbm, 752, rfl⟩
abbrev main_call27_v2 : Ref sig .tc := ⟨.hbm, 753, rfl⟩
abbrev main_call27_v3 : Ref sig .tc := ⟨.hbm, 754, rfl⟩
abbrev main_call27_cst_1 : Ref sig .tc := ⟨.hbm, 755, rfl⟩
abbrev main_call27_call0_v0 : Ref sig .tc := ⟨.hbm, 756, rfl⟩
abbrev main_call27_call0_v1 : Ref sig .tc := ⟨.hbm, 757, rfl⟩
abbrev main_call27_v4 : Ref sig .tc := ⟨.hbm, 758, rfl⟩
abbrev main_call27_v5 : Ref sig .tc := ⟨.hbm, 759, rfl⟩
abbrev main_call27_cst_2 : Ref sig .tc := ⟨.hbm, 760, rfl⟩
abbrev main_call27_v6 : Ref sig .tc := ⟨.hbm, 761, rfl⟩
abbrev main_call27_v7 : Ref sig .tc := ⟨.hbm, 762, rfl⟩
abbrev main_v429 : Ref sig .tc := ⟨.hbm, 763, rfl⟩
abbrev main_v430 : Ref sig .tc := ⟨.hbm, 764, rfl⟩
abbrev main_v431 : Ref sig .tc := ⟨.hbm, 765, rfl⟩
abbrev main_c_147 : Ref sig .tc := ⟨.hbm, 766, rfl⟩
abbrev main_v432 : Ref sig .tc := ⟨.hbm, 767, rfl⟩
abbrev main_v433 : Ref sig .tc := ⟨.hbm, 768, rfl⟩
abbrev main_c_148 : Ref sig .tc := ⟨.hbm, 769, rfl⟩
abbrev main_v434 : Ref sig .tc := ⟨.hbm, 770, rfl⟩
abbrev main_v435 : Ref sig .tc := ⟨.hbm, 771, rfl⟩
abbrev main_v436 : Ref sig .tc := ⟨.hbm, 772, rfl⟩
abbrev main_c_149 : Ref sig .tc := ⟨.hbm, 773, rfl⟩
abbrev main_v437 : Ref sig .tc := ⟨.hbm, 774, rfl⟩
abbrev main_v438 : Ref sig .tc := ⟨.hbm, 775, rfl⟩
abbrev main_c_150 : Ref sig .tc := ⟨.hbm, 776, rfl⟩
abbrev main_v439 : Ref sig .tc := ⟨.hbm, 777, rfl⟩
abbrev main_v440 : Ref sig .tc := ⟨.hbm, 778, rfl⟩
abbrev main_v441 : Ref sig .tc := ⟨.hbm, 779, rfl⟩
abbrev main_v442 : Ref sig .tc := ⟨.hbm, 780, rfl⟩
abbrev main_v443 : Ref sig .tc := ⟨.hbm, 781, rfl⟩
abbrev main_v444 : Ref sig .tc := ⟨.hbm, 782, rfl⟩
abbrev main_v445 : Ref sig .tc := ⟨.hbm, 783, rfl⟩
abbrev main_v446 : Ref sig .tc := ⟨.hbm, 784, rfl⟩
abbrev main_v447 : Ref sig .tc := ⟨.hbm, 785, rfl⟩
abbrev main_v448 : Ref sig .tc := ⟨.hbm, 786, rfl⟩
abbrev main_v449 : Ref sig .tc := ⟨.hbm, 787, rfl⟩
abbrev main_cst_151 : Ref sig .tc := ⟨.hbm, 788, rfl⟩
abbrev main_v450 : Ref sig .tc := ⟨.hbm, 789, rfl⟩
abbrev main_cst_152 : Ref sig .tc := ⟨.hbm, 790, rfl⟩
abbrev main_v451 : Ref sig .tc := ⟨.hbm, 791, rfl⟩
abbrev main_v452 : Ref sig .tc := ⟨.hbm, 792, rfl⟩
abbrev main_v453 : Ref sig .tc := ⟨.hbm, 793, rfl⟩
abbrev main_v454 : Ref sig .tc := ⟨.hbm, 794, rfl⟩
abbrev main_v455 : Ref sig .tc := ⟨.hbm, 795, rfl⟩
abbrev main_v456 : Ref sig .tc := ⟨.hbm, 796, rfl⟩
abbrev main_v457 : Ref sig .tc := ⟨.hbm, 797, rfl⟩
abbrev main_v458 : Ref sig .tc := ⟨.hbm, 798, rfl⟩
abbrev main_call28_cst : Ref sig .tc := ⟨.hbm, 799, rfl⟩
abbrev main_call28_v0 : Ref sig .tc := ⟨.hbm, 800, rfl⟩
abbrev main_call28_v1 : Ref sig .tc := ⟨.hbm, 801, rfl⟩
abbrev main_call28_cst_0 : Ref sig .tc := ⟨.hbm, 802, rfl⟩
abbrev main_call28_v2 : Ref sig .tc := ⟨.hbm, 803, rfl⟩
abbrev main_call28_v3 : Ref sig .tc := ⟨.hbm, 804, rfl⟩
abbrev main_call28_cst_1 : Ref sig .tc := ⟨.hbm, 805, rfl⟩
abbrev main_call28_call0_v0 : Ref sig .tc := ⟨.hbm, 806, rfl⟩
abbrev main_call28_call0_v1 : Ref sig .tc := ⟨.hbm, 807, rfl⟩
abbrev main_call28_v4 : Ref sig .tc := ⟨.hbm, 808, rfl⟩
abbrev main_call28_v5 : Ref sig .tc := ⟨.hbm, 809, rfl⟩
abbrev main_call28_cst_2 : Ref sig .tc := ⟨.hbm, 810, rfl⟩
abbrev main_call28_v6 : Ref sig .tc := ⟨.hbm, 811, rfl⟩
abbrev main_call28_v7 : Ref sig .tc := ⟨.hbm, 812, rfl⟩
abbrev main_v459 : Ref sig .tc := ⟨.hbm, 813, rfl⟩
abbrev main_v460 : Ref sig .tc := ⟨.hbm, 814, rfl⟩
abbrev main_v461 : Ref sig .tc := ⟨.hbm, 815, rfl⟩
abbrev main_c_153 : Ref sig .tc := ⟨.hbm, 816, rfl⟩
abbrev main_v462 : Ref sig .tc := ⟨.hbm, 817, rfl⟩
abbrev main_v463 : Ref sig .tc := ⟨.hbm, 818, rfl⟩
abbrev main_c_154 : Ref sig .tc := ⟨.hbm, 819, rfl⟩
abbrev main_v464 : Ref sig .tc := ⟨.hbm, 820, rfl⟩
abbrev main_v465 : Ref sig .tc := ⟨.hbm, 821, rfl⟩
abbrev main_v466 : Ref sig .tc := ⟨.hbm, 822, rfl⟩
abbrev main_c_155 : Ref sig .tc := ⟨.hbm, 823, rfl⟩
abbrev main_v467 : Ref sig .tc := ⟨.hbm, 824, rfl⟩
abbrev main_v468 : Ref sig .tc := ⟨.hbm, 825, rfl⟩
abbrev main_c_156 : Ref sig .tc := ⟨.hbm, 826, rfl⟩
abbrev main_v469 : Ref sig .tc := ⟨.hbm, 827, rfl⟩
abbrev main_v470 : Ref sig .tc := ⟨.hbm, 828, rfl⟩
abbrev main_v471 : Ref sig .tc := ⟨.hbm, 829, rfl⟩
abbrev main_v472 : Ref sig .tc := ⟨.hbm, 830, rfl⟩
abbrev main_v473 : Ref sig .tc := ⟨.hbm, 831, rfl⟩
abbrev main_v474 : Ref sig .tc := ⟨.hbm, 832, rfl⟩
abbrev main_v475 : Ref sig .tc := ⟨.hbm, 833, rfl⟩
abbrev main_v476 : Ref sig .tc := ⟨.hbm, 834, rfl⟩
abbrev main_v477 : Ref sig .tc := ⟨.hbm, 835, rfl⟩
abbrev main_v478 : Ref sig .tc := ⟨.hbm, 836, rfl⟩
abbrev main_cst_157 : Ref sig .tc := ⟨.hbm, 837, rfl⟩
abbrev main_v479 : Ref sig .tc := ⟨.hbm, 838, rfl⟩
abbrev main_cst_158 : Ref sig .tc := ⟨.hbm, 839, rfl⟩
abbrev main_v480 : Ref sig .tc := ⟨.hbm, 840, rfl⟩
abbrev main_v481 : Ref sig .tc := ⟨.hbm, 841, rfl⟩
abbrev main_v482 : Ref sig .tc := ⟨.hbm, 842, rfl⟩
abbrev main_v483 : Ref sig .tc := ⟨.hbm, 843, rfl⟩
abbrev main_v484 : Ref sig .tc := ⟨.hbm, 844, rfl⟩
abbrev main_v485 : Ref sig .tc := ⟨.hbm, 845, rfl⟩
abbrev main_v486 : Ref sig .tc := ⟨.hbm, 846, rfl⟩
abbrev main_v487 : Ref sig .tc := ⟨.hbm, 847, rfl⟩
abbrev main_call29_cst : Ref sig .tc := ⟨.hbm, 848, rfl⟩
abbrev main_call29_v0 : Ref sig .tc := ⟨.hbm, 849, rfl⟩
abbrev main_call29_v1 : Ref sig .tc := ⟨.hbm, 850, rfl⟩
abbrev main_call29_cst_0 : Ref sig .tc := ⟨.hbm, 851, rfl⟩
abbrev main_call29_v2 : Ref sig .tc := ⟨.hbm, 852, rfl⟩
abbrev main_call29_v3 : Ref sig .tc := ⟨.hbm, 853, rfl⟩
abbrev main_call29_cst_1 : Ref sig .tc := ⟨.hbm, 854, rfl⟩
abbrev main_call29_call0_v0 : Ref sig .tc := ⟨.hbm, 855, rfl⟩
abbrev main_call29_call0_v1 : Ref sig .tc := ⟨.hbm, 856, rfl⟩
abbrev main_call29_v4 : Ref sig .tc := ⟨.hbm, 857, rfl⟩
abbrev main_call29_v5 : Ref sig .tc := ⟨.hbm, 858, rfl⟩
abbrev main_call29_cst_2 : Ref sig .tc := ⟨.hbm, 859, rfl⟩
abbrev main_call29_v6 : Ref sig .tc := ⟨.hbm, 860, rfl⟩
abbrev main_call29_v7 : Ref sig .tc := ⟨.hbm, 861, rfl⟩
abbrev main_v488 : Ref sig .tc := ⟨.hbm, 862, rfl⟩
abbrev main_v489 : Ref sig .tc := ⟨.hbm, 863, rfl⟩

abbrev nD : Nat := 1
abbrev τ : Topo := Topo.v7x

variable {F : FTy → Type} [FloatOps F]
-- ==== SplinesIdeal.lean ====
abbrev S10000x1 : Shape := ⟨2, ![10000, 1]⟩
abbrev S2x160000 : Shape := ⟨2, ![2, 160000]⟩
abbrev S160000x3 : Shape := ⟨2, ![160000, 3]⟩
abbrev S125x1x8 : Shape := ⟨3, ![125, 1, 8]⟩
abbrev S1x8 : Shape := ⟨2, ![1, 8]⟩
abbrev S8 : Shape := ⟨1, ![8]⟩
abbrev S125x8x16 : Shape := ⟨3, ![125, 8, 16]⟩
abbrev S8x16 : Shape := ⟨2, ![8, 16]⟩
abbrev S16 : Shape := ⟨1, ![16]⟩
abbrev S125x16x16 : Shape := ⟨3, ![125, 16, 16]⟩
abbrev S16x16 : Shape := ⟨2, ![16, 16]⟩
abbrev S125x16x8 : Shape := ⟨3, ![125, 16, 8]⟩
abbrev S16x8 : Shape := ⟨2, ![16, 8]⟩
abbrev S125x8x1 : Shape := ⟨3, ![125, 8, 1]⟩
abbrev S8x1 : Shape := ⟨2, ![8, 1]⟩
abbrev S1 : Shape := ⟨1, ![1]⟩
abbrev S1x160000 : Shape := ⟨2, ![1, 160000]⟩
abbrev S160000 : Shape := ⟨1, ![160000]⟩
abbrev S5 : Shape := ⟨1, ![5]⟩
abbrev S160000x3x1 : Shape := ⟨3, ![160000, 3, 1]⟩
abbrev S_ : Shape := ⟨0, ![]⟩
abbrev S1x1x5 : Shape := ⟨3, ![1, 1, 5]⟩
abbrev S160000x3x5 : Shape := ⟨3, ![160000, 3, 5]⟩
abbrev S160000x1x5 : Shape := ⟨3, ![160000, 1, 5]⟩
abbrev S160000x5 : Shape := ⟨2, ![160000, 5]⟩
abbrev S160000x5x1x1 : Shape := ⟨4, ![160000, 5, 1, 1]⟩
abbrev S160000x1x5x1 : Shape := ⟨4, ![160000, 1, 5, 1]⟩
abbrev S160000x5x5x1 : Shape := ⟨4, ![160000, 5, 5, 1]⟩
abbrev S160000x1x1x5 : Shape := ⟨4, ![160000, 1, 1, 5]⟩
abbrev S160000x5x5x5 : Shape := ⟨4, ![160000, 5, 5, 5]⟩
abbrev S160000x125 : Shape := ⟨2, ![160000, 125]⟩
abbrev S160000x1 : Shape := ⟨2, ![160000, 1]⟩
abbrev S160000x125x8 : Shape := ⟨3, ![160000, 125, 8]⟩
abbrev S160000x125x1 : Shape := ⟨3, ![160000, 125, 1]⟩
abbrev S160000x8 : Shape := ⟨2, ![160000, 8]⟩
abbrev S10000x8 : Shape := ⟨2, ![10000, 8]⟩
abbrev S160000x125x16 : Shape := ⟨3, ![160000, 125, 16]⟩
abbrev S160000x16 : Shape := ⟨2, ![160000, 16]⟩
abbrev S10000x16 : Shape := ⟨2, ![10000, 16]⟩
abbrev S1x16 : Shape := ⟨2, ![1, 16]⟩
abbrev S1x1 : Shape := ⟨2, ![1, 1]⟩
abbrev S10000 : Shape := ⟨1, ![10000]⟩

abbrev nBuf : Space → Nat
  | .hbm => 270
  | .vmem => 0
  | .smem => 0
  | _ => 0

abbrev hbmTy0_0 (i : Nat) : BufTy := match i % 128 with
  | 0 => ⟨S10000x1, .f32⟩
  | 1 => ⟨S2x160000, .i32⟩
  | 2 => ⟨S160000x3, .f32⟩
  | 3 => ⟨S125x1x8, .f32⟩
  | 4 => ⟨S1x8, .f32⟩
  | 5 => ⟨S8, .f32⟩
  | 6 => ⟨S125x8x16, .f32⟩
  | 7 => ⟨S8x16, .f32⟩
  | 8 => ⟨S16, .f32⟩
  | 9 => ⟨S125x16x16, .f32⟩
  | 10 => ⟨S16x16, .f32⟩
  | 11 => ⟨S16, .f32⟩
  | 12 => ⟨S125x16x8, .f32⟩
  | 13 => ⟨S16x8, .f32⟩
  | 14 => ⟨S8, .f32⟩
  | 15 => ⟨S125x8x1, .f32⟩
  | 16 => ⟨S8x1, .f32⟩
  | 17 => ⟨S1, .f32⟩
  | 18 => ⟨S1x160000, .i32⟩
  | 19 => ⟨S160000, .i32⟩
  | 20 => ⟨S1x160000, .i32⟩
  | 21 => ⟨S160000, .i32⟩
  | 22 => ⟨S5, .i32⟩
  | 23 => ⟨S5, .f32⟩
  | 24 => ⟨S160000x3x1, .f32⟩
  | 25 => ⟨S_, .f32⟩
  | 26 => ⟨S160000x3x1, .f32⟩
  | 27 => ⟨S160000x3x1, .f32⟩
  | 28 => ⟨S1x1x5, .f32⟩
  | 29 => ⟨S160000x3x5, .f32⟩
  | 30 => ⟨S160000x3x5, .f32⟩
  | 31 => ⟨S160000x3x5, .f32⟩
  | 32 => ⟨S160000x3x5, .f32⟩
  | 33 => ⟨S_, .f32⟩
  | 34 => ⟨S160000x3x5, .f32⟩
  | 35 => ⟨S160000x3x5, .f32⟩
  | 36 => ⟨S_, .f32⟩
  | 37 => ⟨S160000x3x5, .f32⟩
  | 38 => ⟨S160000x3x5, .f32⟩
  | 39 => ⟨S160000x1x5, .f32⟩
  | 40 => ⟨S160000x5, .f32⟩
  | 41 => ⟨S160000x5x1x1, .f32⟩
  | 42 => ⟨S160000x1x5, .f32⟩
  | 43 => ⟨S160000x5, .f32⟩
  | 44 => ⟨S160000x1x5x1, .f32⟩
  | 45 => ⟨S160000x5x5x1, .f32⟩
  | 46 => ⟨S160000x5x5x1, .f32⟩
  | 47 => ⟨S160000x5x5x1, .f32⟩
  | 48 => ⟨S160000x1x5, .f32⟩
  | 49 => ⟨S160000x5, .f32⟩
  | 50 => ⟨S160000x1x1x5, .f32⟩
  | 51 => ⟨S160000x5x5x5, .f32⟩
  | 52 => ⟨S160000x5x5x5, .f32⟩
  | 53 => ⟨S160000x5x5x5, .f32⟩
  | 54 => ⟨S160000x125, .f32⟩
  | 55 => ⟨S_, .f32⟩
  | 56 => ⟨S10000x1, .f32⟩
  | 57 => ⟨S10000x1, .f32⟩
  | 58 => ⟨S_, .f32⟩
  | 59 => ⟨S10000x1, .f32⟩
  | 60 => ⟨S10000x1, .f32⟩
  | 61 => ⟨S_, .f32⟩
  | 62 => ⟨S10000x1, .f32⟩
  | 63 => ⟨S10000x1, .f32⟩
  | 64 => ⟨S_, .f32⟩
  | 65 => ⟨S10000x1, .f32⟩
  | 66 => ⟨S10000x1, .f32⟩
  | 67 => ⟨S_, .f32⟩
  | 68 => ⟨S_, .f32⟩
  | 69 => ⟨S_, .f32⟩
  | 70 => ⟨S10000x1, .f32⟩
  | 71 => ⟨S10000x1, .f32⟩
  | 72 => ⟨S_, .f32⟩
  | 73 => ⟨S10000x1, .f32⟩
  | 74 => ⟨S10000x1, .f32⟩
  | 75 => ⟨S_, .i32⟩
  | 76 => ⟨S160000, .i32⟩
  | 77 => ⟨S160000, .i1⟩
  | 78 => ⟨S_, .i32⟩
  | 79 => ⟨S160000, .i32⟩
  | 80 => ⟨S160000, .i32⟩
  | 81 => ⟨S160000, .i32⟩
  | 82 => ⟨S160000x1, .i32⟩
  | 83 => ⟨S160000x1, .f32⟩
  | 84 => ⟨S160000x125x8, .f32⟩
  | 85 => ⟨S160000x125x1, .f32⟩
  | 86 => ⟨S160000x125x8, .f32⟩
  | 87 => ⟨S160000x125x8, .f32⟩
  | 88 => ⟨S_, .f32⟩
  | 89 => ⟨S160000x8, .f32⟩
  | 90 => ⟨S_, .f32⟩
  | 91 => ⟨S10000x8, .f32⟩
  | 92 => ⟨S160000x1, .i32⟩
  | 93 => ⟨S10000x8, .f32⟩
  | 94 => ⟨S10000x8, .f32⟩
  | 95 => ⟨S10000x8, .f32⟩
  | 96 => ⟨S1x8, .f32⟩
  | 97 => ⟨S10000x8, .f32⟩
  | 98 => ⟨S10000x8, .f32⟩
  | 99 => ⟨S_, .f32⟩
  | 100 => ⟨S10000x8, .f32⟩
  | 101 => ⟨S10000x8, .i1⟩
  | 102 => ⟨S_, .f32⟩
  | 103 => ⟨S10000x8, .f32⟩
  | 104 => ⟨S10000x8, .i1⟩
  | 105 => ⟨S_, .f32⟩
  | 106 => ⟨S_, .f32⟩
  | 107 => ⟨S10000x8, .f32⟩
  | 108 => ⟨S10000x8, .f32⟩
  | 109 => ⟨S10000x8, .f32⟩
  | 110 => ⟨S_, .f32⟩
  | 111 => ⟨S10000x8, .f32⟩
  | 112 => ⟨S10000x8, .f32⟩
  | 113 => ⟨S10000x8, .f32⟩
  | 114 => ⟨S_, .i32⟩
  | 115 => ⟨S160000, .i32⟩
  | 116 => ⟨S160000, .i1⟩
  | 117 => ⟨S_, .i32⟩
  | 118 => ⟨S160000, .i32⟩
  | 119 => ⟨S160000, .i32⟩
  | 120 => ⟨S160000, .i32⟩
  | 121 => ⟨S160000x1, .i32⟩
  | 122 => ⟨S160000x8, .f32⟩
  | 123 => ⟨S160000x125x16, .f32⟩
  | 124 => ⟨S160000x125x1, .f32⟩
  | 125 => ⟨S160000x125x16, .f32⟩
  | 126 => ⟨S160000x125x16, .f32⟩
  | 127 => ⟨S_, .f32⟩
  | _ => ⟨S10000x1, .f32⟩

abbrev hbmTy0_1 (i : Nat) : BufTy := match i % 128 with
  | 0 => ⟨S160000x16, .f32⟩
  | 1 => ⟨S_, .f32⟩
  | 2 => ⟨S10000x16, .f32⟩
  | 3 => ⟨S160000x1, .i32⟩
  | 4 => ⟨S10000x16, .f32⟩
  | 5 => ⟨S10000x16, .f32⟩
  | 6 => ⟨S10000x16, .f32⟩
  | 7 => ⟨S1x16, .f32⟩
  | 8 => ⟨S10000x16, .f32⟩
  | 9 => ⟨S10000x16, .f32⟩
  | 10 => ⟨S_, .f32⟩
  | 11 => ⟨S10000x16, .f32⟩
  | 12 => ⟨S10000x16, .i1⟩
  | 13 => ⟨S_, .f32⟩
  | 14 => ⟨S10000x16, .f32⟩
  | 15 => ⟨S10000x16, .i1⟩
  | 16 => ⟨S_, .f32⟩
  | 17 => ⟨S_, .f32⟩
  | 18 => ⟨S10000x16, .f32⟩
  | 19 => ⟨S10000x16, .f32⟩
  | 20 => ⟨S10000x16, .f32⟩
  | 21 => ⟨S_, .f32⟩
  | 22 => ⟨S10000x16, .f32⟩
  | 23 => ⟨S10000x16, .f32⟩
  | 24 => ⟨S10000x16, .f32⟩
  | 25 => ⟨S_, .i32⟩
  | 26 => ⟨S160000, .i32⟩
  | 27 => ⟨S160000, .i1⟩
  | 28 => ⟨S_, .i32⟩
  | 29 => ⟨S160000, .i32⟩
  | 30 => ⟨S160000, .i32⟩
  | 31 => ⟨S160000, .i32⟩
  | 32 => ⟨S160000x1, .i32⟩
  | 33 => ⟨S160000x16, .f32⟩
  | 34 => ⟨S160000x125x16, .f32⟩
  | 35 => ⟨S160000x125x1, .f32⟩
  | 36 => ⟨S160000x125x16, .f32⟩
  | 37 => ⟨S160000x125x16, .f32⟩
  | 38 => ⟨S_, .f32⟩
  | 39 => ⟨S160000x16, .f32⟩
  | 40 => ⟨S_, .f32⟩
  | 41 => ⟨S10000x16, .f32⟩
  | 42 => ⟨S160000x1, .i32⟩
  | 43 => ⟨S10000x16, .f32⟩
  | 44 => ⟨S10000x16, .f32⟩
  | 45 => ⟨S10000x16, .f32⟩
  | 46 => ⟨S1x16, .f32⟩
  | 47 => ⟨S10000x16, .f32⟩
  | 48 => ⟨S10000x16, .f32⟩
  | 49 => ⟨S_, .f32⟩
  | 50 => ⟨S10000x16, .f32⟩
  | 51 => ⟨S10000x16, .i1⟩
  | 52 => ⟨S_, .f32⟩
  | 53 => ⟨S10000x16, .f32⟩
  | 54 => ⟨S10000x16, .i1⟩
  | 55 => ⟨S_, .f32⟩
  | 56 => ⟨S_, .f32⟩
  | 57 => ⟨S10000x16, .f32⟩
  | 58 => ⟨S10000x16, .f32⟩
  | 59 => ⟨S10000x16, .f32⟩
  | 60 => ⟨S_, .f32⟩
  | 61 => ⟨S10000x16, .f32⟩
  | 62 => ⟨S10000x16, .f32⟩
  | 63 => ⟨S10000x16, .f32⟩
  | 64 => ⟨S_, .i32⟩
  | 65 => ⟨S160000, .i32⟩
  | 66 => ⟨S160000, .i1⟩
  | 67 => ⟨S_, .i32⟩
  | 68 => ⟨S160000, .i32⟩
  | 69 => ⟨S160000, .i32⟩
  | 70 => ⟨S160000, .i32⟩
  | 71 => ⟨S160000x1, .i32⟩
  | 72 => ⟨S160000x16, .f32⟩
  | 73 => ⟨S160000x125x8, .f32⟩
  | 74 => ⟨S160000x125x1, .f32⟩
  | 75 => ⟨S160000x125x8, .f32⟩
  | 76 => ⟨S160000x125x8, .f32⟩
  | 77 => ⟨S_, .f32⟩
  | 78 => ⟨S160000x8, .f32⟩
  | 79 => ⟨S_, .f32⟩
  | 80 => ⟨S10000x8, .f32⟩
  | 81 => ⟨S160000x1, .i32⟩
  | 82 => ⟨S10000x8, .f32⟩
  | 83 => ⟨S10000x8, .f32⟩
  | 84 => ⟨S10000x8, .f32⟩
  | 85 => ⟨S1x8, .f32⟩
  | 86 => ⟨S10000x8, .f32⟩
  | 87 => ⟨S10000x8, .f32⟩
  | 88 => ⟨S_, .f32⟩
  | 89 => ⟨S10000x8, .f32⟩
  | 90 => ⟨S10000x8, .i1⟩
  | 91 => ⟨S_, .f32⟩
  | 92 => ⟨S10000x8, .f32⟩
  | 93 => ⟨S10000x8, .i1⟩
  | 94 => ⟨S_, .f32⟩
  | 95 => ⟨S_, .f32⟩
  | 96 => ⟨S10000x8, .f32⟩
  | 97 => ⟨S10000x8, .f32⟩
  | 98 => ⟨S10000x8, .f32⟩
  | 99 => ⟨S_, .f32⟩
  | 100 => ⟨S10000x8, .f32⟩
  | 101 => ⟨S10000x8, .f32⟩
  | 102 => ⟨S10000x8, .f32⟩
  | 103 => ⟨S_, .i32⟩
  | 104 => ⟨S160000, .i32⟩
  | 105 => ⟨S160000, .i1⟩
  | 106 => ⟨S_, .i32⟩
  | 107 => ⟨S160000, .i32⟩
  | 108 => ⟨S160000, .i32⟩
  | 109 => ⟨S160000, .i32⟩
  | 110 => ⟨S160000x1, .i32⟩
  | 111 => ⟨S160000x8, .f32⟩
  | 112 => ⟨S160000x125x1, .f32⟩
  | 113 => ⟨S160000x125x1, .f32⟩
  | 114 => ⟨S160000x125x1, .f32⟩
  | 115 => ⟨S_, .f32⟩
  | 116 => ⟨S160000x1, .f32⟩
  | 117 => ⟨S_, .f32⟩
  | 118 => ⟨S10000x1, .f32⟩
  | 119 => ⟨S160000x1, .i32⟩
  | 120 => ⟨S10000x1, .f32⟩
  | 121 => ⟨S10000x1, .f32⟩
  | 122 => ⟨S10000x1, .f32⟩
  | 123 => ⟨S1x1, .f32⟩
  | 124 => ⟨S10000x1, .f32⟩
  | 125 => ⟨S10000x1, .f32⟩
  | 126 => ⟨S_, .f32⟩
  | 127 => ⟨S10000x1, .f32⟩
  | _ => ⟨S10000x1, .f32⟩

abbrev hbmTy0_2 (i : Nat) : BufTy := match i % 128 with
  | 0 => ⟨S10000x1, .i1⟩
  | 1 => ⟨S_, .f32⟩
  | 2 => ⟨S10000x1, .f32⟩
  | 3 => ⟨S10000x1, .i1⟩
  | 4 => ⟨S_, .f32⟩
  | 5 => ⟨S_, .f32⟩
  | 6 => ⟨S10000x1, .f32⟩
  | 7 => ⟨S10000x1, .f32⟩
  | 8 => ⟨S10000x1, .f32⟩
  | 9 => ⟨S_, .f32⟩
  | 10 => ⟨S10000x1, .f32⟩
  | 11 => ⟨S10000x1, .f32⟩
  | 12 => ⟨S10000x1, .f32⟩
  | 13 => ⟨S10000, .f32⟩
  | _ => ⟨S10000x1, .f32⟩

abbrev hbmTy (i : Nat) : BufTy := match i / 128 with
  | 0 => hbmTy0_0 i
  | 1 => hbmTy0_1 i
  | 2 => hbmTy0_2 i
  | _ => ⟨S10000x1, .f32⟩

abbrev bufTy : (tb : Table) → Fin (tcTables nBuf tb) → BufTy
  | .hbm, ⟨i, _⟩ => hbmTy i
  | _, _ => ⟨S10000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_0 : Ref sig .tc := ⟨.hbm, 33, rfl⟩
abbrev main_v14 : Ref sig .tc := ⟨.hbm, 34, rfl⟩
abbrev main_v15 : Ref sig .tc := ⟨.hbm, 35, rfl⟩
abbrev main_cst_1 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_2 : Ref sig .tc := ⟨.hbm, 55, rfl⟩
abbrev main_v34 : Ref sig .tc := ⟨.hbm, 56, rfl⟩
abbrev main_v35 : Ref sig .tc := ⟨.hbm, 57, rfl⟩
abbrev main_cst_3 : Ref sig .tc := ⟨.hbm, 58, rfl⟩
abbrev main_v36 : Ref sig .tc := ⟨.hbm, 59, rfl⟩
abbrev main_v37 : Ref sig .tc := ⟨.hbm, 60, rfl⟩
abbrev main_cst_4 : Ref sig .tc := ⟨.hbm, 61, rfl⟩
abbrev main_v38 : Ref sig .tc := ⟨.hbm, 62, rfl⟩
abbrev main_v39 : Ref sig .tc := ⟨.hbm, 63, rfl⟩
abbrev main_cst_5 : Ref sig .tc := ⟨.hbm, 64, rfl⟩
abbrev main_v40 : Ref sig .tc := ⟨.hbm, 65, rfl⟩
abbrev main_v41 : Ref sig .tc := ⟨.hbm, 66, rfl⟩
abbrev main_cst_6 : Ref sig .tc := ⟨.hbm, 67, rfl⟩
abbrev main_cst_7 : Ref sig .tc := ⟨.hbm, 68, rfl⟩
abbrev main_call0_v0 : Ref sig .tc := ⟨.hbm, 69, rfl⟩
abbrev main_call0_v1 : Ref sig .tc := ⟨.hbm, 70, rfl⟩
abbrev main_call0_v2 : Ref sig .tc := ⟨.hbm, 71, rfl⟩
abbrev main_call0_v3 : Ref sig .tc := ⟨.hbm, 72, rfl⟩
abbrev main_call0_v4 : Ref sig .tc := ⟨.hbm, 73, rfl⟩
abbrev main_v42 : Ref sig .tc := ⟨.hbm, 74, rfl⟩
abbrev main_c : Ref sig .tc := ⟨.hbm, 75, rfl⟩
abbrev main_v43 : Ref sig .tc := ⟨.hbm, 76, rfl⟩
abbrev main_v44 : Ref sig .tc := ⟨.hbm, 77, rfl⟩
abbrev main_c_8 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_cst_9 : Ref sig .tc := ⟨.hbm, 88, rfl⟩
abbrev main_v54 : Ref sig .tc := ⟨.hbm, 89, rfl⟩
abbrev main_cst_10 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_call1_cst : Ref sig .tc := ⟨.hbm, 99, rfl⟩
abbrev main_call1_v0 : Ref sig .tc := ⟨.hbm, 100, rfl⟩
abbrev main_call1_v1 : Ref sig .tc := ⟨.hbm, 101, rfl⟩
abbrev main_call1_cst_0 : Ref sig .tc := ⟨.hbm, 102, rfl⟩
abbrev main_call1_v2 : Ref sig .tc := ⟨.hbm, 103, rfl⟩
abbrev main_call1_v3 : Ref sig .tc := ⟨.hbm, 104, rfl⟩
abbrev main_call1_cst_1 : Ref sig .tc := ⟨.hbm, 105, rfl⟩
abbrev main_call1_call0_v0 : Ref sig .tc := ⟨.hbm, 106, rfl⟩
abbrev main_call1_call0_v1 : Ref sig .tc := ⟨.hbm, 107, rfl⟩
abbrev main_call1_v4 : Ref sig .tc := ⟨.hbm, 108, rfl⟩
abbrev main_call1_v5 : Ref sig .tc := ⟨.hbm, 109, rfl⟩
abbrev main_call1_cst_2 : Ref sig .tc := ⟨.hbm, 110, rfl⟩
abbrev main_call1_v6 : Ref sig .tc := ⟨.hbm, 111, rfl⟩
abbrev main_call1_v7 : Ref sig .tc := ⟨.hbm, 112, rfl⟩
abbrev main_v63 : Ref sig .tc := ⟨.hbm, 113, rfl⟩
abbrev main_c_11 : Ref sig .tc := ⟨.hbm, 114, rfl⟩
abbrev main_v64 : Ref sig .tc := ⟨.hbm, 115, rfl⟩
abbrev main_v65 : Ref sig .tc := ⟨.hbm, 116, rfl⟩
abbrev main_c_12 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_cst_13 : Ref sig .tc := ⟨.hbm, 127, rfl⟩
abbrev main_v75 : Ref sig .tc := ⟨.hbm, 128, rfl⟩
abbrev main_cst_14 : Ref sig .tc := ⟨.hbm, 129, rfl⟩
abbrev main_v76 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_call2_cst : Ref sig .tc := ⟨.hbm, 138, rfl⟩
abbrev main_call2_v0 : Ref sig .tc := ⟨.hbm, 139, rfl⟩
abbrev main_call2_v1 : Ref sig .tc := ⟨.hbm, 140, rfl⟩
abbrev main_call2_cst_0 : Ref sig .tc := ⟨.hbm, 141, rfl⟩
abbrev main_call2_v2 : Ref sig .tc := ⟨.hbm, 142, rfl⟩
abbrev main_call2_v3 : Ref sig .tc := ⟨.hbm, 143, rfl⟩
abbrev main_call2_cst_1 : Ref sig .tc := ⟨.hbm, 144, rfl⟩
abbrev main_call2_call0_v0 : Ref sig .tc := ⟨.hbm, 145, rfl⟩
abbrev main_call2_call0_v1 : Ref sig .tc := ⟨.hbm, 146, rfl⟩
abbrev main_call2_v4 : Ref sig .tc := ⟨.hbm, 147, rfl⟩
abbrev main_call2_v5 : Ref sig .tc := ⟨.hbm, 148, rfl⟩
abbrev main_call2_cst_2 : Ref sig .tc := ⟨.hbm, 149, rfl⟩
abbrev main_call2_v6 : Ref sig .tc := ⟨.hbm, 150, rfl⟩
abbrev main_call2_v7 : Ref sig .tc := ⟨.hbm, 151, rfl⟩
abbrev main_v84 : Ref sig .tc := ⟨.hbm, 152, rfl⟩
abbrev main_c_15 : Ref sig .tc := ⟨.hbm, 153, rfl⟩
abbrev main_v85 : Ref sig .tc := ⟨.hbm, 154, rfl⟩
abbrev main_v86 : Ref sig .tc := ⟨.hbm, 155, rfl⟩
abbrev main_c_16 : Ref sig .tc := ⟨.hbm, 156, rfl⟩
abbrev main_v87 : Ref sig .tc := ⟨.hbm, 157, rfl⟩
abbrev main_v88 : Ref sig .tc := ⟨.hbm, 158, rfl⟩
abbrev main_v89 : Ref sig .tc := ⟨.hbm, 159, rfl⟩
abbrev main_v90 : Ref sig .tc := ⟨.hbm, 160, rfl⟩
abbrev main_v91 : Ref sig .tc := ⟨.hbm, 161, rfl⟩
abbrev main_v92 : Ref sig .tc := ⟨.hbm, 162, rfl⟩
abbrev main_v93 : Ref sig .tc := ⟨.hbm, 163, rfl⟩
abbrev main_v94 : Ref sig .tc := ⟨.hbm, 164, rfl⟩
abbrev main_v95 : Ref sig .tc := ⟨.hbm, 165, rfl⟩
abbrev main_cst_17 : Ref sig .tc := ⟨.hbm, 166, rfl⟩
abbrev main_v96 : Ref sig .tc := ⟨.hbm, 167, rfl⟩
abbrev main_cst_18 : Ref sig .tc := ⟨.hbm, 168, rfl⟩
abbrev main_v97 : Ref sig .tc := ⟨.hbm, 169, rfl⟩
abbrev main_v98 : Ref sig .tc := ⟨.hbm, 170, rfl⟩
abbrev main_v99 : Ref sig .tc := ⟨.hbm, 171, rfl⟩
abbrev main_v100 : Ref sig .tc := ⟨.hbm, 172, rfl⟩
abbrev main_v101 : Ref sig .tc := ⟨.hbm, 173, rfl⟩
abbrev main_v102 : Ref sig .tc := ⟨.hbm, 174, rfl⟩
abbrev main_v103 : Ref sig .tc := ⟨.hbm, 175, rfl⟩
abbrev main_v104 : Ref sig .tc := ⟨.hbm, 176, rfl⟩
abbrev main_call3_cst : Ref sig .tc := ⟨.hbm, 177, rfl⟩
abbrev main_call3_v0 : Ref sig .tc := ⟨.hbm, 178, rfl⟩
abbrev main_call3_v1 : Ref sig .tc := ⟨.hbm, 179, rfl⟩
abbrev main_call3_cst_0 : Ref sig .tc := ⟨.hbm, 180, rfl⟩
abbrev main_call3_v2 : Ref sig .tc := ⟨.hbm, 181, rfl⟩
abbrev main_call3_v3 : Ref sig .tc := ⟨.hbm, 182, rfl⟩
abbrev main_call3_cst_1 : Ref sig .tc := ⟨.hbm, 183, rfl⟩
abbrev main_call3_call0_v0 : Ref sig .tc := ⟨.hbm, 184, rfl⟩
abbrev main_call3_call0_v1 : Ref sig .tc := ⟨.hbm, 185, rfl⟩
abbrev main_call3_v4 : Ref sig .tc := ⟨.hbm, 186, rfl⟩
abbrev main_call3_v5 : Ref sig .tc := ⟨.hbm, 187, rfl⟩
abbrev main_call3_cst_2 : Ref sig .tc := ⟨.hbm, 188, rfl⟩
abbrev main_call3_v6 : Ref sig .tc := ⟨.hbm, 189, rfl⟩
abbrev main_call3_v7 : Ref sig .tc := ⟨.hbm, 190, rfl⟩
abbrev main_v105 : Ref sig .tc := ⟨.hbm, 191, rfl⟩
abbrev main_c_19 : Ref sig .tc := ⟨.hbm, 192, rfl⟩
abbrev main_v106 : Ref sig .tc := ⟨.hbm, 193, rfl⟩
abbrev main_v107 : Ref sig .tc := ⟨.hbm, 194, rfl⟩
abbrev main_c_20 : Ref sig .tc := ⟨.hbm, 195, rfl⟩
abbrev main_v108 : Ref sig .tc := ⟨.hbm, 196, rfl⟩
abbrev main_v109 : Ref sig .tc := ⟨.hbm, 197, rfl⟩
abbrev main_v110 : Ref sig .tc := ⟨.hbm, 198, rfl⟩
abbrev main_v111 : Ref sig .tc := ⟨.hbm, 199, rfl⟩
abbrev main_v112 : Ref sig .tc := ⟨.hbm, 200, rfl⟩
abbrev main_v113 : Ref sig .tc := ⟨.hbm, 201, rfl⟩
abbrev main_v114 : Ref sig .tc := ⟨.hbm, 202, rfl⟩
abbrev main_v115 : Ref sig .tc := ⟨.hbm, 203, rfl⟩
abbrev main_v116 : Ref sig .tc := ⟨.hbm, 204, rfl⟩
abbrev main_cst_21 : Ref sig .tc := ⟨.hbm, 205, rfl⟩
abbrev main_v117 : Ref sig .tc := ⟨.hbm, 206, rfl⟩
abbrev main_cst_22 : Ref sig .tc := ⟨.hbm, 207, rfl⟩
abbrev main_v118 : Ref sig .tc := ⟨.hbm, 208, rfl⟩
abbrev main_v119 : Ref sig .tc := ⟨.hbm, 209, rfl⟩
abbrev main_v120 : Ref sig .tc := ⟨.hbm, 210, rfl⟩
abbrev main_v121 : Ref sig .tc := ⟨.hbm, 211, rfl⟩
abbrev main_v122 : Ref sig .tc := ⟨.hbm, 212, rfl⟩
abbrev main_v123 : Ref sig .tc := ⟨.hbm, 213, rfl⟩
abbrev main_v124 : Ref sig .tc := ⟨.hbm, 214, rfl⟩
abbrev main_v125 : Ref sig .tc := ⟨.hbm, 215, rfl⟩
abbrev main_call4_cst : Ref sig .tc := ⟨.hbm, 216, rfl⟩
abbrev main_call4_v0 : Ref sig .tc := ⟨.hbm, 217, rfl⟩
abbrev main_call4_v1 : Ref sig .tc := ⟨.hbm, 218, rfl⟩
abbrev main_call4_cst_0 : Ref sig .tc := ⟨.hbm, 219, rfl⟩
abbrev main_call4_v2 : Ref sig .tc := ⟨.hbm, 220, rfl⟩
abbrev main_call4_v3 : Ref sig .tc := ⟨.hbm, 221, rfl⟩
abbrev main_call4_cst_1 : Ref sig .tc := ⟨.hbm, 222, rfl⟩
abbrev main_call4_call0_v0 : Ref sig .tc := ⟨.hbm, 223, rfl⟩
abbrev main_call4_call0_v1 : Ref sig .tc := ⟨.hbm, 224, rfl⟩
abbrev main_call4_v4 : Ref sig .tc := ⟨.hbm, 225, rfl⟩
abbrev main_call4_v5 : Ref sig .tc := ⟨.hbm, 226, rfl⟩
abbrev main_call4_cst_2 : Ref sig .tc := ⟨.hbm, 227, rfl⟩
abbrev main_call4_v6 : Ref sig .tc := ⟨.hbm, 228, rfl⟩
abbrev main_call4_v7 : Ref sig .tc := ⟨.hbm, 229, rfl⟩
abbrev main_v126 : Ref sig .tc := ⟨.hbm, 230, rfl⟩
abbrev main_c_23 : Ref sig .tc := ⟨.hbm, 231, rfl⟩
abbrev main_v127 : Ref sig .tc := ⟨.hbm, 232, rfl⟩
abbrev main_v128 : Ref sig .tc := ⟨.hbm, 233, rfl⟩
abbrev main_c_24 : Ref sig .tc := ⟨.hbm, 234, rfl⟩
abbrev main_v129 : Ref sig .tc := ⟨.hbm, 235, rfl⟩
abbrev main_v130 : Ref sig .tc := ⟨.hbm, 236, rfl⟩
abbrev main_v131 : Ref sig .tc := ⟨.hbm, 237, rfl⟩
abbrev main_v132 : Ref sig .tc := ⟨.hbm, 238, rfl⟩
abbrev main_v133 : Ref sig .tc := ⟨.hbm, 239, rfl⟩
abbrev main_v134 : Ref sig .tc := ⟨.hbm, 240, rfl⟩
abbrev main_v135 : Ref sig .tc := ⟨.hbm, 241, rfl⟩
abbrev main_v136 : Ref sig .tc := ⟨.hbm, 242, rfl⟩
abbrev main_cst_25 : Ref sig .tc := ⟨.hbm, 243, rfl⟩
abbrev main_v137 : Ref sig .tc := ⟨.hbm, 244, rfl⟩
abbrev main_cst_26 : Ref sig .tc := ⟨.hbm, 245, rfl⟩
abbrev main_v138 : Ref sig .tc := ⟨.hbm, 246, rfl⟩
abbrev main_v139 : Ref sig .tc := ⟨.hbm, 247, rfl⟩
abbrev main_v140 : Ref sig .tc := ⟨.hbm, 248, rfl⟩
abbrev main_v141 : Ref sig .tc := ⟨.hbm, 249, rfl⟩
abbrev main_v142 : Ref sig .tc := ⟨.hbm, 250, rfl⟩
abbrev main_v143 : Ref sig .tc := ⟨.hbm, 251, rfl⟩
abbrev main_v144 : Ref sig .tc := ⟨.hbm, 252, rfl⟩
abbrev main_v145 : Ref sig .tc := ⟨.hbm, 253, rfl⟩
abbrev main_call5_cst : Ref sig .tc := ⟨.hbm, 254, rfl⟩
abbrev main_call5_v0 : Ref sig .tc := ⟨.hbm, 255, rfl⟩
abbrev main_call5_v1 : Ref sig .tc := ⟨.hbm, 256, rfl⟩
abbrev main_call5_cst_0 : Ref sig .tc := ⟨.hbm, 257, rfl⟩
abbrev main_call5_v2 : Ref sig .tc := ⟨.hbm, 258, rfl⟩
abbrev main_call5_v3 : Ref sig .tc := ⟨.hbm, 259, rfl⟩
abbrev main_call5_cst_1 : Ref sig .tc := ⟨.hbm, 260, rfl⟩
abbrev main_call5_call0_v0 : Ref sig .tc := ⟨.hbm, 261, rfl⟩
abbrev main_call5_call0_v1 : Ref sig .tc := ⟨.hbm, 262, rfl⟩
abbrev main_call5_v4 : Ref sig .tc := ⟨.hbm, 263, rfl⟩
abbrev main_call5_v5 : Ref sig .tc := ⟨.hbm, 264, rfl⟩
abbrev main_call5_cst_2 : Ref sig .tc := ⟨.hbm, 265, rfl⟩
abbrev main_call5_v6 : Ref sig .tc := ⟨.hbm, 266, rfl⟩
abbrev main_call5_v7 : Ref sig .tc := ⟨.hbm, 267, rfl⟩
abbrev main_v146 : Ref sig .tc := ⟨.hbm, 268, rfl⟩
abbrev main_v147 : Ref sig .tc := ⟨.hbm, 269, rfl⟩

abbrev nD : Nat := 1
abbrev τ : Topo := Topo.v7x

variable {F : FTy → Type} [FloatOps F]
-- ==== Proof.Lines.lean ====
/- Straight lines of host operations that leave the first buffers of a program alone. -/
module

public import Idealize.ShloMosaic.Lib.StableHlo.Run

@[expose] public section

noncomputable section

namespace Cert.Lines

open Idealize.ShloMosaic Idealize.ShloMosaic.TcCoe Idealize.ShloMosaic.StableHlo

variable {τ : Topo} {sig : RefSig} {Val : EltTy → Type}

/-- The operation writes one buffer, whose number is at least `a`, and takes no fresh one. -/
structure Late (a : ℕ) (op : HloOp τ sig Val) : Prop where
  /-- The one buffer written and its number. -/
  writes : ∃ y : Ref sig .tc, op.writes = {Proc.devRef .tc y} ∧ a ≤ y.idx.val
  /-- Nothing is taken fresh. -/
  fresh : op.fresh = ∅

/-- Lines of late operations take no fresh buffers. -/
theorem fresh_of_late {a : ℕ} {opss : List (List (HloOp τ sig Val))} (h : opss.Forall fun ops => ops.Forall (Late a)) :
    opss.Forall fun ops => ops.Forall fun op => op.fresh = ∅ :=
  List.forall_iff_forall_mem.mpr fun ops hops => List.forall_iff_forall_mem.mpr fun op hop =>
    (List.forall_iff_forall_mem.mp (List.forall_iff_forall_mem.mp h ops hops) op hop).fresh

/-- Lines of operations that write at number `a` and beyond leave every buffer of a lower number as it was. -/
theorem after_of_late {a : ℕ} {opss : List (List (HloOp τ sig Val))} (h : opss.Forall fun ops => ops.Forall (Late a))
    (V : Valuation τ sig Val) (b : Ref sig .tc) (hb : b.idx.val < a) :
    after opss.flatten V (Proc.devRef .tc b) = V (Proc.devRef .tc b) := by
  refine after_of_forall_not_mem _ _ fun op hop hmem => ?_
  obtain ⟨ops, hops, hop⟩ := List.mem_flatten.mp hop
  obtain ⟨y, hw, hy⟩ := (List.forall_iff_forall_mem.mp (List.forall_iff_forall_mem.mp h ops hops) op hop).writes
  rw [hw, Finset.mem_singleton] at hmem
  have e : b = y := Proc.devRef_injective _ hmem
  subst e
  omega

end Cert.Lines

end
-- ==== Proof.FrameKernel.lean ====
/- The launch of the kernel as printed: its host operations, then its one region.

   The proof follows the printed program's own frame certificate; the one difference is how the argument arrays are
   shown to be left alone: every host operation writes a buffer numbered 18 or more, the arguments are 0 to 17. -/
module

public import proofs.«01_k».proof.Proof.Gen.Kernel.Launch
public import proofs.«01_k».proof.Proof.Gen.Kernel.Skeleton
public import proofs.«01_k».proof.Proof.Gen.Kernel.Points
public import proofs.«01_k».proof.Proof.Lines
public import Idealize.ShloMosaic.Lib.Pipeline.FrameBody
public import Idealize.ShloMosaic.Lib.Pipeline.Value
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the region -/

/-- The host operations before the region, as the list of the stretches the program is printed in. -/
abbrev lines : List (List (HloOp τ sig (Elt F))) :=
  [hostOps0, hostOps0_1, hostOps0_2, hostOps0_3, hostOps0_4, hostOps0_5, hostOps0_6, hostOps0_7, hostOps0_8,
    hostOps0_9, hostOps0_10, hostOps0_11, hostOps0_12, hostOps0_13, hostOps0_14, hostOps0_15, hostOps0_16,
    hostOps0_17, hostOps0_18, hostOps0_19, hostOps0_20, hostOps0_21, hostOps0_22, hostOps0_23, hostOps0_24,
    hostOps0_25, hostOps0_26, hostOps0_27, hostOps0_28, hostOps0_29, hostOps0_30, hostOps0_31, hostOps0_32,
    hostOps0_33, hostOps0_34, hostOps0_35, hostOps0_36, hostOps0_37, hostOps0_38, hostOps0_39, hostOps0_40,
    hostOps0_41, hostOps0_42, hostOps0_43, hostOps0_44, hostOps0_45, hostOps0_46, hostOps0_47, hostOps0_48,
    hostOps0_49, hostOps0_50, hostOps0_51, hostOps0_52, hostOps0_53, hostOps0_54, hostOps0_55, hostOps0_56,
    hostOps0_57, hostOps0_58, hostOps0_59, hostOps0_60]

set_option maxHeartbeats 4000000 in
/-- Every host operation writes one buffer numbered 18 or more. -/
theorem lines_late : (lines (F := F)).Forall fun ops => ops.Forall (Lines.Late 18) := by
  repeat' first
    | exact trivial
    | apply And.intro
    | exact ⟨⟨_, rfl, by decide⟩, rfl⟩

/-- Every host operation reads and writes buffers of the core alone. -/
theorem lines_sub : (lines (F := F)).Forall fun ops => ops.Forall fun op => op.bufs ⊆ StableHlo.tcRefs τ sig := by
  simp only [List.Forall]
  exact ⟨hostOps0_sub, hostOps0_1_sub, hostOps0_2_sub, hostOps0_3_sub, hostOps0_4_sub, hostOps0_5_sub, hostOps0_6_sub,
    hostOps0_7_sub, hostOps0_8_sub, hostOps0_9_sub, hostOps0_10_sub, hostOps0_11_sub, hostOps0_12_sub,
    hostOps0_13_sub, hostOps0_14_sub, hostOps0_15_sub, hostOps0_16_sub, hostOps0_17_sub, hostOps0_18_sub,
    hostOps0_19_sub, hostOps0_20_sub, hostOps0_21_sub, hostOps0_22_sub, hostOps0_23_sub, hostOps0_24_sub,
    hostOps0_25_sub, hostOps0_26_sub, hostOps0_27_sub, hostOps0_28_sub, hostOps0_29_sub, hostOps0_30_sub,
    hostOps0_31_sub, hostOps0_32_sub, hostOps0_33_sub, hostOps0_34_sub, hostOps0_35_sub, hostOps0_36_sub,
    hostOps0_37_sub, hostOps0_38_sub, hostOps0_39_sub, hostOps0_40_sub, hostOps0_41_sub, hostOps0_42_sub,
    hostOps0_43_sub, hostOps0_44_sub, hostOps0_45_sub, hostOps0_46_sub, hostOps0_47_sub, hostOps0_48_sub,
    hostOps0_49_sub, hostOps0_50_sub, hostOps0_51_sub, hostOps0_52_sub, hostOps0_53_sub, hostOps0_54_sub,
    hostOps0_55_sub, hostOps0_56_sub, hostOps0_57_sub, hostOps0_58_sub, hostOps0_59_sub, hostOps0_60_sub⟩

/-- Core `c`'s buffers when the region is entered: the launch contents after the host operations. -/
abbrev V (c : Dev nD) (b : Ref sig .tc) : Buf (Elt F) ((c : Thread nD τ).loc b) :=
  StableHlo.after (lines (F := F)).flatten (fun b => m (c, b)) b

set_option maxHeartbeats 800000 in
/-- The program up to its region: the lines of host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main lines lines_sub (Lines.fresh_of_late lines_late) main_chain

/-- The region finds every buffer numbered below 18, the arguments among them, as launched. -/
theorem V_kept (c : Dev nD) (b : Ref sig .tc) (hb : b.idx.val < 18) : V m c b = m ((c : Thread nD τ).loc b) :=
  Lines.after_of_late lines_late _ b hb

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev r0_0 : Rect S10000 := Rect.unit (s := S10000) ![0] S10000.size inb_S10000_S10000_0

/-! ## What the body leaves in each output window's buffer -/

/-- Window 1's staging buffer after the body, from the input windows' blocks: its 1 store as pieces, LAST
    FIRST (Lib/Pipeline/FrameBody.lean `View.canon`; the payloads are the skeleton's). -/
def out0_1 (x0 : Vec F S10000 .f32) : Vec F S10000 .f32 :=
  View.canon [⟨r0_0, k0_pay1 (View.ld x0 r0_0)⟩]

/-- Its stores tile the buffer (checked by evaluation), so they cover it. -/
theorem cover0_1 (p0 : Vec F S10000 .f32) (y : S10000.Idx) :
    ∃ pc ∈ ([⟨r0_0, p0⟩] : List (View.Piece (Elt F) S10000 .f32)), y ∈ pc.1.set :=
  View.cover_of_tiled [⟨r0_0, p0⟩] S10000.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (arg0 : Memref sig .tc .vmem S10000 .f32) (harg0 : arg0.IsWhole) (arg1 : Memref sig .tc .vmem S10000 .f32) (harg1 : arg1.IsWhole)
    (x0 : Vec F S10000 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out0_1 x0)) -∗ K ⟨⟩))
      ⊢ wp frame (wpE (defs₀ (F := F)) Variants.none c none) E (cc0__ident arg0 harg0 arg1 harg1) K := by
  simp only [cc0__ident_eq_skeleton]; unfold cc0__ident_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => out0_1 (iblk m c 0 t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = out0_1 (iblk m c 0 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1]
  iintro ⟨HΦ, Ho, ⟨%d0, H0⟩, ⟨%d1, H1⟩⟩
  iapply (sound_kernel c Set.univ _ _ _ _ (iblk m c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- The launch ends with every argument array as it was and every counter at zero. -/
theorem frame : θ_run defs (onTc (τ := τ) (main (F := F))) ⟨m, fun _ => 0, ρ⟩ (fun r => (∀ (c : Dev nD) (b : Ref sig .tc),
      b.idx.val < 18 → b.isScoped = false → (∀ w, (spec0 w).arr.view.ref ≠ b) →
      r.2.mem ((c : Thread nD τ).loc b) = m ((c : Thread nD τ).loc b)) ∧ r.2.sem = fun _ => 0) :=
  (θ_run defs _ _).mono (fun _ h => ⟨fun c b hb hs hw =>
    ((h.1 c).2 b (Pipeline.mem_restRefs_of b hs hw)).trans (V_kept m c b hb), h.2⟩) (run_main_quiescent m ρ)

end Cert.Kernel.Gen

end
-- ==== Proof.FrameKernelIdeal.lean ====
/- The launch of the kernel over the extended reals: its host operations, then its one region.

   The proof follows the printed program's own frame certificate; the one difference is how the argument arrays are
   shown to be left alone: every host operation writes a buffer numbered 18 or more, the arguments are 0 to 17. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Lines
public import Idealize.ShloMosaic.Lib.Pipeline.FrameBody
public import Idealize.ShloMosaic.Lib.Pipeline.Value
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the region -/

/-- The host operations before the region, as the list of the stretches the program is printed in. -/
abbrev lines : List (List (HloOp τ sig (Elt F))) :=
  [hostOps0, hostOps0_1, hostOps0_2, hostOps0_3, hostOps0_4, hostOps0_5, hostOps0_6, hostOps0_7, hostOps0_8,
    hostOps0_9, hostOps0_10, hostOps0_11, hostOps0_12, hostOps0_13, hostOps0_14, hostOps0_15, hostOps0_16,
    hostOps0_17, hostOps0_18, hostOps0_19, hostOps0_20, hostOps0_21, hostOps0_22, hostOps0_23, hostOps0_24,
    hostOps0_25, hostOps0_26, hostOps0_27, hostOps0_28, hostOps0_29, hostOps0_30, hostOps0_31, hostOps0_32,
    hostOps0_33, hostOps0_34, hostOps0_35, hostOps0_36, hostOps0_37, hostOps0_38, hostOps0_39, hostOps0_40,
    hostOps0_41, hostOps0_42, hostOps0_43, hostOps0_44, hostOps0_45, hostOps0_46, hostOps0_47, hostOps0_48,
    hostOps0_49, hostOps0_50, hostOps0_51, hostOps0_52, hostOps0_53, hostOps0_54, hostOps0_55, hostOps0_56,
    hostOps0_57, hostOps0_58, hostOps0_59, hostOps0_60]

set_option maxHeartbeats 4000000 in
/-- Every host operation writes one buffer numbered 18 or more. -/
theorem lines_late : (lines (F := F)).Forall fun ops => ops.Forall (Lines.Late 18) := by
  repeat' first
    | exact trivial
    | apply And.intro
    | exact ⟨⟨_, rfl, by decide⟩, rfl⟩

/-- Every host operation reads and writes buffers of the core alone. -/
theorem lines_sub : (lines (F := F)).Forall fun ops => ops.Forall fun op => op.bufs ⊆ StableHlo.tcRefs τ sig := by
  simp only [List.Forall]
  exact ⟨hostOps0_sub, hostOps0_1_sub, hostOps0_2_sub, hostOps0_3_sub, hostOps0_4_sub, hostOps0_5_sub, hostOps0_6_sub,
    hostOps0_7_sub, hostOps0_8_sub, hostOps0_9_sub, hostOps0_10_sub, hostOps0_11_sub, hostOps0_12_sub,
    hostOps0_13_sub, hostOps0_14_sub, hostOps0_15_sub, hostOps0_16_sub, hostOps0_17_sub, hostOps0_18_sub,
    hostOps0_19_sub, hostOps0_20_sub, hostOps0_21_sub, hostOps0_22_sub, hostOps0_23_sub, hostOps0_24_sub,
    hostOps0_25_sub, hostOps0_26_sub, hostOps0_27_sub, hostOps0_28_sub, hostOps0_29_sub, hostOps0_30_sub,
    hostOps0_31_sub, hostOps0_32_sub, hostOps0_33_sub, hostOps0_34_sub, hostOps0_35_sub, hostOps0_36_sub,
    hostOps0_37_sub, hostOps0_38_sub, hostOps0_39_sub, hostOps0_40_sub, hostOps0_41_sub, hostOps0_42_sub,
    hostOps0_43_sub, hostOps0_44_sub, hostOps0_45_sub, hostOps0_46_sub, hostOps0_47_sub, hostOps0_48_sub,
    hostOps0_49_sub, hostOps0_50_sub, hostOps0_51_sub, hostOps0_52_sub, hostOps0_53_sub, hostOps0_54_sub,
    hostOps0_55_sub, hostOps0_56_sub, hostOps0_57_sub, hostOps0_58_sub, hostOps0_59_sub, hostOps0_60_sub⟩

/-- Core `c`'s buffers when the region is entered: the launch contents after the host operations. -/
abbrev V (c : Dev nD) (b : Ref sig .tc) : Buf (Elt F) ((c : Thread nD τ).loc b) :=
  StableHlo.after (lines (F := F)).flatten (fun b => m (c, b)) b

set_option maxHeartbeats 800000 in
/-- The program up to its region: the lines of host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main lines lines_sub (Lines.fresh_of_late lines_late) main_chain

/-- The region finds every buffer numbered below 18, the arguments among them, as launched. -/
theorem V_kept (c : Dev nD) (b : Ref sig .tc) (hb : b.idx.val < 18) : V m c b = m ((c : Thread nD τ).loc b) :=
  Lines.after_of_late lines_late _ b hb

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev r0_0 : Rect S10000 := Rect.unit (s := S10000) ![0] S10000.size inb_S10000_S10000_0

/-! ## What the body leaves in each output window's buffer -/

/-- Window 1's staging buffer after the body, from the input windows' blocks: its 1 store as pieces, LAST
    FIRST (Lib/Pipeline/FrameBody.lean `View.canon`; the payloads are the skeleton's). -/
def out0_1 (x0 : Vec F S10000 .f32) : Vec F S10000 .f32 :=
  View.canon [⟨r0_0, k0_pay1 (View.ld x0 r0_0)⟩]

/-- Its stores tile the buffer (checked by evaluation), so they cover it. -/
theorem cover0_1 (p0 : Vec F S10000 .f32) (y : S10000.Idx) :
    ∃ pc ∈ ([⟨r0_0, p0⟩] : List (View.Piece (Elt F) S10000 .f32)), y ∈ pc.1.set :=
  View.cover_of_tiled [⟨r0_0, p0⟩] S10000.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (arg0 : Memref sig .tc .vmem S10000 .f32) (harg0 : arg0.IsWhole) (arg1 : Memref sig .tc .vmem S10000 .f32) (harg1 : arg1.IsWhole)
    (x0 : Vec F S10000 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out0_1 x0)) -∗ K ⟨⟩))
      ⊢ wp frame (wpE (defs₀ (F := F)) Variants.none c none) E (cc0__ident arg0 harg0 arg1 harg1) K := by
  simp only [cc0__ident_eq_skeleton]; unfold cc0__ident_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => out0_1 (iblk m c 0 t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = out0_1 (iblk m c 0 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1]
  iintro ⟨HΦ, Ho, ⟨%d0, H0⟩, ⟨%d1, H1⟩⟩
  iapply (sound_kernel c Set.univ _ _ _ _ (iblk m c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- The launch ends with every argument array as it was and every counter at zero. -/
theorem frame : θ_run defs (onTc (τ := τ) (main (F := F))) ⟨m, fun _ => 0, ρ⟩ (fun r => (∀ (c : Dev nD) (b : Ref sig .tc),
      b.idx.val < 18 → b.isScoped = false → (∀ w, (spec0 w).arr.view.ref ≠ b) →
      r.2.mem ((c : Thread nD τ).loc b) = m ((c : Thread nD τ).loc b)) ∧ r.2.sem = fun _ => 0) :=
  (θ_run defs _ _).mono (fun _ h => ⟨fun c b hb hs hw =>
    ((h.1 c).2 b (Pipeline.mem_restRefs_of b hs hw)).trans (V_kept m c b hb), h.2⟩) (run_main_quiescent m ρ)

/-! ## What the region leaves in the result -/

/-- The region's body copies its input block to its output block. -/
theorem out_eq (x : Vec F S10000 .f32) : out0_1 x = x := by
  funext y
  refine View.canon_apply_of_pieces x _ (fun pc hpc => ?_) y (cover0_1 _ y)
  obtain rfl := List.mem_singleton.mp hpc
  intro z
  show shapeCast S10000 (View.ld x r0_0) shapeCasts_S10000_S10000 z = x (r0_0.idx z)
  exact (shapeCast_apply _ _ z z rfl).trans rfl

/-- The grid has one point, so its blocks cannot meet. -/
theorem disjoint_blocks : ∀ t t' : Fin cfg0.N, (cfg0.win 1).flush t = true → (cfg0.win 1).flush t' = true → t ≠ t' →
    Disjoint ((cfg0.win 1).blk t).view.set ((cfg0.win 1).blk t').view.set :=
  fun t t' _ _ hne => absurd ((by decide +kernel : ∀ t t' : Fin grid0.N, t = t') t t') hne

/-- The input window's block is its whole array. -/
theorem read_input (A : Buf (Elt F) ((0 : Dev nD), Proc.devRef (τ := τ) .tc main_v489)) (t : Fin cfg0.N) :
    ((cfg0.win 0).blk t).view.read (Elt F) A = A := by
  have e : ∀ i, ((cfg0.win 0).blk t).view.emb i = i := fun i =>
    funext fun a => Fin.ext ((cfg0.win 0).rect_emb_val_of_index_zero t a rfl i)
  funext i
  exact congrArg A (e i)

/-- The output window's block is its whole array. -/
theorem read_output (A : Buf (Elt F) ((0 : Dev nD), Proc.devRef (τ := τ) .tc main_v490)) (t : Fin cfg0.N) :
    ((cfg0.win 1).blk t).view.read (Elt F) A = A := by
  have e : ∀ i, ((cfg0.win 1).blk t).view.emb i = i := fun i =>
    funext fun a => Fin.ext ((cfg0.win 1).rect_emb_val_of_index_zero t a rfl i)
  funext i
  exact congrArg A (e i)

/-- The result array after the region is the array the region was entered with. -/
theorem result_eq (c : Dev nD) : (dats m 0 c).arrAt 1 cfg0.N = V m c main_v489 := by
  have t : Fin cfg0.N := ⟨0, by decide +kernel⟩
  have hf : (cfg0.win 1).flush t = true := (by decide +kernel : ∀ t : Fin grid0.N, win0_1.flush t = true) t
  have h := (dats m 0 c).read_blk_arrAt_eq_flushed 1 disjoint_blocks cfg0.N t t.isLt hf
  have e : (dats m 0 c).flushed 1 t = out0_1 (iblk m c 0 t) := by
    show (cfg0.win 1).cut (grid0.coords t) ((dats m 0 c).after 1 t) = _
    rw [after0_1]
    rfl
  rw [e, out_eq] at h
  exact (read_output _ t).symm.trans (h.trans (read_input _ t))

/-- The launch ends with the result array at the contents the host operations left in the region's input. -/
theorem run_result : θ_run defs (onTc (τ := τ) (main (F := F))) ⟨m, fun _ => 0, ρ⟩ (fun r => ∀ c : Dev nD,
      r.2.mem ((c : Thread nD τ).loc main_v490) = V m c main_v489) :=
  (θ_run defs _ _).mono (fun _ h c => ((h c).1 1).trans (result_eq m c)) (run_main m ρ)

end Cert.KernelIdeal.Gen

end
-- ==== Proof.Simulate.lean ====
/- Two straight lines of host operations over two tables of buffers, run side by side.

   When the k-th operation of one line is the k-th operation of the other, at buffers of the same numbers, the two lines
   leave the same contents at buffers of the same numbers. Each operation is compared once, where it stands, so no
   composed term of the whole line is ever written down. -/
module

public import Idealize.ShloMosaic.Lib.StableHlo.Run

@[expose] public section

noncomputable section

namespace Cert.Simulate

open Idealize.ShloMosaic Idealize.ShloMosaic.TcCoe Idealize.ShloMosaic.StableHlo

variable {τ : Topo} {sig sig' : RefSig} {Val : EltTy → Type} {D : List ℕ}

/-- The two references name buffers of main memory, the same number `i` in their tables. -/
structure At (r : Ref sig .tc) (r' : Ref sig' .tc) (i : ℕ) : Prop where
  /-- The first is in main memory. -/
  left : r.space = .hbm
  /-- The second is in main memory. -/
  right : r'.space = .hbm
  /-- The first is number `i`. -/
  leftIdx : r.idx.val = i
  /-- The second is number `i`. -/
  rightIdx : r'.idx.val = i

/-- Two references of main memory of one table with one number are one reference. -/
theorem ref_ext {r s : Ref sig .tc} (hr : r.space = .hbm) (hs : s.space = .hbm) (h : r.idx.val = s.idx.val) : r = s := by
  obtain ⟨rs, ri, rn⟩ := r
  obtain ⟨ss, si, sn⟩ := s
  subst hr; subst hs
  obtain rfl : ri = si := Fin.ext h
  rfl

/-- The two contents agree at every buffer of main memory numbered below `n`, those of the list `D` left out. -/
def Agree (D : List ℕ) (n : ℕ) (V : Valuation τ sig Val) (V' : Valuation τ sig' Val) : Prop :=
  ∀ (r : Ref sig .tc) (r' : Ref sig' .tc) (i : ℕ), At r r' i → i < n ∧ i ∉ D → HEq (V (Proc.devRef .tc r)) (V' (Proc.devRef .tc r'))

/-- An operation on each side, each writing buffer `n` alone and the same contents there, extends the agreement to `n`. -/
theorem Agree.write {n : ℕ} {V : Valuation τ sig Val} {V' : Valuation τ sig' Val} (A : Agree D n V V')
    {op : HloOp τ sig Val} {op' : HloOp τ sig' Val} {y : Ref sig .tc} {y' : Ref sig' .tc}
    (hw : op.writes = {Proc.devRef .tc y}) (hw' : op'.writes = {Proc.devRef .tc y'}) (hy : At y y' n)
    (h : n ∉ D → HEq (op.result V (Proc.devRef .tc y)) (op'.result V' (Proc.devRef .tc y'))) :
    Agree D (n + 1) (op.result V) (op'.result V') := by
  intro r r' i hr hi
  obtain ⟨hi, hD⟩ := hi
  rcases Nat.lt_succ_iff_lt_or_eq.mp hi with hi | rfl
  · have e : r ≠ y := fun e => by
      have h₁ := hr.leftIdx; have h₂ := hy.leftIdx; subst e; omega
    have e' : r' ≠ y' := fun e => by
      have h₁ := hr.rightIdx; have h₂ := hy.rightIdx; subst e; omega
    rw [result_of_writes_ne op V y r hw e, result_of_writes_ne op' V' y' r' hw' e']
    exact A r r' i hr ⟨hi, hD⟩
  · obtain rfl := ref_ext hr.left hy.left (hr.leftIdx.trans hy.leftIdx.symm)
    obtain rfl := ref_ext hr.right hy.right (hr.rightIdx.trans hy.rightIdx.symm)
    exact h hD

/-- The line `l`, run from contents that agree below `n` with those the line `l'` runs from, leaves contents that agree
    below `n` and at the buffers the line writes, one more per operation. -/
structure Sim (D : List ℕ) (n : ℕ) (l : List (HloOp τ sig Val)) (l' : List (HloOp τ sig' Val)) : Prop where
  /-- The agreement carried across the two lines. -/
  carry : ∀ (V : Valuation τ sig Val) (V' : Valuation τ sig' Val), Agree D n V V' →
    Agree D (n + l.length) (after l V) (after l' V')

/-- Two empty lines. -/
theorem Sim.nil (n : ℕ) : Sim D n ([] : List (HloOp τ sig Val)) ([] : List (HloOp τ sig' Val)) := ⟨fun _ _ A => A⟩

/-- One operation on each side, then the rest. -/
theorem Sim.cons {n : ℕ} {op : HloOp τ sig Val} {op' : HloOp τ sig' Val} {l : List (HloOp τ sig Val)}
    {l' : List (HloOp τ sig' Val)} (h : ∀ V V', Agree D n V V' → Agree D (n + 1) (op.result V) (op'.result V'))
    (hl : Sim D (n + 1) l l') : Sim D n (op :: l) (op' :: l') := ⟨fun V V' A => by
  have := hl.carry _ _ (h V V' A)
  rw [after_cons, after_cons, List.length_cons, Nat.add_comm l.length 1, ← Nat.add_assoc]
  exact this⟩

/-- One stretch of `k` operations on each side, then the rest. -/
theorem Sim.append {n k : ℕ} {l₁ l₂ : List (HloOp τ sig Val)} {l' : List (HloOp τ sig' Val)} (hk : l₁.length = k)
    (h₁ : Sim D n l₁ (l'.take k)) (h₂ : Sim D (n + k) l₂ (l'.drop k)) : Sim D n (l₁ ++ l₂) l' := ⟨fun V V' A => by
  have h := h₂.carry _ _ (hk ▸ h₁.carry V V' A)
  have cut : ∀ (W : Valuation τ sig Val) (a b : List (HloOp τ sig Val)), after (a ++ b) W = after b (after a W) := by
    intro W a
    induction a generalizing W with
    | nil => intro b; rfl
    | cons op l ih => intro b; exact ih _ b
  have cut' : ∀ (W : Valuation τ sig' Val) (a b : List (HloOp τ sig' Val)), after (a ++ b) W = after b (after a W) := by
    intro W a
    induction a generalizing W with
    | nil => intro b; rfl
    | cons op l ih => intro b; exact ih _ b
  rw [← cut, ← cut', List.take_append_drop, ← hk, Nat.add_assoc, ← List.length_append] at h
  exact h⟩

/-- `Sim.append` along a list of stretches. -/
theorem Sim.flatten {n : ℕ} (k : ℕ) {l₁ : List (HloOp τ sig Val)} {ls : List (List (HloOp τ sig Val))}
    {l' : List (HloOp τ sig' Val)} (hk : l₁.length = k) (h₁ : Sim D n l₁ (l'.take k))
    (h₂ : Sim D (n + k) ls.flatten (l'.drop k)) : Sim D n (l₁ :: ls).flatten l' :=
  Sim.append hk h₁ h₂

variable {x a b c y : Ref sig .tc} {x' a' b' c' y' : Ref sig' .tc} {l : List (HloOp τ sig Val)}
  {l' : List (HloOp τ sig' Val)} {n i j k : ℕ}

/-- Equal functions of equal arguments are equal, across two names of each type. -/
theorem heq_app {α α' β β' : Type} {f : α → β} {f' : α' → β'} {u : α} {u' : α'} (hα : α = α') (hβ : β = β')
    (hf : HEq f f') (hu : HEq u u') : HEq (f u) (f' u') := by
  subst hα; subst hβ; obtain rfl := eq_of_heq hf; obtain rfl := eq_of_heq hu; rfl

/-- Function types between equal types are equal. -/
theorem arrow_eq {α α' β β' : Type} (hα : α = α') (hβ : β = β') : (α → β) = (α' → β') := by subst hα; subst hβ; rfl

/-- Equal buffer types have the same contents. -/
theorem contents_eq {T T' : BufTy} (h : T = T') : T.Contents Val = T'.Contents Val := congrArg (·.Contents Val) h

/-- A constant written on each side. -/
theorem Sim.nullary {v : y.ty.Contents Val} {v' : y'.ty.Contents Val} {hy hy'} (py : At y y' n) (hv : HEq v v')
    (hl : Sim D (n + 1) l l') :
    Sim D n (StableHlo.nullary (τ := τ) y v hy :: l) (StableHlo.nullary (τ := τ) y' v' hy' :: l') :=
  Sim.cons (fun V V' A => A.write rfl rfl py (fun _ => by rw [nullary_result, nullary_result]; exact hv)) hl

/-- One function of one buffer on each side. -/
theorem Sim.unary {f : x.ty.Contents Val → y.ty.Contents Val} {f' : x'.ty.Contents Val → y'.ty.Contents Val} {hx hy hx' hy'}
    (py : At y y' n) (px : At x x' i) (hi : i < n ∧ i ∉ D) (tx : x.ty = x'.ty) (ty : y.ty = y'.ty) (hf : HEq f f')
    (hl : Sim D (n + 1) l l') :
    Sim D n (StableHlo.unary (τ := τ) x y f hx hy :: l) (StableHlo.unary (τ := τ) x' y' f' hx' hy' :: l') :=
  Sim.cons (fun V V' A => A.write rfl rfl py (fun _ => by
    rw [unary_result, unary_result]
    exact heq_app (contents_eq tx) (contents_eq ty) hf (A x x' i px hi))) hl

/-- One function of two buffers on each side. -/
theorem Sim.binary {f : a.ty.Contents Val → b.ty.Contents Val → y.ty.Contents Val}
    {f' : a'.ty.Contents Val → b'.ty.Contents Val → y'.ty.Contents Val} {ha hb hy ha' hb' hy'}
    (py : At y y' n) (pa : At a a' i) (hi : i < n ∧ i ∉ D) (pb : At b b' j) (hj : j < n ∧ j ∉ D) (ta : a.ty = a'.ty) (tb : b.ty = b'.ty)
    (ty : y.ty = y'.ty) (hf : HEq f f') (hl : Sim D (n + 1) l l') :
    Sim D n (StableHlo.binary (τ := τ) a b y f ha hb hy :: l) (StableHlo.binary (τ := τ) a' b' y' f' ha' hb' hy' :: l') :=
  Sim.cons (fun V V' A => A.write rfl rfl py (fun _ => by
    rw [binary_result, binary_result]
    exact heq_app (contents_eq tb) (contents_eq ty)
      (heq_app (contents_eq ta) (arrow_eq (contents_eq tb) (contents_eq ty)) hf (A a a' i pa hi)) (A b b' j pb hj))) hl

/-- One function of three buffers on each side. -/
theorem Sim.ternary {f : c.ty.Contents Val → a.ty.Contents Val → b.ty.Contents Val → y.ty.Contents Val}
    {f' : c'.ty.Contents Val → a'.ty.Contents Val → b'.ty.Contents Val → y'.ty.Contents Val} {hc ha hb hy hc' ha' hb' hy'}
    (py : At y y' n) (pc : At c c' k) (hk : k < n ∧ k ∉ D) (pa : At a a' i) (hi : i < n ∧ i ∉ D) (pb : At b b' j) (hj : j < n ∧ j ∉ D)
    (tc : c.ty = c'.ty) (ta : a.ty = a'.ty) (tb : b.ty = b'.ty) (ty : y.ty = y'.ty) (hf : HEq f f')
    (hl : Sim D (n + 1) l l') :
    Sim D n (StableHlo.ternary (τ := τ) c a b y f hc ha hb hy :: l)
      (StableHlo.ternary (τ := τ) c' a' b' y' f' hc' ha' hb' hy' :: l') :=
  Sim.cons (fun V V' A => A.write rfl rfl py (fun _ => by
    rw [ternary_result, ternary_result]
    exact heq_app (contents_eq tb) (contents_eq ty)
      (heq_app (contents_eq ta) (arrow_eq (contents_eq tb) (contents_eq ty))
        (heq_app (contents_eq tc) (arrow_eq (contents_eq ta) (arrow_eq (contents_eq tb) (contents_eq ty))) hf (A c c' k pc hk)) (A a a' i pa hi))
      (A b b' j pb hj))) hl

/-- One re-shaping on each side. -/
theorem Sim.reshape {he hn hx hy he' hn' hx' hy'} (py : At y y' n) (px : At x x' i) (hi : i < n ∧ i ∉ D) (tx : x.ty = x'.ty)
    (ty : y.ty = y'.ty) (hl : Sim D (n + 1) l l') :
    Sim D n (StableHlo.reshape (τ := τ) (Val := Val) x y he hn hx hy :: l)
      (StableHlo.reshape (τ := τ) (Val := Val) x' y' he' hn' hx' hy' :: l') :=
  Sim.cons (fun V V' A => A.write rfl rfl py (fun _ => by
    rw [reshape_result, reshape_result]
    have h := A x x' i px hi
    revert h
    generalize V (Proc.devRef .tc x) = u
    generalize V' (Proc.devRef .tc x') = u'
    intro h
    have key : ∀ (X X' Y Y' : BufTy) (u : X.Contents Val) (u' : X'.Contents Val) (he : X.elt = Y.elt) (he' : X'.elt = Y'.elt)
        (hn : X.shape.ShapeCasts Y.shape) (hn' : X'.shape.ShapeCasts Y'.shape) (_ : X = X') (_ : Y = Y') (_ : HEq u u'),
        HEq (fun i => he ▸ shapeCast Y.shape u hn i : Y.Contents Val) (fun i => he' ▸ shapeCast Y'.shape u' hn' i : Y'.Contents Val) := by
      intro X X' Y Y' u u' he he' hn hn' e₁ e₂ e₃
      subst e₁; subst e₂; obtain rfl := eq_of_heq e₃; rfl
    exact key _ _ _ _ u u' he he' hn hn' tx ty h)) hl

/-- One function of a family of buffers on each side. -/
theorem Sim.nary {m : ℕ} {xs : Fin m → Ref sig .tc} {xs' : Fin m → Ref sig' .tc}
    {f : ((k : Fin m) → (xs k).ty.Contents Val) → y.ty.Contents Val}
    {f' : ((k : Fin m) → (xs' k).ty.Contents Val) → y'.ty.Contents Val} {hxs hy hxs' hy'}
    (py : At y y' n) (px : ∀ k, At (xs k) (xs' k) (xs k).idx.val)
    (hp : ∀ k, (xs k).idx.val < n ∧ (xs k).idx.val ∉ D)
    (hf : ∀ u u', (∀ k, HEq (u k) (u' k)) → HEq (f u) (f' u')) (hl : Sim D (n + 1) l l') :
    Sim D n (StableHlo.nary (τ := τ) xs y f hxs hy :: l) (StableHlo.nary (τ := τ) xs' y' f' hxs' hy' :: l') :=
  Sim.cons (fun V V' A => A.write rfl rfl py (fun _ => by
    rw [nary_result, nary_result]
    exact hf _ _ fun k => A _ _ _ (px k) (hp k))) hl

/-- Where the two lines part and meet again: a constant is spread and taken with a third buffer, by one operation on one
    side and by another on the other, and the two results are equal whatever that buffer holds (`h`). The constant and
    its spread, buffers `n` and `n + 1`, are left out of the agreement. -/
theorem Sim.part {z w : Ref sig .tc} {z' w' : Ref sig' .tc} {v : z.ty.Contents Val} {v' : z'.ty.Contents Val}
    {f : z.ty.Contents Val → w.ty.Contents Val} {f' : z'.ty.Contents Val → w'.ty.Contents Val}
    {g : a.ty.Contents Val → w.ty.Contents Val → y.ty.Contents Val}
    {g' : a'.ty.Contents Val → w'.ty.Contents Val → y'.ty.Contents Val} {h₁ h₂ h₃ h₄ h₅ h₆ h₁' h₂' h₃' h₄' h₅' h₆'}
    (hz : n ∈ D) (hw : n + 1 ∈ D) (pz : At z z' n) (pw : At w w' (n + 1)) (py : At y y' (n + 2)) (pa : At a a' i)
    (hi : i < n ∧ i ∉ D) (h : ∀ u u', HEq u u' → HEq (g u (f v)) (g' u' (f' v'))) (hl : Sim D (n + 3) l l') :
    Sim D n (StableHlo.nullary (τ := τ) z v h₁ :: StableHlo.unary (τ := τ) z w f h₂ h₃
        :: StableHlo.binary (τ := τ) a w y g h₄ h₅ h₆ :: l)
      (StableHlo.nullary (τ := τ) z' v' h₁' :: StableHlo.unary (τ := τ) z' w' f' h₂' h₃'
        :: StableHlo.binary (τ := τ) a' w' y' g' h₄' h₅' h₆' :: l') := ⟨fun V V' A => by
  have A₁ := A.write (op := StableHlo.nullary (τ := τ) z v h₁) (op' := StableHlo.nullary (τ := τ) z' v' h₁') rfl rfl pz
    fun hn => absurd hz hn
  have A₂ := A₁.write (op := StableHlo.unary (τ := τ) z w f h₂ h₃) (op' := StableHlo.unary (τ := τ) z' w' f' h₂' h₃') rfl rfl
    pw fun hn => absurd hw hn
  have A₃ := A₂.write (op := StableHlo.binary (τ := τ) a w y g h₄ h₅ h₆)
    (op' := StableHlo.binary (τ := τ) a' w' y' g' h₄' h₅' h₆') rfl rfl py fun _ => by
      rw [binary_result, binary_result, unary_result, unary_result, nullary_result, nullary_result]
      exact h _ _ (A₂ a a' i pa ⟨by omega, hi.2⟩)
  have := hl.carry _ _ A₃
  simp only [after_cons, List.length_cons]
  rw [show n + (l.length + 1 + 1 + 1) = n + 3 + l.length by omega]
  exact this⟩

end Cert.Simulate

end
-- ==== Proof.Match.lean ====
/- The kernel's line of host operations before its region, run beside the reference's line.

   The two lines have 846 operations each, at buffers of the same numbers, and part at one place only: in front of the
   first layer the kernel takes ten from the scaled features where the reference adds minus ten. -/
module

public import proofs.«01_k».proof.Proof.FrameKernelIdeal
public import proofs.«01_k».proof.Proof.Gen.ReferenceIdeal.Run
public import proofs.«01_k».proof.Proof.Simulate

@[expose] public section

noncomputable section

namespace Cert.Match

open Idealize.ShloMosaic Idealize.ShloMosaic.TcCoe Idealize.ShloMosaic.StableHlo Cert.Simulate Cert.KernelIdeal.Gen

variable {F : FTy → Type} [FloatOps F]

/-- The one place where the two lines differ: taking ten is adding minus ten. -/
def Clip : Prop :=
  ∀ u : FVec F Cert.KernelIdeal.S10000x1 .f32,
    subf u (broadcastInDim Cert.KernelIdeal.S10000x1 ![] bcast_S_S10000x1 (constant Cert.KernelIdeal.S_ .f32 0x41200000#32))
      = addf u (broadcastInDim Cert.KernelIdeal.S10000x1 ![] bcast_S_S10000x1 (constant Cert.KernelIdeal.S_ .f32 0xC1200000#32))

set_option maxRecDepth 16384 in
/-- The kernel's line has 846 operations. -/
theorem lines_length : (lines (F := F)).flatten.length = 846 := rfl

/-- A function of eight values takes equal values to equal results. -/
theorem congr_eight {α β : Type} (g : α → α → α → α → α → α → α → α → β) {a₀ a₁ a₂ a₃ a₄ a₅ a₆ a₇ b₀ b₁ b₂ b₃ b₄ b₅ b₆ b₇ : α}
    (h₀ : a₀ = b₀) (h₁ : a₁ = b₁) (h₂ : a₂ = b₂) (h₃ : a₃ = b₃) (h₄ : a₄ = b₄) (h₅ : a₅ = b₅) (h₆ : a₆ = b₆) (h₇ : a₇ = b₇) :
    g a₀ a₁ a₂ a₃ a₄ a₅ a₆ a₇ = g b₀ b₁ b₂ b₃ b₄ b₅ b₆ b₇ := by
  rw [h₀, h₁, h₂, h₃, h₄, h₅, h₆, h₇]

attribute [local irreducible] StableHlo.nullary StableHlo.unary StableHlo.binary StableHlo.ternary StableHlo.reshape
  StableHlo.nary

set_option maxRecDepth 16384 in
set_option maxHeartbeats 20000000 in
/-- The kernel's line and the reference's agree at every buffer but the constant ten and its spread (603 and 604). -/
theorem lines_sim (hclip : Clip (F := F)) :
    Sim [603, 604] 18 (lines (F := F)).flatten (Cert.ReferenceIdeal.Value.ops (F := F)) := by
  refine
    Sim.flatten 26 rfl ?_ <| Sim.flatten 6 rfl ?_ <| Sim.flatten 17 rfl ?_ <| Sim.flatten 6 rfl ?_ <|
    Sim.flatten 17 rfl ?_ <| Sim.flatten 6 rfl ?_ <| Sim.flatten 18 rfl ?_ <| Sim.flatten 6 rfl ?_ <|
    Sim.flatten 17 rfl ?_ <| Sim.flatten 6 rfl ?_ <| Sim.flatten 17 rfl ?_ <| Sim.flatten 6 rfl ?_ <|
    Sim.flatten 21 rfl ?_ <| Sim.flatten 6 rfl ?_ <| Sim.flatten 14 rfl ?_ <| Sim.flatten 6 rfl ?_ <|
    Sim.flatten 17 rfl ?_ <| Sim.flatten 6 rfl ?_ <| Sim.flatten 18 rfl ?_ <| Sim.flatten 6 rfl ?_ <|
    Sim.flatten 14 rfl ?_ <| Sim.flatten 6 rfl ?_ <| Sim.flatten 17 rfl ?_ <| Sim.flatten 6 rfl ?_ <|
    Sim.flatten 21 rfl ?_ <| Sim.flatten 6 rfl ?_ <| Sim.flatten 17 rfl ?_ <| Sim.flatten 6 rfl ?_ <|
    Sim.flatten 14 rfl ?_ <| Sim.flatten 6 rfl ?_ <| Sim.flatten 18 rfl ?_ <| Sim.flatten 6 rfl ?_ <|
    Sim.flatten 17 rfl ?_ <| Sim.flatten 6 rfl ?_ <| Sim.flatten 14 rfl ?_ <| Sim.flatten 6 rfl ?_ <|
    Sim.flatten 21 rfl ?_ <| Sim.flatten 6 rfl ?_ <| Sim.flatten 14 rfl ?_ <| Sim.flatten 6 rfl ?_ <|
    Sim.flatten 14 rfl ?_ <| Sim.flatten 6 rfl ?_ <| Sim.flatten 18 rfl ?_ <| Sim.flatten 6 rfl ?_ <|
    Sim.flatten 14 rfl ?_ <| Sim.flatten 6 rfl ?_ <| Sim.flatten 14 rfl ?_ <| Sim.flatten 6 rfl ?_ <|
    Sim.flatten 37 rfl ?_ <| Sim.flatten 6 rfl ?_ <| Sim.flatten 35 rfl ?_ <| Sim.flatten 15 rfl ?_ <|
    Sim.flatten 35 rfl ?_ <| Sim.flatten 15 rfl ?_ <| Sim.flatten 35 rfl ?_ <| Sim.flatten 15 rfl ?_ <|
    Sim.flatten 35 rfl ?_ <| Sim.flatten 15 rfl ?_ <| Sim.flatten 34 rfl ?_ <| Sim.flatten 15 rfl ?_ <|
    Sim.flatten 1 rfl ?_ <| Sim.nil _
  all_goals repeat first
    | exact Sim.nil _
    | refine Sim.unary ⟨rfl, rfl, rfl, rfl⟩ ⟨rfl, rfl, rfl, rfl⟩ (by decide) rfl rfl HEq.rfl ?_
    | refine Sim.binary ⟨rfl, rfl, rfl, rfl⟩ ⟨rfl, rfl, rfl, rfl⟩ (by decide) ⟨rfl, rfl, rfl, rfl⟩ (by decide) rfl rfl rfl
        HEq.rfl ?_
    | refine Sim.nullary ⟨rfl, rfl, rfl, rfl⟩ HEq.rfl ?_
    | refine Sim.reshape ⟨rfl, rfl, rfl, rfl⟩ ⟨rfl, rfl, rfl, rfl⟩ (by decide) rfl rfl ?_
    | refine Sim.ternary ⟨rfl, rfl, rfl, rfl⟩ ⟨rfl, rfl, rfl, rfl⟩ (by decide) ⟨rfl, rfl, rfl, rfl⟩ (by decide)
        ⟨rfl, rfl, rfl, rfl⟩ (by decide) rfl rfl rfl rfl HEq.rfl ?_
    | refine Sim.part (by decide) (by decide) ⟨rfl, rfl, rfl, rfl⟩ ⟨rfl, rfl, rfl, rfl⟩ ⟨rfl, rfl, rfl, rfl⟩
        ⟨rfl, rfl, rfl, rfl⟩ (by decide) (fun u u' e => by obtain rfl := eq_of_heq e; exact heq_of_eq (hclip u)) ?_
    | refine Sim.nary ⟨rfl, rfl, rfl, rfl⟩ (fun k => by fin_cases k <;> exact ⟨rfl, rfl, rfl, rfl⟩) (by decide)
        (fun u u' e => heq_of_eq (congr_eight Cert.ReferenceIdeal.Value.fn_main_v321 (eq_of_heq (e 0)) (eq_of_heq (e 1))
          (eq_of_heq (e 2)) (eq_of_heq (e 3)) (eq_of_heq (e 4)) (eq_of_heq (e 5)) (eq_of_heq (e 6)) (eq_of_heq (e 7)))) ?_
    | refine Sim.nary ⟨rfl, rfl, rfl, rfl⟩ (fun k => by fin_cases k <;> exact ⟨rfl, rfl, rfl, rfl⟩) (by decide)
        (fun u u' e => heq_of_eq (congr_eight Cert.ReferenceIdeal.Value.fn_main_v330 (eq_of_heq (e 0)) (eq_of_heq (e 1))
          (eq_of_heq (e 2)) (eq_of_heq (e 3)) (eq_of_heq (e 4)) (eq_of_heq (e 5)) (eq_of_heq (e 6)) (eq_of_heq (e 7)))) ?_

end Cert.Match

end
-- ==== Proof.Numbers.lean ====
/- The constants of the programs, as extended reals. -/
module

public import Idealize.ShloMosaic.PureOps.Ideal
public import Idealize.ShloMosaic.PureOps.IdealRules

@[expose] public section

noncomputable section

namespace Cert.Numbers

open Idealize.ShloMosaic

/-- The word of ten. -/
theorem ten : Ideal.ofBits .f32 0x41200000#32 = ((10 : ℝ) : EReal) := by
  simp [Ideal.ofBits, Ideal.ieee, -EReal.coe_mul]; norm_num

/-- The word of minus ten. -/
theorem neg_ten : Ideal.ofBits .f32 0xC1200000#32 = ((-10 : ℝ) : EReal) := by
  simp [Ideal.ofBits, Ideal.ieee, -EReal.coe_mul]; norm_num

/-- Taking ten is adding minus ten, of any extended real. -/
theorem sub_ten (x : EReal) :
    x - Ideal.ofBits .f32 0x41200000#32 = x + Ideal.ofBits .f32 0xC1200000#32 := by
  rw [ten, neg_ten, EReal.coe_neg, sub_eq_add_neg]

end Cert.Numbers

end
-- ==== Proof.AgainstReference.lean ====
/- The kernel's result is the reference's, on every input. -/
module

public import proofs.«01_k».proof.Proof.FrameKernelIdeal
public import proofs.«01_k».proof.Proof.Gen.ReferenceIdeal.Run
public import proofs.«01_k».proof.Proof.Match
public import proofs.«01_k».proof.Proof.Numbers

@[expose] public section

noncomputable section

namespace Cert.AgainstReference

open Idealize.ShloMosaic Idealize.ShloMosaic.TcCoe Idealize.ShloMosaic.StableHlo Idealize.SL.Sem Cert.Simulate

/-- Over the extended reals taking ten is adding minus ten. -/
theorem clip_ideal : Cert.Match.Clip (F := Ideal) := fun u => by
  funext i
  exact Cert.Numbers.sub_ten (u i)

/-- A pair of references that are one argument on the two sides hold what the argument holds. -/
theorem heq_arg {τ : Topo} {sig sig' : RefSig} {Val : EltTy → Type} {V : Valuation τ sig Val} {V' : Valuation τ sig' Val}
    {i : ℕ} {a r : Ref sig .tc} {a' r' : Ref sig' .tc} (hr : At r r' i) (ha : At a a' i)
    (h : HEq (V (Proc.devRef .tc a)) (V' (Proc.devRef .tc a'))) : HEq (V (Proc.devRef .tc r)) (V' (Proc.devRef .tc r')) := by
  obtain rfl := ref_ext hr.left ha.left (hr.leftIdx.trans ha.leftIdx.symm)
  obtain rfl := ref_ext hr.right ha.right (hr.rightIdx.trans ha.rightIdx.symm)
  exact h

/-- The two memories hold the same argument arrays on the core. -/
abbrev SameArgs (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) : Prop :=
    m' ((c.tc : Thread Cert.ReferenceIdeal.nD Cert.ReferenceIdeal.τ).loc Cert.ReferenceIdeal.main_arg0)
        = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1)
        = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2)
        = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3)
        = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4)
        = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5)
        = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6)
        = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7)
        = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8)
        = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9)
        = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10)
        = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11)
        = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12)
        = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13)
        = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14)
        = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15)
        = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16)
        = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17)
        = m ((c.tc : Thread Cert.KernelIdeal.nD Cert.KernelIdeal.τ).loc Cert.KernelIdeal.main_arg17)

/-- Equal arguments are equal contents at the buffers numbered below 18. -/
theorem agree_args {m m'} {c : Dev Cert.KernelIdeal.nD} (h : SameArgs m m' c) :
    Agree [603, 604] 18 (fun b => m (c, b)) (launchContents m' c) := by
  obtain ⟨h0, h1, h2, h3, h4, h5, h6, h7, h8, h9, h10, h11, h12, h13, h14, h15, h16, h17⟩ := h
  rintro r r' i hr ⟨hi, -⟩
  interval_cases i
  · exact heq_arg (V := fun b => m (c, b)) (V' := launchContents m' c) (a := Cert.KernelIdeal.main_arg0) (a' := Cert.ReferenceIdeal.main_arg0) hr ⟨rfl, rfl, rfl, rfl⟩ (heq_of_eq (by exact h0.symm))
  · exact heq_arg (V := fun b => m (c, b)) (V' := launchContents m' c) (a := Cert.KernelIdeal.main_arg1) (a' := Cert.ReferenceIdeal.main_arg1) hr ⟨rfl, rfl, rfl, rfl⟩ (heq_of_eq (by exact h1.symm))
  · exact heq_arg (V := fun b => m (c, b)) (V' := launchContents m' c) (a := Cert.KernelIdeal.main_arg2) (a' := Cert.ReferenceIdeal.main_arg2) hr ⟨rfl, rfl, rfl, rfl⟩ (heq_of_eq (by exact h2.symm))
  · exact heq_arg (V := fun b => m (c, b)) (V' := launchContents m' c) (a := Cert.KernelIdeal.main_arg3) (a' := Cert.ReferenceIdeal.main_arg3) hr ⟨rfl, rfl, rfl, rfl⟩ (heq_of_eq (by exact h3.symm))
  · exact heq_arg (V := fun b => m (c, b)) (V' := launchContents m' c) (a := Cert.KernelIdeal.main_arg4) (a' := Cert.ReferenceIdeal.main_arg4) hr ⟨rfl, rfl, rfl, rfl⟩ (heq_of_eq (by exact h4.symm))
  · exact heq_arg (V := fun b => m (c, b)) (V' := launchContents m' c) (a := Cert.KernelIdeal.main_arg5) (a' := Cert.ReferenceIdeal.main_arg5) hr ⟨rfl, rfl, rfl, rfl⟩ (heq_of_eq (by exact h5.symm))
  · exact heq_arg (V := fun b => m (c, b)) (V' := launchContents m' c) (a := Cert.KernelIdeal.main_arg6) (a' := Cert.ReferenceIdeal.main_arg6) hr ⟨rfl, rfl, rfl, rfl⟩ (heq_of_eq (by exact h6.symm))
  · exact heq_arg (V := fun b => m (c, b)) (V' := launchContents m' c) (a := Cert.KernelIdeal.main_arg7) (a' := Cert.ReferenceIdeal.main_arg7) hr ⟨rfl, rfl, rfl, rfl⟩ (heq_of_eq (by exact h7.symm))
  · exact heq_arg (V := fun b => m (c, b)) (V' := launchContents m' c) (a := Cert.KernelIdeal.main_arg8) (a' := Cert.ReferenceIdeal.main_arg8) hr ⟨rfl, rfl, rfl, rfl⟩ (heq_of_eq (by exact h8.symm))
  · exact heq_arg (V := fun b => m (c, b)) (V' := launchContents m' c) (a := Cert.KernelIdeal.main_arg9) (a' := Cert.ReferenceIdeal.main_arg9) hr ⟨rfl, rfl, rfl, rfl⟩ (heq_of_eq (by exact h9.symm))
  · exact heq_arg (V := fun b => m (c, b)) (V' := launchContents m' c) (a := Cert.KernelIdeal.main_arg10) (a' := Cert.ReferenceIdeal.main_arg10) hr ⟨rfl, rfl, rfl, rfl⟩ (heq_of_eq (by exact h10.symm))
  · exact heq_arg (V := fun b => m (c, b)) (V' := launchContents m' c) (a := Cert.KernelIdeal.main_arg11) (a' := Cert.ReferenceIdeal.main_arg11) hr ⟨rfl, rfl, rfl, rfl⟩ (heq_of_eq (by exact h11.symm))
  · exact heq_arg (V := fun b => m (c, b)) (V' := launchContents m' c) (a := Cert.KernelIdeal.main_arg12) (a' := Cert.ReferenceIdeal.main_arg12) hr ⟨rfl, rfl, rfl, rfl⟩ (heq_of_eq (by exact h12.symm))
  · exact heq_arg (V := fun b => m (c, b)) (V' := launchContents m' c) (a := Cert.KernelIdeal.main_arg13) (a' := Cert.ReferenceIdeal.main_arg13) hr ⟨rfl, rfl, rfl, rfl⟩ (heq_of_eq (by exact h13.symm))
  · exact heq_arg (V := fun b => m (c, b)) (V' := launchContents m' c) (a := Cert.KernelIdeal.main_arg14) (a' := Cert.ReferenceIdeal.main_arg14) hr ⟨rfl, rfl, rfl, rfl⟩ (heq_of_eq (by exact h14.symm))
  · exact heq_arg (V := fun b => m (c, b)) (V' := launchContents m' c) (a := Cert.KernelIdeal.main_arg15) (a' := Cert.ReferenceIdeal.main_arg15) hr ⟨rfl, rfl, rfl, rfl⟩ (heq_of_eq (by exact h15.symm))
  · exact heq_arg (V := fun b => m (c, b)) (V' := launchContents m' c) (a := Cert.KernelIdeal.main_arg16) (a' := Cert.ReferenceIdeal.main_arg16) hr ⟨rfl, rfl, rfl, rfl⟩ (heq_of_eq (by exact h16.symm))
  · exact heq_arg (V := fun b => m (c, b)) (V' := launchContents m' c) (a := Cert.KernelIdeal.main_arg17) (a' := Cert.ReferenceIdeal.main_arg17) hr ⟨rfl, rfl, rfl, rfl⟩ (heq_of_eq (by exact h17.symm))

/-- The array the kernel's host operations leave for the region is the reference's result. -/
theorem entry_eq {m m'} {c : Dev Cert.KernelIdeal.nD} (h : SameArgs m m' c) :
    Cert.KernelIdeal.Gen.V m c Cert.KernelIdeal.main_v489
      = after (Cert.ReferenceIdeal.Value.ops (F := Ideal)) (launchContents m' c) (Proc.devRef .tc Cert.ReferenceIdeal.main_v489) := by
  have hs := (Cert.Match.lines_sim clip_ideal).carry _ _ (agree_args h)
  exact eq_of_heq (hs Cert.KernelIdeal.main_v489 Cert.ReferenceIdeal.main_v489 863 ⟨rfl, rfl, rfl, rfl⟩
    ⟨by rw [Cert.Match.lines_length]; decide, by decide⟩)

/-- The reference's run leaves its result where its line of operations leaves it. -/
theorem reference_result (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => ∀ c : Dev Cert.ReferenceIdeal.nD,
        r.2.mem ((c.tc : Thread Cert.ReferenceIdeal.nD Cert.ReferenceIdeal.τ).loc Cert.ReferenceIdeal.main_v489)
          = after (Cert.ReferenceIdeal.Value.ops (F := Ideal)) (launchContents m c) (Proc.devRef .tc Cert.ReferenceIdeal.main_v489)) :=
  (θ_run _ _ _).mono (fun _ h c => h c Cert.ReferenceIdeal.main_v489)
    (run_seq Cert.ReferenceIdeal.Value.scopedRefs_eq Cert.ReferenceIdeal.Value.scopedSems_eq Cert.ReferenceIdeal.defs
      Cert.ReferenceIdeal.main (fun _ => Cert.ReferenceIdeal.Value.ops) Cert.ReferenceIdeal.Value.main_eq
      (fun _ => Cert.ReferenceIdeal.Value.ops_sub) m ρ fun _ => Cert.ReferenceIdeal.Value.ops_fresh)

end Cert.AgainstReference

end
-- ==== Proof.Reads.lean ====
/- The indexing operations of a layer, read at one index: a row lookup, a lookup at a row and a control point, the product
   with one matrix per control point, and the sum over the middle axis. -/
module

public import Idealize.ShloMosaic.Lib.IdealHost
public import Idealize.ShloMosaic.Lib.ValueIdx
public import Idealize.ShloMosaic.Lib.Pointwise.Reduce
public import Idealize.ShloMosaic.PureOps.Ideal.Laws

@[expose] public section

noncomputable section

open scoped BigOperators

namespace Cert.Reads

open Idealize.ShloMosaic
open Idealize.ShloMosaic.ValueIdx (contrEquiv1 contrEquiv1_symm_val constant_apply)

/-- The row a word names in a table of `n` rows: read signed, and held inside the table. -/
def row {w : ℕ} (n : ℕ) (hn : 0 < n) (x : BitVec w) : Fin n := ⟨min x.toInt.toNat (n - 1), by omega⟩

/-- A lookup of rows: entry `(e, o)` is the table's at the row word `e` names. -/
theorem gather_row {α : Type} {w N E O : ℕ} (hN : 0 < N)
    (wf : GatherDims.WF ⟨2, ![N, O]⟩ ⟨2, ![E, 1]⟩ ⟨2, ![E, O]⟩ [1] [0] [] [0] [] 1 ![1, O])
    (x : (⟨2, ![N, O]⟩ : Shape).Idx → α) (idx : IVec ⟨2, ![E, 1]⟩ w) (e : Fin E) (o : Fin O) :
    Host.gather (⟨[1], [0], [], [], [0], 1, ![1, O], wf⟩ : GatherDims _ _ _) x idx (ix2 e o)
      = x (ix2 (row N hN (idx (ix2 e 0))) o) := by
  unfold Host.gather
  refine congrArg x (funext fun a => Fin.ext ?_)
  generalize hd : (⟨[1], [0], [], [], [0], 1, ![1, O], wf⟩ : GatherDims ⟨2, ![N, O]⟩ ⟨2, ![E, 1]⟩ ⟨2, ![E, O]⟩) = d
  show d.start (ix2 e o) idx a + d.batchCoord (ix2 e o) a + d.offCoord (ix2 e o) a = _
  rw [d.batchCoord_eq_zero _ _ (by subst hd; exact List.not_mem_nil), Nat.add_zero]
  match a with
  | ⟨0, _⟩ =>
    rw [d.offCoord_eq_zero _ _ (fun h => ((d.mem_sKept _).1 h).1 (by subst hd; exact List.mem_singleton.2 rfl)), Nat.add_zero]
    show d.start (ix2 e o) idx 0 = (row N hN (idx (ix2 e 0))).val
    have hm : (0 : Fin 2) ∈ d.startIndexMap := by subst hd; exact List.mem_singleton.2 rfl
    unfold GatherDims.start
    rw [dif_pos hm]
    have hsi : d.siIdx (ix2 e o) ⟨d.startIndexMap.idxOf 0, List.idxOf_lt_length_iff.2 hm⟩ = ix2 e 0 := by
      subst hd
      funext b
      match b with
      | ⟨0, _⟩ => rfl
      | ⟨1, _⟩ => rfl
    rw [hsi]
    subst hd; rfl
  | ⟨1, _⟩ =>
    have hm : (1 : Fin 2) ∉ d.startIndexMap := by subst hd; exact (by decide : (1 : Fin 2) ∉ [(0 : Fin 2)])
    show d.start (ix2 e o) idx 1 + d.offCoord (ix2 e o) 1 = o.val
    unfold GatherDims.start
    rw [dif_neg hm, Nat.zero_add]
    subst hd; rfl

/-- A lookup at a row and a control point: entry `(e, s, o)` is the table's where the two words of `(e, s)` say. -/
theorem gather_pair {α : Type} {w N K E S O : ℕ} (hN : 0 < N) (hK : 0 < K)
    (wf : GatherDims.WF ⟨3, ![N, K, O]⟩ ⟨3, ![E, S, 2]⟩ ⟨3, ![E, S, O]⟩ [2] [0, 1] [] [0, 1] [] 2 ![1, 1, O])
    (x : (⟨3, ![N, K, O]⟩ : Shape).Idx → α) (idx : IVec ⟨3, ![E, S, 2]⟩ w) (e : Fin E) (s : Fin S) (o : Fin O) :
    Host.gather (⟨[2], [0, 1], [], [], [0, 1], 2, ![1, 1, O], wf⟩ : GatherDims _ _ _) x idx (ix3 e s o)
      = x (ix3 (row N hN (idx (ix3 e s 0))) (row K hK (idx (ix3 e s 1))) o) := by
  unfold Host.gather
  refine congrArg x (funext fun a => Fin.ext ?_)
  generalize hd : (⟨[2], [0, 1], [], [], [0, 1], 2, ![1, 1, O], wf⟩ :
    GatherDims ⟨3, ![N, K, O]⟩ ⟨3, ![E, S, 2]⟩ ⟨3, ![E, S, O]⟩) = d
  show d.start (ix3 e s o) idx a + d.batchCoord (ix3 e s o) a + d.offCoord (ix3 e s o) a = _
  rw [d.batchCoord_eq_zero _ _ (by subst hd; exact List.not_mem_nil), Nat.add_zero]
  match a with
  | ⟨0, _⟩ =>
    have hm : (0 : Fin 3) ∈ d.startIndexMap := by subst hd; exact List.mem_cons_self
    rw [d.offCoord_eq_zero _ _ (fun h => ((d.mem_sKept _).1 h).1 (by subst hd; exact List.mem_cons_self)), Nat.add_zero]
    show d.start (ix3 e s o) idx 0 = (row N hN (idx (ix3 e s 0))).val
    unfold GatherDims.start
    rw [dif_pos hm]
    have hsi : d.siIdx (ix3 e s o) ⟨d.startIndexMap.idxOf 0, List.idxOf_lt_length_iff.2 hm⟩ = ix3 e s 0 := by
      subst hd
      funext b
      match b with
      | ⟨0, _⟩ => rfl
      | ⟨1, _⟩ => rfl
      | ⟨2, _⟩ => rfl
    rw [hsi]
    subst hd; rfl
  | ⟨1, _⟩ =>
    have hm : (1 : Fin 3) ∈ d.startIndexMap := by subst hd; exact List.mem_cons_of_mem _ (List.mem_singleton.2 rfl)
    rw [d.offCoord_eq_zero _ _ (fun h => ((d.mem_sKept _).1 h).1
      (by subst hd; exact List.mem_cons_of_mem _ (List.mem_singleton.2 rfl))), Nat.add_zero]
    show d.start (ix3 e s o) idx 1 = (row K hK (idx (ix3 e s 1))).val
    unfold GatherDims.start
    rw [dif_pos hm]
    have hsi : d.siIdx (ix3 e s o) ⟨d.startIndexMap.idxOf 1, List.idxOf_lt_length_iff.2 hm⟩ = ix3 e s 1 := by
      subst hd
      funext b
      match b with
      | ⟨0, _⟩ => rfl
      | ⟨1, _⟩ => rfl
      | ⟨2, _⟩ => rfl
    rw [hsi]
    subst hd; rfl
  | ⟨2, _⟩ =>
    have hm : (2 : Fin 3) ∉ d.startIndexMap := by subst hd; exact (by decide : (2 : Fin 3) ∉ [(0 : Fin 3), 1])
    show d.start (ix3 e s o) idx 2 + d.offCoord (ix3 e s o) 2 = o.val
    unfold GatherDims.start
    rw [dif_neg hm, Nat.zero_add]
    subst hd; rfl

/-- The product of every row with every control point's matrix: entry `(n, k, o)` is the sum over the row's entries. -/
theorem dot_apply {N I K O : ℕ} (w : DotDims.WF ⟨2, ![N, I]⟩ ⟨3, ![K, I, O]⟩ ⟨3, ![N, K, O]⟩ [1] [1] [0] [0, 2] [] [])
    (A : FVec Ideal ⟨2, ![N, I]⟩ .f32) (B : FVec Ideal ⟨3, ![K, I, O]⟩ .f32) (n : Fin N) (k : Fin K) (o : Fin O) :
    Host.dotGeneral (⟨[1], [1], [0], [0, 2], [], [], w⟩ : DotDims _ _ _) none A B (ix3 n k o)
      = ∑ i : Fin I, A (ix2 n i) * B (ix3 k i o) := by
  show FloatOps.dotGeneral _ none _ A B (ix3 n k o) = _
  rw [Ideal.dotGeneral_apply,
    ← Equiv.sum_comp (contrEquiv1 (⟨[1], [1], [0], [0, 2], [], [], w⟩ : DotDims _ _ _) I rfl rfl).symm]
  refine Finset.sum_congr rfl fun i _ => ?_
  have hi := contrEquiv1_symm_val
    (⟨[1], [1], [0], [0, 2], [], [], w⟩ : DotDims ⟨2, ![N, I]⟩ ⟨3, ![K, I, O]⟩ ⟨3, ![N, K, O]⟩) I rfl rfl i
  have hl : (⟨[1], [1], [0], [0, 2], [], [], w⟩ : DotDims ⟨2, ![N, I]⟩ ⟨3, ![K, I, O]⟩ ⟨3, ![N, K, O]⟩).lhsIdx (ix3 n k o)
      ((contrEquiv1 _ I rfl rfl).symm i) = ix2 n i := by
    funext a; apply Fin.ext
    match a with
    | ⟨0, _⟩ => simp [DotDims.lhsIdx]; rfl
    | ⟨1, _⟩ => simp [DotDims.lhsIdx]; exact hi
  have hr : (⟨[1], [1], [0], [0, 2], [], [], w⟩ : DotDims ⟨2, ![N, I]⟩ ⟨3, ![K, I, O]⟩ ⟨3, ![N, K, O]⟩).rhsIdx (ix3 n k o)
      ((contrEquiv1 _ I rfl rfl).symm i) = ix3 k i o := by
    funext a; apply Fin.ext
    match a with
    | ⟨0, _⟩ => simp [DotDims.rhsIdx]; rfl
    | ⟨1, _⟩ => simp [DotDims.rhsIdx]; exact hi
    | ⟨2, _⟩ => simp [DotDims.rhsIdx]; rfl
  rw [hl, hr]

/-- The sum over the middle axis, from zero. -/
theorem reduce_apply {A K O : ℕ} (x : FVec Ideal ⟨3, ![A, K, O]⟩ .f32)
    (h : (⟨3, ![A, K, O]⟩ : Shape).ReducesTo [1] ⟨2, ![A, O]⟩) (hu : 0 < (⟨0, ![]⟩ : Shape).numel) (a : Fin A) (o : Fin O) :
    Host.reduceAdd x (constant (F := Ideal) ⟨0, ![]⟩ .f32 0x00000000#32) h hu (ix2 a o) = ∑ k : Fin K, x (ix3 a k o) := by
  show Ideal.hostReduceAdd h x (constant (F := Ideal) ⟨0, ![]⟩ .f32 0x00000000#32 (Shape.Idx.first hu)) (ix2 a o) = _
  unfold Ideal.hostReduceAdd
  rw [Shape.ReducesTo.sum_fiber_r3_a1, constant_apply, Ideal.ofBits_zero_f32, zero_add]
  rfl

end Cert.Reads

end
-- ==== Proof.Spline.lean ====
/- Degree-one splines on a line and on a grid: the hat functions of all the knots against the two weights of the knots
   that surround a point. -/
module

public import Mathlib.Data.EReal.Operations
public import Mathlib.Algebra.BigOperators.Fin
public import Mathlib.Algebra.Order.BigOperators.Group.Finset
public import Mathlib.Tactic.Linarith
public import Mathlib.Tactic.Ring
public import Mathlib.Tactic.IntervalCases

@[expose] public section

noncomputable section

open scoped BigOperators

namespace Cert.Spline

/-- The hat function of knot `j` at the point `v`. -/
def hat (v : ℝ) (j : ℕ) : ℝ := max (1 - |v - j|) 0

/-- The knot a corner uses on an axis: the one at the integer part `n`, or the next one, held inside the five. -/
def knot (n c : ℕ) : ℕ := min 4 (n + c)

/-- The weight of that knot, of the fractional part `t`. -/
def weight (t : ℝ) (c : ℕ) : ℝ := if c = 0 then 1 - t else t

/-- A weight of a fractional part is not negative. -/
theorem weight_nonneg {t : ℝ} (h0 : 0 ≤ t) (h1 : t < 1) (c : ℕ) : 0 ≤ weight t c := by
  unfold weight; split <;> linarith

/-- Each of the five hat functions is what the two surrounding knots put on its own knot. -/
theorem hat_eq {v : ℝ} {n : ℕ} (hn : (n : ℝ) ≤ v) (hv : v < n + 1) (h4 : v ≤ 4) {j : ℕ} (hj : j < 5) :
    hat v j = (if knot n 0 = j then weight (v - n) 0 else 0) + (if knot n 1 = j then weight (v - n) 1 else 0) := by
  have hn4 : n ≤ 4 := by exact_mod_cast hn.trans h4
  unfold hat knot weight
  interval_cases n <;> interval_cases j <;> norm_num at hn hv ⊢ <;> simp only [max_def, abs_eq_max_neg] <;>
    split_ifs <;> linarith

/-- The control point a corner of the cell uses: its knots on the three axes, in one number. -/
def corner (n0 n1 n2 s : ℕ) : ℕ := knot n0 (s % 2) + 5 * knot n1 (s / 2 % 2) + 25 * knot n2 (s / 4 % 2)

/-- The weight of a corner: the product of its weights on the three axes. -/
def cornerWeight (t0 t1 t2 : ℝ) (s : ℕ) : ℝ := weight t0 (s % 2) * weight t1 (s / 2 % 2) * weight t2 (s / 4 % 2)

/-- A corner's weight is not negative. -/
theorem cornerWeight_nonneg {t0 t1 t2 : ℝ} (h0 : 0 ≤ t0) (h0' : t0 < 1) (h1 : 0 ≤ t1) (h1' : t1 < 1) (h2 : 0 ≤ t2) (h2' : t2 < 1)
    (s : ℕ) : 0 ≤ cornerWeight t0 t1 t2 s :=
  mul_nonneg (mul_nonneg (weight_nonneg h0 h0' _) (weight_nonneg h1 h1' _)) (weight_nonneg h2 h2' _)

/-- A knot is one of the five. -/
theorem knot_lt (n c : ℕ) : knot n c < 5 := by unfold knot; omega

/-- A corner is one of the control points. -/
theorem corner_lt (n0 n1 n2 s : ℕ) : corner n0 n1 n2 s < 125 := by
  have := knot_lt n0 (s % 2); have := knot_lt n1 (s / 2 % 2); have := knot_lt n2 (s / 4 % 2)
  unfold corner; omega

/-- A number below 125 is three digits below five in one way only. -/
theorem digits_iff {a b c x y z : ℕ} (ha : a < 5) (hb : b < 5) (hx : x < 5) (hy : y < 5) :
    a + 5 * b + 25 * c = x + 5 * y + 25 * z ↔ a = x ∧ b = y ∧ c = z := by omega

/-- What two places put on an axis, multiplied over three axes, is what the eight corners put on the grid. -/
theorem product_eq (p0 p1 q0 q1 r0 r1 : Prop) [Decidable p0] [Decidable p1] [Decidable q0] [Decidable q1] [Decidable r0]
    [Decidable r1] (a0 a1 b0 b1 c0 c1 : ℝ) :
    ((if r0 then c0 else 0) + (if r1 then c1 else 0)) * ((if q0 then b0 else 0) + (if q1 then b1 else 0))
        * ((if p0 then a0 else 0) + (if p1 then a1 else 0))
      = (if p0 ∧ q0 ∧ r0 then a0 * b0 * c0 else 0) + (if p1 ∧ q0 ∧ r0 then a1 * b0 * c0 else 0)
        + (if p0 ∧ q1 ∧ r0 then a0 * b1 * c0 else 0) + (if p1 ∧ q1 ∧ r0 then a1 * b1 * c0 else 0)
        + (if p0 ∧ q0 ∧ r1 then a0 * b0 * c1 else 0) + (if p1 ∧ q0 ∧ r1 then a1 * b0 * c1 else 0)
        + (if p0 ∧ q1 ∧ r1 then a0 * b1 * c1 else 0) + (if p1 ∧ q1 ∧ r1 then a1 * b1 * c1 else 0) := by
  simp only [ite_and]
  by_cases h1 : p0 <;> by_cases h2 : p1 <;> by_cases h3 : q0 <;> by_cases h4 : q1 <;> by_cases h5 : r0 <;> by_cases h6 : r1 <;>
    simp only [h1, h2, h3, h4, h5, h6, if_true, if_false] <;> ring

/-- The product of three hat functions at a knot of the grid is the total weight of the corners that use it. -/
theorem grid_eq {v0 v1 v2 : ℝ} {n0 n1 n2 : ℕ} (hn0 : (n0 : ℝ) ≤ v0) (hv0 : v0 < n0 + 1) (h40 : v0 ≤ 4)
    (hn1 : (n1 : ℝ) ≤ v1) (hv1 : v1 < n1 + 1) (h41 : v1 ≤ 4) (hn2 : (n2 : ℝ) ≤ v2) (hv2 : v2 < n2 + 1) (h42 : v2 ≤ 4)
    {j0 j1 j2 : ℕ} (hj0 : j0 < 5) (hj1 : j1 < 5) (hj2 : j2 < 5) :
    hat v2 j2 * hat v1 j1 * hat v0 j0
      = ∑ s : Fin 8, if corner n0 n1 n2 s.val = j0 + 5 * j1 + 25 * j2
          then cornerWeight (v0 - n0) (v1 - n1) (v2 - n2) s.val else 0 := by
  rw [hat_eq hn0 hv0 h40 hj0, hat_eq hn1 hv1 h41 hj1, hat_eq hn2 hv2 h42 hj2, product_eq]
  simp only [corner, digits_iff (knot_lt _ _) (knot_lt _ _) hj0 hj1]
  rw [Fin.sum_univ_eight]
  rfl

/-- A sum of real weights that are not negative multiplies an extended real term by term. -/
theorem sum_mul {n : ℕ} (b : Fin n → ℝ) (hb : ∀ s, 0 ≤ b s) (y : EReal) :
    ((∑ s, b s : ℝ) : EReal) * y = ∑ s, ((b s : ℝ) : EReal) * y := by
  induction n with
  | zero => simp
  | succ n ih =>
    rw [Fin.sum_univ_succ, Fin.sum_univ_succ, ← ih (fun s => b s.succ) (fun s => hb _), EReal.coe_add,
      EReal.right_distrib_of_nonneg (EReal.coe_nonneg.2 (hb _)) (EReal.coe_nonneg.2 (Finset.sum_nonneg fun s _ => hb _))]

/-- Summing over all the control points, each with the weight the corners put on it, is summing over the corners. -/
theorem sum_corners {K n : ℕ} (b : Fin n → ℝ) (hb : ∀ s, 0 ≤ b s) (p : Fin n → Fin K) (y : Fin K → EReal) :
    ∑ k, ((∑ s, if (p s).val = k.val then b s else 0 : ℝ) : EReal) * y k = ∑ s, ((b s : ℝ) : EReal) * y (p s) := by
  have h : ∀ k, ((∑ s, if (p s).val = k.val then b s else 0 : ℝ) : EReal) * y k
      = ∑ s, if p s = k then ((b s : ℝ) : EReal) * y k else 0 := fun k => by
    rw [sum_mul _ (fun s => by split; exacts [hb s, le_rfl])]
    refine Finset.sum_congr rfl fun s _ => ?_
    by_cases e : p s = k
    · rw [if_pos (congrArg Fin.val e), if_pos e]
    · rw [if_neg (fun h => e (Fin.ext h)), if_neg e, EReal.coe_zero, zero_mul]
  simp only [h]
  rw [Finset.sum_comm]
  refine Finset.sum_congr rfl fun s _ => ?_
  rw [Finset.sum_ite_eq]
  simp

end Cert.Spline

end
-- ==== Proof.Words.lean ====
/- The cell of a coordinate: its integer part as a number and as a word, its two knots, and the eight corners' control
   points as words. -/
module

public import proofs.«01_k».proof.Proof.Reads
public import proofs.«01_k».proof.Proof.Spline
public import proofs.«01_k».proof.Proof.Numbers
public import Mathlib.Algebra.Order.Floor.Semiring

@[expose] public section

noncomputable section

namespace Cert.Words

open Idealize.ShloMosaic Cert.Spline Cert.Reads

/-- The word of four. -/
theorem four : Ideal.ofBits .f32 0x40800000#32 = ((4 : ℝ) : EReal) := by
  simp [Ideal.ofBits, Ideal.ieee, -EReal.coe_mul]; norm_num

/-- The cell of a coordinate `x` of the unit interval: the integer part of four times it. -/
def cell (x : ℝ) : ℕ := ⌊x * 4⌋₊

/-- The cell is not above the scaled coordinate. -/
theorem cell_le {x : ℝ} (h0 : 0 ≤ x) : (cell x : ℝ) ≤ x * 4 := Nat.floor_le (by linarith)

/-- The scaled coordinate is below the next cell. -/
theorem lt_cell (x : ℝ) : x * 4 < cell x + 1 := Nat.lt_floor_add_one _

/-- The cell is at most four. -/
theorem cell_le_four {x : ℝ} (h0 : 0 ≤ x) (h1 : x ≤ 1) : cell x ≤ 4 := by
  have : (cell x : ℝ) ≤ 4 := (cell_le h0).trans (by linarith)
  exact_mod_cast this

/-- The integer part, taken in the extended reals, is the cell. -/
theorem floor_cell {x : ℝ} (h0 : 0 ≤ x) : Ideal.liftRound Int.floor ((x * 4 : ℝ) : EReal) = ((cell x : ℝ) : EReal) := by
  rw [Ideal.liftRound_coe, show ⌊x * 4⌋ = (cell x : ℤ) from (Int.natCast_floor_eq_floor (by linarith)).symm, Int.cast_natCast]

/-- The word of the cell. -/
theorem fptosi_cell {n : ℕ} (hn : n ≤ 4) : Ideal.fptosi 32 ((n : ℝ) : EReal) = BitVec.ofNat 32 n := by
  rw [Ideal.fptosi, Ideal.toIntClamped_coe, if_pos (Nat.cast_nonneg n), Int.floor_natCast]
  interval_cases n <;> rfl

/-- A cell plus a side, held between zero and four, is the word of the knot. -/
theorem knot_word {n : ℕ} (hn : n ≤ 4) {c : ℕ} (hc : c < 2) :
    IntOp.minsi 4#32 (IntOp.maxsi 0#32 (IntOp.addi (BitVec.ofNat 32 n) (BitVec.ofNat 32 c))) = BitVec.ofNat 32 (knot n c) := by
  interval_cases n <;> interval_cases c <;> rfl

/-- The three knots in one word are the word of the corner's control point. -/
theorem corner_word (a b c : ℕ) :
    IntOp.addi (IntOp.addi (IntOp.addi 0#32 (IntOp.muli (BitVec.ofNat 32 a) 1#32)) (IntOp.muli (BitVec.ofNat 32 b) 5#32))
      (IntOp.muli (BitVec.ofNat 32 c) 25#32) = BitVec.ofNat 32 (a + 5 * b + 25 * c) := by
  show 0#32 + BitVec.ofNat 32 a * BitVec.ofNat 32 1 + BitVec.ofNat 32 b * BitVec.ofNat 32 5
    + BitVec.ofNat 32 c * BitVec.ofNat 32 25 = _
  rw [BitVec.zero_add, ← BitVec.ofNat_mul, ← BitVec.ofNat_mul, ← BitVec.ofNat_mul, ← BitVec.ofNat_add, ← BitVec.ofNat_add]
  congr 1; ring

/-- A number below a table's size, read back from its word, names its own row. -/
theorem row_ofNat {n m : ℕ} (hn : 0 < n) (hm : m < n) (hb : n < 2 ^ 31) : row n hn (BitVec.ofNat 32 m) = ⟨m, hm⟩ := by
  have h : (BitVec.ofNat 32 m).toInt = (m : ℤ) := by
    rw [BitVec.toInt_ofNat', Int.bmod_def]; omega
  refine Fin.ext ?_
  show min (BitVec.ofNat 32 m).toInt.toNat (n - 1) = m
  rw [h]; omega

/-- The word of a number below `2 ^ 31` is not negative. -/
theorem not_neg {m : ℕ} (hm : m < 2 ^ 31) : IntOp.cmpi .slt (BitVec.ofNat 32 m) 0#32 = 0#1 := by
  have h : (BitVec.ofNat 32 m).toInt = (m : ℤ) := by
    rw [BitVec.toInt_ofNat', Int.bmod_def]; omega
  show BitVec.ofBool ((BitVec.ofNat 32 m).slt 0#32) = 0#1
  have : (BitVec.ofNat 32 m).slt 0#32 = false := by
    rw [BitVec.slt_eq_decide, h]; simp
  rw [this]; rfl

/-- The hat function in the extended reals is the real one. -/
theorem hat_coe (x : ℝ) {j : ℕ} (hj : j < 5) :
    max (1 - FloatOps.absf (F := Ideal) (φ := .f32) (((x : ℝ) : EReal) * Ideal.ofBits .f32 1082130432#32
      - FloatOps.sitofp (F := Ideal) .f32 (BitVec.ofNat 32 j))) (0 : EReal) = ((hat (x * 4) j : ℝ) : EReal) := by
  have hs : FloatOps.sitofp (F := Ideal) .f32 (BitVec.ofNat 32 j) = ((j : ℝ) : EReal) := by
    show (((BitVec.ofNat 32 j).toInt : ℝ) : EReal) = _
    rw [show (BitVec.ofNat 32 j).toInt = (j : ℤ) by rw [BitVec.toInt_ofNat', Int.bmod_def]; omega, Int.cast_natCast]
  have hm : ∀ a b : ℝ, max (a : EReal) (b : EReal) = ((max a b : ℝ) : EReal) := fun a b =>
    (EReal.coe_strictMono.monotone.map_max).symm
  rw [hs, four, ← EReal.coe_mul, ← EReal.coe_sub]
  show max (1 - max ((x * 4 - j : ℝ) : EReal) (-((x * 4 - j : ℝ) : EReal))) 0 = _
  rw [← EReal.coe_neg, hm, ← EReal.coe_one, ← EReal.coe_sub, ← EReal.coe_zero, hm]
  rfl

end Cert.Words

end
-- ==== Proof.Basis.lean ====
/- The basis of the two programs on coordinates of the unit interval: the eight weights and the eight control points of
   the reference, and the weights of all the control points by the hat functions. -/
module

public import proofs.«01_k».proof.Proof.Words
public import proofs.«01_k».proof.Proof.Gen.ReferenceIdeal.Run
public import proofs.«01_k».proof.Proof.Gen.SplinesIdeal.Run
public import Idealize.ShloMosaic.Lib.Pointwise

@[expose] public section

noncomputable section

open scoped BigOperators

namespace Cert.Basis

open Idealize.ShloMosaic Idealize.ShloMosaic.TcCoe Idealize.ShloMosaic.StableHlo Cert.Spline Cert.Words

/-- An array of coordinates holds the real numbers `x`, all of the unit interval. -/
structure InBox (a : FVec Ideal ⟨2, ![160000, 3]⟩ .f32) (x : Fin 160000 → Fin 3 → ℝ) : Prop where
  eq : ∀ e d, a (ix2 e d) = ((x e d : ℝ) : EReal)
  nonneg : ∀ e d, 0 ≤ x e d
  le_one : ∀ e d, x e d ≤ 1

/-- The part of a coordinate beyond its cell. -/
abbrev part (x : ℝ) : ℝ := x * 4 - cell x

/-- The control point of corner `s` of edge `e`. -/
abbrev point (x : Fin 160000 → Fin 3 → ℝ) (e : Fin 160000) (s : ℕ) : ℕ := corner (cell (x e 0)) (cell (x e 1)) (cell (x e 2)) s

/-- The weight of corner `s` of edge `e`. -/
abbrev share (x : Fin 160000 → Fin 3 → ℝ) (e : Fin 160000) (s : ℕ) : ℝ :=
  cornerWeight (part (x e 0)) (part (x e 1)) (part (x e 2)) s

variable {x : Fin 160000 → Fin 3 → ℝ}

/-- A corner's weight is not negative. -/
theorem share_nonneg {a : FVec Ideal ⟨2, ![160000, 3]⟩ .f32} (h : InBox a x) (e : Fin 160000) (s : ℕ) : 0 ≤ share x e s := by
  have h0 := fun d => cell_le (h.nonneg e d)
  have h1 := fun d => lt_cell (x e d)
  exact cornerWeight_nonneg (by linarith [h0 0]) (by linarith [h1 0]) (by linarith [h0 1]) (by linarith [h1 1])
    (by linarith [h0 2]) (by linarith [h1 2]) s

section Reference
open Cert.ReferenceIdeal Cert.ReferenceIdeal.Value
variable (V : Valuation τ sig (Elt Ideal))

/-- The reference's parts. -/
theorem part_eq (h : InBox (V (Proc.devRef .tc main_arg2)) x) (e : Fin 160000) (d : Fin 3) :
    (res_main_v7 V : FVec Ideal S160000x3 .f32) (ix2 e d) = ((part (x e d) : ℝ) : EReal) := by
  unfold res_main_v7 res_main_v6 res_main_v5
  pointwise
  have hx := h.eq e d
  rw [hx, four, ← EReal.coe_mul, floor_cell (h.nonneg e d), ← EReal.coe_sub]

/-- The reference's cells. -/
theorem cell_eq (h : InBox (V (Proc.devRef .tc main_arg2)) x) (e : Fin 160000) (d : Fin 3) :
    (res_main_v8 V : IVec S160000x3 32) (ix2 e d) = BitVec.ofNat 32 (cell (x e d)) := by
  unfold res_main_v8 res_main_v6 res_main_v5
  pointwise
  have hx := h.eq e d
  rw [hx, four, ← EReal.coe_mul, floor_cell (h.nonneg e d)]
  exact fptosi_cell (cell_le_four (h.nonneg e d) (h.le_one e d))

/-- The reference's eight weights. -/
theorem share_eq (h : InBox (V (Proc.devRef .tc main_arg2)) x) (e : Fin 160000) (s : Fin 8) :
    (res_main_v321 V : FVec Ideal S160000x8 .f32) (ix2 e s) = ((share x e s.val : ℝ) : EReal) := by
  have h0 := part_eq V h e 0
  have h1 := part_eq V h e 1
  have h2 := part_eq V h e 2
  unfold res_main_v321
  fin_cases s <;> pointwise <;> rw [h0, h1, h2] <;>
    simp only [← EReal.coe_one, ← EReal.coe_sub, ← EReal.coe_mul] <;>
    refine congrArg _ ?_ <;> simp [share, cornerWeight, weight]

/-- The reference's eight control points. -/
theorem point_eq (h : InBox (V (Proc.devRef .tc main_arg2)) x) (e : Fin 160000) (s : Fin 8) :
    (res_main_v330 V : IVec S160000x8 32) (ix2 e s) = BitVec.ofNat 32 (point x e s.val) := by
  have h0 := cell_eq V h e 0
  have h1 := cell_eq V h e 1
  have h2 := cell_eq V h e 2
  have k0 : ∀ c, c < 2 → _ := fun c => knot_word (cell_le_four (h.nonneg e 0) (h.le_one e 0)) (c := c)
  have k1 : ∀ c, c < 2 → _ := fun c => knot_word (cell_le_four (h.nonneg e 1) (h.le_one e 1)) (c := c)
  have k2 : ∀ c, c < 2 → _ := fun c => knot_word (cell_le_four (h.nonneg e 2) (h.le_one e 2)) (c := c)
  have hw : ∀ s : ℕ, BitVec.ofNat 32 (point x e s) = _ := fun s =>
    (corner_word (knot (cell (x e 0)) (s % 2)) (knot (cell (x e 1)) (s / 2 % 2)) (knot (cell (x e 2)) (s / 4 % 2))).symm
  rw [hw, ← k0 _ (Nat.mod_lt _ (by decide)), ← k1 _ (Nat.mod_lt _ (by decide)), ← k2 _ (Nat.mod_lt _ (by decide)),
    ← h0, ← h1, ← h2]
  unfold res_main_v330
  fin_cases s <;> pointwise <;> rfl

end Reference

section Splines
open Cert.SplinesIdeal Cert.SplinesIdeal.Value
variable (V : Valuation τ sig (Elt Ideal))

/-- The weight the hat functions give a control point is the total weight of the corners that use it. -/
theorem hats_eq (h : InBox (V (Proc.devRef .tc main_arg2)) x) (e : Fin 160000) (k : Fin 125) :
    (res_main_v33 V : FVec Ideal S160000x125 .f32) (ix2 e k)
      = ((∑ s : Fin 8, if point x e s.val = k.val then share x e s.val else 0 : ℝ) : EReal) := by
  have h0 := h.eq e 0
  have h1 := h.eq e 1
  have h2 := h.eq e 2
  unfold res_main_v33
  pointwise
  unfold res_main_v17
  pointwise
  rw [h0, h1, h2, hat_coe _ (by omega), hat_coe _ (by omega), hat_coe _ (by omega), ← EReal.coe_mul, ← EReal.coe_mul,
    grid_eq (cell_le (h.nonneg e 0)) (lt_cell _) (by linarith [h.le_one e 0]) (cell_le (h.nonneg e 1)) (lt_cell _)
      (by linarith [h.le_one e 1]) (cell_le (h.nonneg e 2)) (lt_cell _) (by linarith [h.le_one e 2])
      (by omega) (by omega) (by omega)]
  rw [show k.val % 5 + 5 * (k.val / 5 % 5) + 25 * (k.val / 25) = k.val by omega]

end Splines

end Cert.Basis

end
-- ==== Proof.Message.lean ====
/- The messages of a layer: the eight surrounding control points' products, against the products of all the control
   points, each weighted by what the eight put on it. -/
module

public import proofs.«01_k».proof.Proof.Reads
public import proofs.«01_k».proof.Proof.Spline

@[expose] public section

noncomputable section

open scoped BigOperators

namespace Cert.Message

open Idealize.ShloMosaic Cert.Reads
open Idealize.ShloMosaic.ValueIdx (mulf_apply)

/-- Looking up the products of all the rows and all the control points at the corners, weighting and summing over the
    corners, is multiplying the looked-up rows with every control point and summing those, each with its total weight. -/
theorem message_eq {N I O E K S : ℕ} (hN : 0 < N) (hK : 0 < K)
    (w₁ : DotDims.WF ⟨2, ![N, I]⟩ ⟨3, ![K, I, O]⟩ ⟨3, ![N, K, O]⟩ [1] [1] [0] [0, 2] [] [])
    (w₂ : GatherDims.WF ⟨3, ![N, K, O]⟩ ⟨3, ![E, S, 2]⟩ ⟨3, ![E, S, O]⟩ [2] [0, 1] [] [0, 1] [] 2 ![1, 1, O])
    (w₃ : GatherDims.WF ⟨2, ![N, I]⟩ ⟨2, ![E, 1]⟩ ⟨2, ![E, I]⟩ [1] [0] [] [0] [] 1 ![1, I])
    (w₄ : DotDims.WF ⟨2, ![E, I]⟩ ⟨3, ![K, I, O]⟩ ⟨3, ![E, K, O]⟩ [1] [1] [0] [0, 2] [] [])
    (r₁ : (⟨3, ![E, S, O]⟩ : Shape).ReducesTo [1] ⟨2, ![E, O]⟩) (u₁ : 0 < (⟨0, ![]⟩ : Shape).numel)
    (r₂ : (⟨3, ![E, K, O]⟩ : Shape).ReducesTo [1] ⟨2, ![E, O]⟩) (u₂ : 0 < (⟨0, ![]⟩ : Shape).numel)
    (h : FVec Ideal ⟨2, ![N, I]⟩ .f32) (W : FVec Ideal ⟨3, ![K, I, O]⟩ .f32)
    (β : FVec Ideal ⟨3, ![E, S, O]⟩ .f32) (B : FVec Ideal ⟨3, ![E, K, O]⟩ .f32)
    (idx : IVec ⟨3, ![E, S, 2]⟩ 32) (src : IVec ⟨2, ![E, 1]⟩ 32)
    (b : Fin E → Fin S → ℝ) (hb : ∀ e s, 0 ≤ b e s) (p : Fin E → Fin S → Fin K)
    (hβ : ∀ e s o, β (ix3 e s o) = ((b e s : ℝ) : EReal))
    (hB : ∀ e (k : Fin K) o, B (ix3 e k o) = ((∑ s, if (p e s).val = k.val then b e s else 0 : ℝ) : EReal))
    (hrow : ∀ e s, row N hN (idx (ix3 e s 0)) = row N hN (src (ix2 e 0)))
    (hcol : ∀ e s, row K hK (idx (ix3 e s 1)) = p e s) :
    Host.reduceAdd (mulf β (Host.gather (⟨[2], [0, 1], [], [], [0, 1], 2, ![1, 1, O], w₂⟩ : GatherDims _ _ _)
        (Host.dotGeneral (⟨[1], [1], [0], [0, 2], [], [], w₁⟩ : DotDims _ _ _) none h W) idx))
        (constant (F := Ideal) ⟨0, ![]⟩ .f32 0x00000000#32) r₁ u₁
      = Host.reduceAdd (mulf B (Host.dotGeneral (⟨[1], [1], [0], [0, 2], [], [], w₄⟩ : DotDims _ _ _) none
          (Host.gather (⟨[1], [0], [], [], [0], 1, ![1, I], w₃⟩ : GatherDims _ _ _) h src) W))
        (constant (F := Ideal) ⟨0, ![]⟩ .f32 0x00000000#32) r₂ u₂ := by
  funext j
  obtain ⟨e, o, rfl⟩ : ∃ e o, j = ix2 e o := ⟨j 0, j 1, ValueIdx.eq_ix2 j⟩
  rw [reduce_apply, reduce_apply]
  have hl : ∀ s, mulf β (Host.gather (⟨[2], [0, 1], [], [], [0, 1], 2, ![1, 1, O], w₂⟩ : GatherDims _ _ _)
        (Host.dotGeneral (⟨[1], [1], [0], [0, 2], [], [], w₁⟩ : DotDims _ _ _) none h W) idx) (ix3 e s o)
      = ((b e s : ℝ) : EReal) * ∑ i : Fin I, h (ix2 (row N hN (src (ix2 e 0))) i) * W (ix3 (p e s) i o) := fun s => by
    rw [mulf_apply, hβ, gather_pair hN hK, hrow, hcol, dot_apply]
  have hr : ∀ k : Fin K, mulf B (Host.dotGeneral (⟨[1], [1], [0], [0, 2], [], [], w₄⟩ : DotDims _ _ _) none
        (Host.gather (⟨[1], [0], [], [], [0], 1, ![1, I], w₃⟩ : GatherDims _ _ _) h src) W) (ix3 e k o)
      = ((∑ s, if (p e s).val = k.val then b e s else 0 : ℝ) : EReal)
        * ∑ i : Fin I, h (ix2 (row N hN (src (ix2 e 0))) i) * W (ix3 k i o) := fun k => by
    rw [mulf_apply, hB, dot_apply]
    refine congrArg _ (Finset.sum_congr rfl fun i _ => ?_)
    rw [gather_row hN]
  simp only [hl, hr]
  exact (Cert.Spline.sum_corners (b e) (hb e) (p e)
    (fun k => ∑ i : Fin I, h (ix2 (row N hN (src (ix2 e 0))) i) * W (ix3 k i o))).symm

end Cert.Message

end
-- ==== Proof.Layers.lean ====
/- The five layers: on equal inputs and coordinates of the unit interval the reference and the sum over all the control
   points give equal outputs, layer by layer. -/
module

public import proofs.«01_k».proof.Proof.Basis
public import proofs.«01_k».proof.Proof.Message

@[expose] public section

noncomputable section

open scoped BigOperators

namespace Cert.Layers

open Idealize.ShloMosaic Idealize.ShloMosaic.TcCoe Idealize.ShloMosaic.StableHlo Cert.Spline Cert.Words Cert.Reads Cert.Basis

/-- The reference's arrays. -/
abbrev RefVal : Type := Valuation Cert.ReferenceIdeal.τ Cert.ReferenceIdeal.sig (Elt Ideal)

/-- The arrays of the sum over all the control points. -/
abbrev SplVal : Type := Valuation Cert.SplinesIdeal.τ Cert.SplinesIdeal.sig (Elt Ideal)

section Words
open Cert.ReferenceIdeal Cert.ReferenceIdeal.Gen Cert.ReferenceIdeal.Value

/-- The row and control point words of the reference's lookups: the edge's source and the corner's control point, each
    with a negative word counted from the end. -/
def words (V : RefVal) : IVec S160000x8x2 32 :=
  concatenate S160000x8x2 2 [⟨S160000x8x1, (broadcastInDim S160000x8x1 ![0, 1] bcast_S160000x8_S160000x8x1_0_1
      (broadcastInDim S160000x8 ![0, 1] bcast_S160000x1_S160000x8_0_1
        (select (cmpi .slt (res_main_v341 V) (broadcastInDim S160000x1 ![] bcast_S_S160000x1 (constantI S_ 32 0#32)))
          (addi (res_main_v341 V) (broadcastInDim S160000x1 ![] bcast_S_S160000x1 (constantI S_ 32 10000#32))) (res_main_v341 V))))⟩,
    ⟨S160000x8x1, (broadcastInDim S160000x8x1 ![0, 1] bcast_S160000x8_S160000x8x1_0_1
      (select (cmpi .slt (res_main_v330 V) (broadcastInDim S160000x8 ![] bcast_S_S160000x8 (constantI S_ 32 0#32)))
        (addi (res_main_v330 V) (broadcastInDim S160000x8 ![] bcast_S_S160000x8 (constantI S_ 32 125#32))) (res_main_v330 V)))⟩]
    concatenates_S160000x8x1_S160000x8x1_S160000x8x2_d2

/-- A corner's control point word names its own control point. -/
theorem words_point (V : RefVal) {x : Fin 160000 → Fin 3 → ℝ} (h : InBox (V (Proc.devRef .tc main_arg2)) x) (e : Fin 160000)
    (s : Fin 8) : row 125 (by decide) (words V (ix3 e s 1)) = ⟨point x e s.val, corner_lt _ _ _ _⟩ := by
  have hp := point_eq V h e s
  have hw : words V (ix3 e s 1) = BitVec.ofNat 32 (point x e s.val) := by
    unfold words
    pointwise
    rw [hp, not_neg ((corner_lt _ _ _ _).trans (by decide))]
    rfl
  rw [hw]
  exact row_ofNat _ _ (by decide)

end Words

section Sources
open Cert.SplinesIdeal Cert.SplinesIdeal.Gen Cert.SplinesIdeal.Value

/-- The row words of the lookups of the sum over all the control points. -/
def sources (V : SplVal) : IVec S160000x1 32 :=
  broadcastInDim S160000x1 ![0] bcast_S160000_S160000x1_0
    (select (cmpi .slt (res_main_v1 V) (broadcastInDim S160000 ![] bcast_S_S160000 (constantI S_ 32 0#32)))
      (addi (res_main_v1 V) (broadcastInDim S160000 ![] bcast_S_S160000 (constantI S_ 32 10000#32))) (res_main_v1 V))

end Sources

/-- The two programs look up the same rows. -/
theorem words_row (V : RefVal) (V' : SplVal)
    (h : (Cert.ReferenceIdeal.Value.res_main_v1 V : IVec ⟨1, ![160000]⟩ 32) = Cert.SplinesIdeal.Value.res_main_v1 V')
    (e : Fin 160000) (s : Fin 8) : words V (ix3 e s 0) = sources V' (ix2 e 0) := by
  have he := congrFun h (ix1 e)
  unfold words sources Cert.ReferenceIdeal.Value.res_main_v341
  pointwise
  rw [he]

/-- The last step of a layer keeps equal messages, root products and biases. -/
theorem layer_congr {s si u : Shape} (d : ScatterDims s si u) (z : FVec Ideal s .f32) (i : IVec si 32)
    {m m' : FVec Ideal u .f32} (hm : m = m') (r b : FVec Ideal s .f32) :
    addf (addf (Host.scatterAdd d z i m) r) b = addf (addf (Host.scatterAdd d z i m') r) b := by rw [hm]

/-- The arguments agree, and the coordinates are of the unit interval. -/
structure Same (V : RefVal) (V' : SplVal) (x : Fin 160000 → Fin 3 → ℝ) : Prop where
  box : InBox (V (Proc.devRef .tc Cert.ReferenceIdeal.main_arg2)) x
  arg0 : (V (Proc.devRef .tc Cert.ReferenceIdeal.main_arg0) : FVec Ideal ⟨2, ![10000, 1]⟩ .f32) = V' (Proc.devRef .tc Cert.SplinesIdeal.main_arg0)
  arg1 : (V (Proc.devRef .tc Cert.ReferenceIdeal.main_arg1) : IVec ⟨2, ![2, 160000]⟩ 32) = V' (Proc.devRef .tc Cert.SplinesIdeal.main_arg1)
  arg2 : (V (Proc.devRef .tc Cert.ReferenceIdeal.main_arg2) : FVec Ideal ⟨2, ![160000, 3]⟩ .f32) = V' (Proc.devRef .tc Cert.SplinesIdeal.main_arg2)
  arg3 : (V (Proc.devRef .tc Cert.ReferenceIdeal.main_arg3) : FVec Ideal ⟨3, ![125, 1, 8]⟩ .f32) = V' (Proc.devRef .tc Cert.SplinesIdeal.main_arg3)
  arg4 : (V (Proc.devRef .tc Cert.ReferenceIdeal.main_arg4) : FVec Ideal ⟨2, ![1, 8]⟩ .f32) = V' (Proc.devRef .tc Cert.SplinesIdeal.main_arg4)
  arg5 : (V (Proc.devRef .tc Cert.ReferenceIdeal.main_arg5) : FVec Ideal ⟨1, ![8]⟩ .f32) = V' (Proc.devRef .tc Cert.SplinesIdeal.main_arg5)
  arg6 : (V (Proc.devRef .tc Cert.ReferenceIdeal.main_arg6) : FVec Ideal ⟨3, ![125, 8, 16]⟩ .f32) = V' (Proc.devRef .tc Cert.SplinesIdeal.main_arg6)
  arg7 : (V (Proc.devRef .tc Cert.ReferenceIdeal.main_arg7) : FVec Ideal ⟨2, ![8, 16]⟩ .f32) = V' (Proc.devRef .tc Cert.SplinesIdeal.main_arg7)
  arg8 : (V (Proc.devRef .tc Cert.ReferenceIdeal.main_arg8) : FVec Ideal ⟨1, ![16]⟩ .f32) = V' (Proc.devRef .tc Cert.SplinesIdeal.main_arg8)
  arg9 : (V (Proc.devRef .tc Cert.ReferenceIdeal.main_arg9) : FVec Ideal ⟨3, ![125, 16, 16]⟩ .f32) = V' (Proc.devRef .tc Cert.SplinesIdeal.main_arg9)
  arg10 : (V (Proc.devRef .tc Cert.ReferenceIdeal.main_arg10) : FVec Ideal ⟨2, ![16, 16]⟩ .f32) = V' (Proc.devRef .tc Cert.SplinesIdeal.main_arg10)
  arg11 : (V (Proc.devRef .tc Cert.ReferenceIdeal.main_arg11) : FVec Ideal ⟨1, ![16]⟩ .f32) = V' (Proc.devRef .tc Cert.SplinesIdeal.main_arg11)
  arg12 : (V (Proc.devRef .tc Cert.ReferenceIdeal.main_arg12) : FVec Ideal ⟨3, ![125, 16, 8]⟩ .f32) = V' (Proc.devRef .tc Cert.SplinesIdeal.main_arg12)
  arg13 : (V (Proc.devRef .tc Cert.ReferenceIdeal.main_arg13) : FVec Ideal ⟨2, ![16, 8]⟩ .f32) = V' (Proc.devRef .tc Cert.SplinesIdeal.main_arg13)
  arg14 : (V (Proc.devRef .tc Cert.ReferenceIdeal.main_arg14) : FVec Ideal ⟨1, ![8]⟩ .f32) = V' (Proc.devRef .tc Cert.SplinesIdeal.main_arg14)
  arg15 : (V (Proc.devRef .tc Cert.ReferenceIdeal.main_arg15) : FVec Ideal ⟨3, ![125, 8, 1]⟩ .f32) = V' (Proc.devRef .tc Cert.SplinesIdeal.main_arg15)
  arg16 : (V (Proc.devRef .tc Cert.ReferenceIdeal.main_arg16) : FVec Ideal ⟨2, ![8, 1]⟩ .f32) = V' (Proc.devRef .tc Cert.SplinesIdeal.main_arg16)
  arg17 : (V (Proc.devRef .tc Cert.ReferenceIdeal.main_arg17) : FVec Ideal ⟨1, ![1]⟩ .f32) = V' (Proc.devRef .tc Cert.SplinesIdeal.main_arg17)

variable {V : RefVal} {V' : SplVal} {x : Fin 160000 → Fin 3 → ℝ}

/-- The edges' source nodes. -/
theorem source (h : Same V V' x) :
    (Cert.ReferenceIdeal.Value.res_main_v1 V : IVec ⟨1, ![160000]⟩ 32) = Cert.SplinesIdeal.Value.res_main_v1 V' := by
  unfold Cert.ReferenceIdeal.Value.res_main_v1 Cert.SplinesIdeal.Value.res_main_v1
  rw [h.arg1]; rfl

/-- The edges' target nodes. -/
theorem target (h : Same V V' x) :
    (Cert.ReferenceIdeal.Value.res_main_v3 V : IVec ⟨1, ![160000]⟩ 32) = Cert.SplinesIdeal.Value.res_main_v3 V' := by
  unfold Cert.ReferenceIdeal.Value.res_main_v3 Cert.SplinesIdeal.Value.res_main_v3
  rw [h.arg1]; rfl

/-- The coordinates of the second program are the first one's. -/
theorem box' (h : Same V V' x) : InBox (V' (Proc.devRef .tc Cert.SplinesIdeal.main_arg2)) x :=
  (h.arg2 : _ = _) ▸ h.box

/-- The clamped node features. -/
theorem input (h : Same V V' x) :
    (Cert.ReferenceIdeal.Value.res_main_v339 V : FVec Ideal ⟨2, ![10000, 1]⟩ .f32) = Cert.SplinesIdeal.Value.res_main_v42 V' := by
  unfold Cert.ReferenceIdeal.Value.res_main_v339 Cert.SplinesIdeal.Value.res_main_v42
  rw [h.arg0]

/-- The first layer, before its activation. -/
theorem first (h : Same V V' x) :
    (Cert.ReferenceIdeal.Value.res_main_v368 V : FVec Ideal ⟨2, ![10000, 8]⟩ .f32) = Cert.SplinesIdeal.Value.res_main_v62 V' := by
  have hi := input h
  have ht := target h
  have ha := h.arg3
  have hr := h.arg4
  have hb := h.arg5
  unfold Cert.ReferenceIdeal.Value.res_main_v368 Cert.SplinesIdeal.Value.res_main_v62
  rw [hi, ht, ha, hr, hb]
  exact layer_congr _ _ _ (Cert.Message.message_eq (by decide) (by decide) _ _ _ _ _ _ _ _ _ _ _ _ (words V) (sources V')
    (fun e s => share x e s.val) (fun e s => share_nonneg h.box e s.val) (fun e s => ⟨point x e s.val, corner_lt _ _ _ _⟩)
    (by intro e s o; have hs := share_eq V h.box e s; pointwise; exact hs)
    (by intro e k o; have hs := hats_eq V' (box' h) e k; pointwise; exact hs)
    (fun e s => congrArg _ (words_row V V' (source h) e s)) (fun e s => words_point V h.box e s)) _ _

/-- The first layer. -/
theorem first_out (h : Same V V' x) :
    (Cert.ReferenceIdeal.Value.res_main_v369 V : FVec Ideal ⟨2, ![10000, 8]⟩ .f32) = Cert.SplinesIdeal.Value.res_main_v63 V' := by
  unfold Cert.ReferenceIdeal.Value.res_main_v369 Cert.SplinesIdeal.Value.res_main_v63
  rw [first h]

/-- The second layer, before its activation. -/
theorem second (h : Same V V' x) :
    (Cert.ReferenceIdeal.Value.res_main_v398 V : FVec Ideal ⟨2, ![10000, 16]⟩ .f32) = Cert.SplinesIdeal.Value.res_main_v83 V' := by
  have hi := first_out h
  have ht := target h
  have ha := h.arg6
  have hr := h.arg7
  have hb := h.arg8
  unfold Cert.ReferenceIdeal.Value.res_main_v398 Cert.SplinesIdeal.Value.res_main_v83
  rw [hi, ht, ha, hr, hb]
  exact layer_congr _ _ _ (Cert.Message.message_eq (by decide) (by decide) _ _ _ _ _ _ _ _ _ _ _ _ (words V) (sources V')
    (fun e s => share x e s.val) (fun e s => share_nonneg h.box e s.val) (fun e s => ⟨point x e s.val, corner_lt _ _ _ _⟩)
    (by intro e s o; have hs := share_eq V h.box e s; pointwise; exact hs)
    (by intro e k o; have hs := hats_eq V' (box' h) e k; pointwise; exact hs)
    (fun e s => congrArg _ (words_row V V' (source h) e s)) (fun e s => words_point V h.box e s)) _ _

/-- The second layer. -/
theorem second_out (h : Same V V' x) :
    (Cert.ReferenceIdeal.Value.res_main_v399 V : FVec Ideal ⟨2, ![10000, 16]⟩ .f32) = Cert.SplinesIdeal.Value.res_main_v84 V' := by
  unfold Cert.ReferenceIdeal.Value.res_main_v399 Cert.SplinesIdeal.Value.res_main_v84
  rw [second h]

/-- The third layer, before its activation. -/
theorem third (h : Same V V' x) :
    (Cert.ReferenceIdeal.Value.res_main_v428 V : FVec Ideal ⟨2, ![10000, 16]⟩ .f32) = Cert.SplinesIdeal.Value.res_main_v104 V' := by
  have hi := second_out h
  have ht := target h
  have ha := h.arg9
  have hr := h.arg10
  have hb := h.arg11
  unfold Cert.ReferenceIdeal.Value.res_main_v428 Cert.SplinesIdeal.Value.res_main_v104
  rw [hi, ht, ha, hr, hb]
  exact layer_congr _ _ _ (Cert.Message.message_eq (by decide) (by decide) _ _ _ _ _ _ _ _ _ _ _ _ (words V) (sources V')
    (fun e s => share x e s.val) (fun e s => share_nonneg h.box e s.val) (fun e s => ⟨point x e s.val, corner_lt _ _ _ _⟩)
    (by intro e s o; have hs := share_eq V h.box e s; pointwise; exact hs)
    (by intro e k o; have hs := hats_eq V' (box' h) e k; pointwise; exact hs)
    (fun e s => congrArg _ (words_row V V' (source h) e s)) (fun e s => words_point V h.box e s)) _ _

/-- The third layer. -/
theorem third_out (h : Same V V' x) :
    (Cert.ReferenceIdeal.Value.res_main_v429 V : FVec Ideal ⟨2, ![10000, 16]⟩ .f32) = Cert.SplinesIdeal.Value.res_main_v105 V' := by
  unfold Cert.ReferenceIdeal.Value.res_main_v429 Cert.SplinesIdeal.Value.res_main_v105
  rw [third h]

/-- The fourth layer, before its activation. -/
theorem fourth (h : Same V V' x) :
    (Cert.ReferenceIdeal.Value.res_main_v458 V : FVec Ideal ⟨2, ![10000, 8]⟩ .f32) = Cert.SplinesIdeal.Value.res_main_v125 V' := by
  have hi := third_out h
  have ht := target h
  have ha := h.arg12
  have hr := h.arg13
  have hb := h.arg14
  unfold Cert.ReferenceIdeal.Value.res_main_v458 Cert.SplinesIdeal.Value.res_main_v125
  rw [hi, ht, ha, hr, hb]
  exact layer_congr _ _ _ (Cert.Message.message_eq (by decide) (by decide) _ _ _ _ _ _ _ _ _ _ _ _ (words V) (sources V')
    (fun e s => share x e s.val) (fun e s => share_nonneg h.box e s.val) (fun e s => ⟨point x e s.val, corner_lt _ _ _ _⟩)
    (by intro e s o; have hs := share_eq V h.box e s; pointwise; exact hs)
    (by intro e k o; have hs := hats_eq V' (box' h) e k; pointwise; exact hs)
    (fun e s => congrArg _ (words_row V V' (source h) e s)) (fun e s => words_point V h.box e s)) _ _

/-- The fourth layer. -/
theorem fourth_out (h : Same V V' x) :
    (Cert.ReferenceIdeal.Value.res_main_v459 V : FVec Ideal ⟨2, ![10000, 8]⟩ .f32) = Cert.SplinesIdeal.Value.res_main_v126 V' := by
  unfold Cert.ReferenceIdeal.Value.res_main_v459 Cert.SplinesIdeal.Value.res_main_v126
  rw [fourth h]

/-- The fifth layer, before its activation. -/
theorem fifth (h : Same V V' x) :
    (Cert.ReferenceIdeal.Value.res_main_v487 V : FVec Ideal ⟨2, ![10000, 1]⟩ .f32) = Cert.SplinesIdeal.Value.res_main_v145 V' := by
  have hi := fourth_out h
  have ht := target h
  have ha := h.arg15
  have hr := h.arg16
  have hb := h.arg17
  unfold Cert.ReferenceIdeal.Value.res_main_v487 Cert.SplinesIdeal.Value.res_main_v145
  rw [hi, ht, ha, hr, hb]
  exact layer_congr _ _ _ (Cert.Message.message_eq (by decide) (by decide) _ _ _ _ _ _ _ _ _ _ _ _ (words V) (sources V')
    (fun e s => share x e s.val) (fun e s => share_nonneg h.box e s.val) (fun e s => ⟨point x e s.val, corner_lt _ _ _ _⟩)
    (by intro e s o; have hs := share_eq V h.box e s; pointwise; exact hs)
    (by intro e k o; have hs := hats_eq V' (box' h) e k; pointwise; exact hs)
    (fun e s => congrArg _ (words_row V V' (source h) e s)) (fun e s => words_point V h.box e s)) _ _

end Cert.Layers

end
-- ==== Proof.Box.lean ====
/- The precondition read: where every coordinate compares at least nought and at most one, the coordinates are real
   numbers of the unit interval. -/
module

public import proofs.«01_k».proof.Pre_unit_box
public import proofs.«01_k».proof.Proof.Basis

@[expose] public section

noncomputable section

namespace Cert.Box

open Idealize.ShloMosaic Cert.Basis

/-- One number is spread over the coordinates. -/
theorem facts : Cert.Pre_unit_box.Facts := ⟨by decide⟩

/-- An extended real between nought and one is a real number between nought and one. -/
theorem real_of_unit {a : EReal} (h0 : 0 ≤ a) (h1 : a ≤ 1) : a = ((a.toReal : ℝ) : EReal) ∧ 0 ≤ a.toReal ∧ a.toReal ≤ 1 := by
  have hb : a ≠ ⊥ := fun h => by rw [h] at h0; exact absurd h0 (by simp)
  have ht : a ≠ ⊤ := fun h => by rw [h] at h1; exact absurd h1 (by simp [← EReal.coe_one])
  have he := EReal.coe_toReal ht hb
  refine ⟨he.symm, ?_, ?_⟩
  · rw [← he] at h0; exact_mod_cast h0
  · rw [← he] at h1; exact_mod_cast h1

/-- Both comparisons hold. -/
theorem both {p q : Prop} [Decidable p] [Decidable q]
    (h : IntOp.andi (BitVec.ofBool (decide p)) (BitVec.ofBool (decide q)) = 1#1) : p ∧ q := by
  by_cases hp : p <;> by_cases hq : q <;> simp [hp, hq, IntOp.andi] at h ⊢

/-- The coordinates of an array that passes the precondition. -/
theorem inBox [Cert.Pre_unit_box.Facts] (a0 : FVec Ideal ⟨2, ![10000, 1]⟩ .f32) (a1 : IVec ⟨2, ![2, 160000]⟩ 32) (a : FVec Ideal ⟨2, ![160000, 3]⟩ .f32)
    (a3 a4 a5 a6 a7 a8 a9 a10 a11 a12 a13 a14 a15 a16 a17)
    (h : Cert.Pre_unit_box.fn (F := Ideal) a0 a1 a a3 a4 a5 a6 a7 a8 a9 a10 a11 a12 a13 a14 a15 a16 a17 = fun _ => 1#1) :
    InBox a (fun e d => (a (ix2 e d)).toReal) := by
  have hu : ∀ e d, (0 : EReal) ≤ a (ix2 e d) ∧ a (ix2 e d) ≤ 1 := fun e d => by
    have he := congrFun h (ix2 e d)
    unfold Cert.Pre_unit_box.fn at he
    pointwise at he
    exact both he
  exact ⟨fun e d => (real_of_unit (hu e d).1 (hu e d).2).1, fun e d => (real_of_unit (hu e d).1 (hu e d).2).2.1,
    fun e d => (real_of_unit (hu e d).1 (hu e d).2).2.2⟩

end Cert.Box

end
-- ==== Proof.AgainstSplines.lean ====
/- The kernel's result is the sum over all the control points, on coordinates of the unit interval: the kernel's is the
   reference's, and the reference's is that sum. -/
module

public import proofs.«01_k».proof.Defs
public import proofs.«01_k».proof.Proof.AgainstReference
public import proofs.«01_k».proof.Proof.Layers
public import proofs.«01_k».proof.Proof.Box

@[expose] public section

noncomputable section

namespace Cert.AgainstSplines

open Idealize.ShloMosaic Idealize.ShloMosaic.TcCoe Idealize.ShloMosaic.StableHlo Cert.Layers Cert.Basis

/-- Every kind of element has a value. -/
theorem elt_nonempty : (e : EltTy) → Nonempty (Elt Ideal e)
  | .i1 | .i4 | .i8 | .i16 | .i32 | .i64 => ⟨0⟩
  | .fp8e4m3 | .fp8e5m2 | .bf16 | .f16 | .f32 => ⟨(0 : EReal)⟩

/-- Any contents may be given to finitely many different buffers at once. -/
theorem exists_valuation {τ : Topo} {sig : RefSig} (L : List ((b : DevRef τ sig) × b.ty.Contents (Elt Ideal)))
    (h : (L.map Sigma.fst).Nodup) : ∃ W : Valuation τ sig (Elt Ideal), ∀ p ∈ L, W p.1 = p.2 := by
  induction L with
  | nil => exact ⟨fun b _ => (elt_nonempty _).some, by simp⟩
  | cons p L ih =>
    obtain ⟨hp, hL⟩ := List.nodup_cons.mp h
    obtain ⟨W, hW⟩ := ih hL
    refine ⟨Function.update W p.1 p.2, fun q hq => ?_⟩
    rcases List.mem_cons.mp hq with rfl | hq
    · exact Function.update_self ..
    · rw [Function.update_of_ne (fun e : q.1 = p.1 => hp (by rw [← e]; exact List.mem_map_of_mem hq))]
      exact hW q hq

/-- The kernel's argument arrays, laid out as the reference's. -/
abbrev arguments (m : (ℓ : Loc Cert.KernelIdeal.nD Cert.KernelIdeal.τ Cert.KernelIdeal.sig) → Buf (Elt Ideal) ℓ)
    (c : Dev Cert.KernelIdeal.nD) :
    List ((b : DevRef Cert.ReferenceIdeal.τ Cert.ReferenceIdeal.sig) × b.ty.Contents (Elt Ideal)) :=
  [⟨Proc.devRef .tc Cert.ReferenceIdeal.main_arg0, m ((c.tc : Thread Cert.KernelIdeal.nD Cert.KernelIdeal.τ).loc Cert.KernelIdeal.main_arg0)⟩,
   ⟨Proc.devRef .tc Cert.ReferenceIdeal.main_arg1, m ((c.tc : Thread Cert.KernelIdeal.nD Cert.KernelIdeal.τ).loc Cert.KernelIdeal.main_arg1)⟩,
   ⟨Proc.devRef .tc Cert.ReferenceIdeal.main_arg2, m ((c.tc : Thread Cert.KernelIdeal.nD Cert.KernelIdeal.τ).loc Cert.KernelIdeal.main_arg2)⟩,
   ⟨Proc.devRef .tc Cert.ReferenceIdeal.main_arg3, m ((c.tc : Thread Cert.KernelIdeal.nD Cert.KernelIdeal.τ).loc Cert.KernelIdeal.main_arg3)⟩,
   ⟨Proc.devRef .tc Cert.ReferenceIdeal.main_arg4, m ((c.tc : Thread Cert.KernelIdeal.nD Cert.KernelIdeal.τ).loc Cert.KernelIdeal.main_arg4)⟩,
   ⟨Proc.devRef .tc Cert.ReferenceIdeal.main_arg5, m ((c.tc : Thread Cert.KernelIdeal.nD Cert.KernelIdeal.τ).loc Cert.KernelIdeal.main_arg5)⟩,
   ⟨Proc.devRef .tc Cert.ReferenceIdeal.main_arg6, m ((c.tc : Thread Cert.KernelIdeal.nD Cert.KernelIdeal.τ).loc Cert.KernelIdeal.main_arg6)⟩,
   ⟨Proc.devRef .tc Cert.ReferenceIdeal.main_arg7, m ((c.tc : Thread Cert.KernelIdeal.nD Cert.KernelIdeal.τ).loc Cert.KernelIdeal.main_arg7)⟩,
   ⟨Proc.devRef .tc Cert.ReferenceIdeal.main_arg8, m ((c.tc : Thread Cert.KernelIdeal.nD Cert.KernelIdeal.τ).loc Cert.KernelIdeal.main_arg8)⟩,
   ⟨Proc.devRef .tc Cert.ReferenceIdeal.main_arg9, m ((c.tc : Thread Cert.KernelIdeal.nD Cert.KernelIdeal.τ).loc Cert.KernelIdeal.main_arg9)⟩,
   ⟨Proc.devRef .tc Cert.ReferenceIdeal.main_arg10, m ((c.tc : Thread Cert.KernelIdeal.nD Cert.KernelIdeal.τ).loc Cert.KernelIdeal.main_arg10)⟩,
   ⟨Proc.devRef .tc Cert.ReferenceIdeal.main_arg11, m ((c.tc : Thread Cert.KernelIdeal.nD Cert.KernelIdeal.τ).loc Cert.KernelIdeal.main_arg11)⟩,
   ⟨Proc.devRef .tc Cert.ReferenceIdeal.main_arg12, m ((c.tc : Thread Cert.KernelIdeal.nD Cert.KernelIdeal.τ).loc Cert.KernelIdeal.main_arg12)⟩,
   ⟨Proc.devRef .tc Cert.ReferenceIdeal.main_arg13, m ((c.tc : Thread Cert.KernelIdeal.nD Cert.KernelIdeal.τ).loc Cert.KernelIdeal.main_arg13)⟩,
   ⟨Proc.devRef .tc Cert.ReferenceIdeal.main_arg14, m ((c.tc : Thread Cert.KernelIdeal.nD Cert.KernelIdeal.τ).loc Cert.KernelIdeal.main_arg14)⟩,
   ⟨Proc.devRef .tc Cert.ReferenceIdeal.main_arg15, m ((c.tc : Thread Cert.KernelIdeal.nD Cert.KernelIdeal.τ).loc Cert.KernelIdeal.main_arg15)⟩,
   ⟨Proc.devRef .tc Cert.ReferenceIdeal.main_arg16, m ((c.tc : Thread Cert.KernelIdeal.nD Cert.KernelIdeal.τ).loc Cert.KernelIdeal.main_arg16)⟩,
   ⟨Proc.devRef .tc Cert.ReferenceIdeal.main_arg17, m ((c.tc : Thread Cert.KernelIdeal.nD Cert.KernelIdeal.τ).loc Cert.KernelIdeal.main_arg17)⟩]

/-- There is a memory of the reference with the kernel's arguments. -/
theorem exists_reference (m : (ℓ : Loc Cert.KernelIdeal.nD Cert.KernelIdeal.τ Cert.KernelIdeal.sig) → Buf (Elt Ideal) ℓ)
    (c : Dev Cert.KernelIdeal.nD) :
    ∃ m' : (ℓ : Loc Cert.ReferenceIdeal.nD Cert.ReferenceIdeal.τ Cert.ReferenceIdeal.sig) → Buf (Elt Ideal) ℓ,
      Cert.AgainstReference.SameArgs m m' c := by
  obtain ⟨W, hW⟩ := exists_valuation (arguments m c) (by simp only [arguments, List.map_cons, List.map_nil]; decide)
  refine ⟨fun ℓ => W ℓ.2, ?_⟩
  simp only [arguments, List.forall_mem_cons] at hW
  obtain ⟨h0, h1, h2, h3, h4, h5, h6, h7, h8, h9, h10, h11, h12, h13, h14, h15, h16, h17, -⟩ := hW
  exact ⟨h0, h1, h2, h3, h4, h5, h6, h7, h8, h9, h10, h11, h12, h13, h14, h15, h16, h17⟩

/-- The last activation keeps equal values. -/
theorem reference_splines {V : RefVal} {V' : SplVal} {x : Fin 160000 → Fin 3 → ℝ} (h : Same V V' x) :
    (after (Cert.ReferenceIdeal.Value.ops (F := Ideal)) V (Proc.devRef .tc Cert.ReferenceIdeal.main_v489)
        : FVec Ideal ⟨1, ![10000]⟩ .f32)
      = after (Cert.SplinesIdeal.Value.ops (F := Ideal)) V' (Proc.devRef .tc Cert.SplinesIdeal.main_v147) := by
  have hl := fifth h
  have hr := (congrFun (Cert.ReferenceIdeal.Value.after_ops V) (Proc.devRef .tc Cert.ReferenceIdeal.main_v489)).trans
    (Cert.ReferenceIdeal.Value.val11_main_v489 V)
  have hs := (congrFun (Cert.SplinesIdeal.Value.after_ops V') (Proc.devRef .tc Cert.SplinesIdeal.main_v147)).trans
    (Cert.SplinesIdeal.Value.val3_main_v147 V')
  refine hr.trans (Eq.trans ?_ hs.symm)
  rw [hl]

/-- The arguments of the two memories are the same arrays on the core. -/
abbrev SameArgs (m : (ℓ : Loc Cert.KernelIdeal.nD Cert.KernelIdeal.τ Cert.KernelIdeal.sig) → Buf (Elt Ideal) ℓ)
    (m' : (ℓ : Loc Cert.SplinesIdeal.nD Cert.SplinesIdeal.τ Cert.SplinesIdeal.sig) → Buf (Elt Ideal) ℓ)
    (c : Dev Cert.KernelIdeal.nD) : Prop :=
    m' ((c.tc : Thread Cert.SplinesIdeal.nD Cert.SplinesIdeal.τ).loc Cert.SplinesIdeal.main_arg0)
        = m ((c.tc : Thread Cert.KernelIdeal.nD Cert.KernelIdeal.τ).loc Cert.KernelIdeal.main_arg0)
      ∧ m' ((c.tc : Thread Cert.SplinesIdeal.nD Cert.SplinesIdeal.τ).loc Cert.SplinesIdeal.main_arg1)
        = m ((c.tc : Thread Cert.KernelIdeal.nD Cert.KernelIdeal.τ).loc Cert.KernelIdeal.main_arg1)
      ∧ m' ((c.tc : Thread Cert.SplinesIdeal.nD Cert.SplinesIdeal.τ).loc Cert.SplinesIdeal.main_arg2)
        = m ((c.tc : Thread Cert.KernelIdeal.nD Cert.KernelIdeal.τ).loc Cert.KernelIdeal.main_arg2)
      ∧ m' ((c.tc : Thread Cert.SplinesIdeal.nD Cert.SplinesIdeal.τ).loc Cert.SplinesIdeal.main_arg3)
        = m ((c.tc : Thread Cert.KernelIdeal.nD Cert.KernelIdeal.τ).loc Cert.KernelIdeal.main_arg3)
      ∧ m' ((c.tc : Thread Cert.SplinesIdeal.nD Cert.SplinesIdeal.τ).loc Cert.SplinesIdeal.main_arg4)
        = m ((c.tc : Thread Cert.KernelIdeal.nD Cert.KernelIdeal.τ).loc Cert.KernelIdeal.main_arg4)
      ∧ m' ((c.tc : Thread Cert.SplinesIdeal.nD Cert.SplinesIdeal.τ).loc Cert.SplinesIdeal.main_arg5)
        = m ((c.tc : Thread Cert.KernelIdeal.nD Cert.KernelIdeal.τ).loc Cert.KernelIdeal.main_arg5)
      ∧ m' ((c.tc : Thread Cert.SplinesIdeal.nD Cert.SplinesIdeal.τ).loc Cert.SplinesIdeal.main_arg6)
        = m ((c.tc : Thread Cert.KernelIdeal.nD Cert.KernelIdeal.τ).loc Cert.KernelIdeal.main_arg6)
      ∧ m' ((c.tc : Thread Cert.SplinesIdeal.nD Cert.SplinesIdeal.τ).loc Cert.SplinesIdeal.main_arg7)
        = m ((c.tc : Thread Cert.KernelIdeal.nD Cert.KernelIdeal.τ).loc Cert.KernelIdeal.main_arg7)
      ∧ m' ((c.tc : Thread Cert.SplinesIdeal.nD Cert.SplinesIdeal.τ).loc Cert.SplinesIdeal.main_arg8)
        = m ((c.tc : Thread Cert.KernelIdeal.nD Cert.KernelIdeal.τ).loc Cert.KernelIdeal.main_arg8)
      ∧ m' ((c.tc : Thread Cert.SplinesIdeal.nD Cert.SplinesIdeal.τ).loc Cert.SplinesIdeal.main_arg9)
        = m ((c.tc : Thread Cert.KernelIdeal.nD Cert.KernelIdeal.τ).loc Cert.KernelIdeal.main_arg9)
      ∧ m' ((c.tc : Thread Cert.SplinesIdeal.nD Cert.SplinesIdeal.τ).loc Cert.SplinesIdeal.main_arg10)
        = m ((c.tc : Thread Cert.KernelIdeal.nD Cert.KernelIdeal.τ).loc Cert.KernelIdeal.main_arg10)
      ∧ m' ((c.tc : Thread Cert.SplinesIdeal.nD Cert.SplinesIdeal.τ).loc Cert.SplinesIdeal.main_arg11)
        = m ((c.tc : Thread Cert.KernelIdeal.nD Cert.KernelIdeal.τ).loc Cert.KernelIdeal.main_arg11)
      ∧ m' ((c.tc : Thread Cert.SplinesIdeal.nD Cert.SplinesIdeal.τ).loc Cert.SplinesIdeal.main_arg12)
        = m ((c.tc : Thread Cert.KernelIdeal.nD Cert.KernelIdeal.τ).loc Cert.KernelIdeal.main_arg12)
      ∧ m' ((c.tc : Thread Cert.SplinesIdeal.nD Cert.SplinesIdeal.τ).loc Cert.SplinesIdeal.main_arg13)
        = m ((c.tc : Thread Cert.KernelIdeal.nD Cert.KernelIdeal.τ).loc Cert.KernelIdeal.main_arg13)
      ∧ m' ((c.tc : Thread Cert.SplinesIdeal.nD Cert.SplinesIdeal.τ).loc Cert.SplinesIdeal.main_arg14)
        = m ((c.tc : Thread Cert.KernelIdeal.nD Cert.KernelIdeal.τ).loc Cert.KernelIdeal.main_arg14)
      ∧ m' ((c.tc : Thread Cert.SplinesIdeal.nD Cert.SplinesIdeal.τ).loc Cert.SplinesIdeal.main_arg15)
        = m ((c.tc : Thread Cert.KernelIdeal.nD Cert.KernelIdeal.τ).loc Cert.KernelIdeal.main_arg15)
      ∧ m' ((c.tc : Thread Cert.SplinesIdeal.nD Cert.SplinesIdeal.τ).loc Cert.SplinesIdeal.main_arg16)
        = m ((c.tc : Thread Cert.KernelIdeal.nD Cert.KernelIdeal.τ).loc Cert.KernelIdeal.main_arg16)
      ∧ m' ((c.tc : Thread Cert.SplinesIdeal.nD Cert.SplinesIdeal.τ).loc Cert.SplinesIdeal.main_arg17)
        = m ((c.tc : Thread Cert.KernelIdeal.nD Cert.KernelIdeal.τ).loc Cert.KernelIdeal.main_arg17)

/-- The array the kernel's host operations leave for the region is the sum over all the control points, where every
    coordinate is of the unit interval. -/
theorem entry_eq [Cert.Pre_unit_box.Facts] {m m'} {c : Dev Cert.KernelIdeal.nD} (hu : Cert.Pre_KernelIdeal_unit_box m)
    (h : SameArgs m m' c) :
    Cert.KernelIdeal.Gen.V m c Cert.KernelIdeal.main_v489
      = after (Cert.SplinesIdeal.Value.ops (F := Ideal)) (launchContents m' c) (Proc.devRef .tc Cert.SplinesIdeal.main_v147) := by
  obtain ⟨w, hw⟩ := exists_reference m c
  refine (Cert.AgainstReference.entry_eq hw).trans ?_
  obtain ⟨h0, h1, h2, h3, h4, h5, h6, h7, h8, h9, h10, h11, h12, h13, h14, h15, h16, h17⟩ := h
  obtain ⟨w0, w1, w2, w3, w4, w5, w6, w7, w8, w9, w10, w11, w12, w13, w14, w15, w16, w17⟩ := hw
  have hb := Cert.Box.inBox _ _ _ _ _ _ _ _ _ _ _ _ _ _ _ _ _ _ (hu c)
  exact reference_splines (V := launchContents w c) (V' := launchContents m' c) ⟨by exact w2 ▸ hb, w0.trans h0.symm, w1.trans h1.symm, w2.trans h2.symm, w3.trans h3.symm, w4.trans h4.symm, w5.trans h5.symm, w6.trans h6.symm, w7.trans h7.symm, w8.trans h8.symm, w9.trans h9.symm, w10.trans h10.symm, w11.trans h11.symm, w12.trans h12.symm, w13.trans h13.symm, w14.trans h14.symm, w15.trans h15.symm, w16.trans h16.symm, w17.trans h17.symm⟩

end Cert.AgainstSplines

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.FrameKernel
public import proofs.«01_k».proof.Proof.FrameKernelIdeal
public import proofs.«01_k».proof.Proof.Gen.SplinesIdeal
public import proofs.«01_k».proof.Proof.Gen.SplinesIdeal.Run
public import proofs.«01_k».proof.Proof.AgainstReference
public import proofs.«01_k».proof.Proof.AgainstSplines

@[expose] public section

noncomputable section

namespace Cert.Proof

open Idealize.ShloMosaic Idealize.ShloMosaic.TcCoe Idealize.SL.Sem

/-- The kernel as printed runs, leaves its arguments alone and every counter at zero. -/
theorem kernel_frame : Cert.quiescent_Kernel := fun m ρ _ => by
  refine (θ_run _ _ _).mono (fun r h => ⟨fun c => ?_, h.2⟩) (Cert.Kernel.Gen.frame m ρ)
  repeat' apply And.intro
  all_goals exact h.1 c _ (by decide) (by decide) (by decide)

/-- So does the kernel over the extended reals. -/
theorem ideal_frame : Cert.quiescent_KernelIdeal := fun m ρ _ => by
  refine (θ_run _ _ _).mono (fun r h => ⟨fun c => ?_, h.2⟩) (Cert.KernelIdeal.Gen.frame m ρ)
  repeat' apply And.intro
  all_goals exact h.1 c _ (by decide) (by decide) (by decide)

/-- The reference runs and leaves its arguments alone; it has no counters. -/
theorem reference_frame : Cert.quiescent_ReferenceIdeal := fun m ρ _ =>
  (θ_run _ _ _).mono (fun r h => ⟨fun c => (h c).2, sem_eq_zero_of_no_sems (by decide) r.2⟩)
    (Cert.ReferenceIdeal.Value.run m ρ)

/-- So does the sum over all the control points. -/
theorem splines_frame : Cert.quiescent_SplinesIdeal := fun m ρ _ =>
  (θ_run _ _ _).mono (fun r h => ⟨fun c => (h c).2, sem_eq_zero_of_no_sems (by decide) r.2⟩)
    (Cert.SplinesIdeal.Value.run m ρ)

/-- The kernel and the reference, from the same arguments, end with the same result. -/
theorem against_reference : Cert.algebraic_KernelIdeal_ReferenceIdeal := fun m ρ m' ρ' _ hargs => by
  refine ⟨fun c => Cert.KernelIdeal.Gen.V m c Cert.KernelIdeal.main_v489, ?_, ?_⟩
  · refine (θ_run _ _ _).mono (fun r h c => ⟨h.1 c, ?_⟩)
      (θ_run_and (Cert.KernelIdeal.Gen.run_result m ρ) (Cert.KernelIdeal.Gen.frame m ρ))
    repeat' apply And.intro
    all_goals exact h.2.1 c _ (by decide) (by decide) (by decide)
  · exact (θ_run _ _ _).mono (fun r h c => ⟨(h.1 c).trans (Cert.AgainstReference.entry_eq (hargs c)).symm, (h.2 c).2⟩)
      (θ_run_and (Cert.AgainstReference.reference_result m' ρ') (Cert.ReferenceIdeal.Value.run m' ρ'))

/-- The kernel and the sum over all the control points, from the same arguments with every coordinate in the unit
    interval, end with the same result. -/
theorem against_splines [Cert.Pre_unit_box.Facts] : Cert.algebraic_KernelIdeal_SplinesIdeal_pre_unit_box :=
  fun m ρ m' ρ' hu hargs => by
  refine ⟨fun c => Cert.KernelIdeal.Gen.V m c Cert.KernelIdeal.main_v489, ?_, ?_⟩
  · refine (θ_run _ _ _).mono (fun r h c => ⟨h.1 c, ?_⟩) (θ_run_and (Cert.KernelIdeal.Gen.run_result m ρ) (Cert.KernelIdeal.Gen.frame m ρ))
    repeat' apply And.intro
    all_goals exact h.2.1 c _ (by decide) (by decide) (by decide)
  · refine (θ_run _ _ _).mono (fun r h c => ⟨?_, (h c).2⟩) (Cert.SplinesIdeal.Value.run m' ρ')
    exact (h c).1.trans (((congrFun (Cert.SplinesIdeal.Value.after_ops _) _).trans
      (Cert.SplinesIdeal.Value.val3_main_v147 _)).symm.trans (Cert.AgainstSplines.entry_eq hu (hargs c)).symm)

/-- All the claims together. -/
theorem claim : Cert.Claim :=
  ⟨Cert.Kernel.Gen.facts, Cert.KernelIdeal.Gen.facts, Cert.ReferenceIdeal.Gen.facts, Cert.SplinesIdeal.Gen.facts,
    Cert.Box.facts, kernel_frame, ideal_frame, fun m ρ _ => ideal_frame m ρ trivial, reference_frame, splines_frame,
    fun m ρ _ => splines_frame m ρ trivial, trivial, against_reference,
    haveI := Cert.Box.facts
    against_splines⟩

end Cert.Proof

end
